-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_ranged : Cert.Pre_ranged.Facts] (m : (ℓ : Loc Cert.Kernel4.nD Cert.Kernel4.τ Cert.Kernel4.sig) → Buf (Elt Bits) ℓ) : Prop :=
  ∀ c : Dev Cert.Kernel4.nD,
    (Cert.Pre_ranged.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5))) = (fun _ => 1#1)

def Pre_Kernel4Ideal [hPre_ranged : Cert.Pre_ranged.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_ranged.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_ranged [hPre_ranged : Cert.Pre_ranged.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_ranged.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Kernel4 [hKernel4 : Cert.Kernel4.Facts] [hPre_ranged : Cert.Pre_ranged.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] [hPre_ranged : Cert.Pre_ranged.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_ranged [hReference4Ideal : Cert.Reference4Ideal.Facts] [hPre_ranged : Cert.Pre_ranged.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_ranged m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v253) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v22_0)) (v1 : (c : Dev Cert.Kernel3Ideal.nD) → Buf (Elt Ideal) ((c.tc : Thread Cert.Kernel3Ideal.nD Cert.Kernel3Ideal.τ).loc Cert.Kernel3Ideal.main_v22_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v22_0) = v0 c
          ∧ r.2.mem ((c.tc : Thread Cert.Kernel3Ideal.nD Cert.Kernel3Ideal.τ).loc Cert.Kernel3Ideal.main_v22_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_v48) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def preserves_Kernel4_Kernel4Ideal : Prop :=
  True

def algebraic_Kernel4Ideal_Reference4Ideal [hKernel4Ideal : Cert.Kernel4Ideal.Facts] [hReference4Ideal : Cert.Reference4Ideal.Facts] [hPre_ranged : Cert.Pre_ranged.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v71) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_ranged : Cert.Pre_ranged.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_ranged := hPre_ranged)
    ∧ quiescent_Kernel4Ideal (hKernel4Ideal := hKernel4Ideal) (hPre_ranged := hPre_ranged)
    ∧ quiescent_Reference4Ideal (hReference4Ideal := hReference4Ideal)
    ∧ quiescent_Reference4Ideal_pre_ranged (hReference4Ideal := hReference4Ideal) (hPre_ranged := hPre_ranged)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_ranged := hPre_ranged)
-- ==== Pre_finite.lean ====
abbrev S8x4096x6656 : Shape := ⟨3, ![8, 4096, 6656]⟩
abbrev S8x256x1536 : Shape := ⟨3, ![8, 256, 1536]⟩
abbrev S2x4 : Shape := ⟨2, ![2, 4]⟩
abbrev S_ : Shape := ⟨0, ![]⟩

class Facts : Prop where
  bitsLt_bf16_f32 : FTy.bits .bf16 < FTy.bits .f32
  bcast_S_S8x4096x6656 : S_.BroadcastsInDim S8x4096x6656 (![] : Fin 0 → Fin S8x4096x6656.rank)
  reducesTo_S8x4096x6656_S_d0_1_2 : S8x4096x6656.ReducesTo [0, 1, 2] S_
  h_S_ : 0 < S_.numel
  bcast_S_S8x256x1536 : S_.BroadcastsInDim S8x256x1536 (![] : Fin 0 → Fin S8x256x1536.rank)
  reducesTo_S8x256x1536_S_d0_1_2 : S8x256x1536.ReducesTo [0, 1, 2] S_
  bcast_S_S2x4 : S_.BroadcastsInDim S2x4 (![] : Fin 0 → Fin S2x4.rank)
  reducesTo_S2x4_S_d0_1 : S2x4.ReducesTo [0, 1] S_

variable [Facts]

def fn {F : FTy → Type} [FloatOps F] (main_arg0 : FVec F S8x4096x6656 .bf16) (main_arg1 : FVec F S8x256x1536 .bf16) (main_arg2 : FVec F S2x4 .f32) : IVec S_ 1 :=
  let main_v0 : FVec F S8x4096x6656 .f32 := (extf .f32 · bitsLt_bf16_f32) main_arg0
  let main_v1 : FVec F S8x4096x6656 .f32 := Host.absf main_v0
  let main_cst : FVec F S_ .f32 := constant S_ .f32 0x7F800000#32
  let main_v2 : FVec F S8x4096x6656 .f32 := broadcastInDim S8x4096x6656 ![] bcast_S_S8x4096x6656 main_cst
  let main_v3 : IVec S8x4096x6656 1 := cmpf .olt main_v1 main_v2
  let main_c : IVec S_ 1 := constantI S_ 1 1#1
  let main_v4 : IVec S_ 1 := (fun x v => Host.reduce IntOp.andi x v reducesTo_S8x4096x6656_S_d0_1_2 h_S_) main_v3 main_c
  let main_v5 : FVec F S8x256x1536 .f32 := (extf .f32 · bitsLt_bf16_f32) main_arg1
  let main_v6 : FVec F S8x256x1536 .f32 := Host.absf main_v5
  let main_cst_0 : FVec F S_ .f32 := constant S_ .f32 0x7F800000#32
  let main_v7 : FVec F S8x256x1536 .f32 := broadcastInDim S8x256x1536 ![] bcast_S_S8x256x1536 main_cst_0
  let main_v8 : IVec S8x256x1536 1 := cmpf .olt main_v6 main_v7
  let main_c_1 : IVec S_ 1 := constantI S_ 1 1#1
  let main_v9 : IVec S_ 1 := (fun x v => Host.reduce IntOp.andi x v reducesTo_S8x256x1536_S_d0_1_2 h_S_) main_v8 main_c_1
  let main_v10 : IVec S_ 1 := andi main_v4 main_v9
  let main_v11 : FVec F S2x4 .f32 := Host.absf main_arg2
  let main_cst_2 : FVec F S_ .f32 := constant S_ .f32 0x7F800000#32
  let main_v12 : FVec F S2x4 .f32 := broadcastInDim S2x4 ![] bcast_S_S2x4 main_cst_2
  let main_v13 : IVec S2x4 1 := cmpf .olt main_v11 main_v12
  let main_c_3 : IVec S_ 1 := constantI S_ 1 1#1
  let main_v14 : IVec S_ 1 := (fun x v => Host.reduce IntOp.andi x v reducesTo_S2x4_S_d0_1 h_S_) main_v13 main_c_3
  let main_v15 : IVec S_ 1 := andi main_v10 main_v14
  main_v15
-- ==== Pre_ranged.lean ====
abbrev S160 : Shape := ⟨1, ![160]⟩
abbrev S1 : Shape := ⟨1, ![1]⟩
abbrev S81920x512 : Shape := ⟨2, ![81920, 512]⟩
abbrev S32x1024x512 : Shape := ⟨3, ![32, 1024, 512]⟩
abbrev S32x512x1024 : Shape := ⟨3, ![32, 512, 1024]⟩
abbrev S_ : Shape := ⟨0, ![]⟩

class Facts : Prop where
  bcast_S_S160 : S_.BroadcastsInDim S160 (![] : Fin 0 → Fin S160.rank)
  reducesTo_S160_S_d0 : S160.ReducesTo [0] S_
  h_S_ : 0 < S_.numel
  shapeCasts_S1_S_ : S1.ShapeCasts S_

variable [Facts]

def fn {F : FTy → Type} [FloatOps F] (main_arg0 : IVec S160 32) (main_arg1 : IVec S1 32) (main_arg2 : IVec S81920x512 32) (main_arg3 : FVec F S32x1024x512 .f32) (main_arg4 : FVec F S32x1024x512 .f32) (main_arg5 : FVec F S32x512x1024 .f32) : IVec S_ 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 1 := constantI S_ 1 1#1
  let main_v2 : IVec S_ 1 := (fun x v => Host.reduce IntOp.andi x v reducesTo_S160_S_d0 h_S_) main_v1 main_c_0
  let main_c_1 : IVec S_ 32 := constantI S_ 32 32#32
  let main_v3 : IVec S160 32 := broadcastInDim S160 ![] bcast_S_S160 main_c_1
  let main_v4 : IVec S160 1 := cmpi .slt main_arg0 main_v3
  let main_c_2 : IVec S_ 1 := constantI S_ 1 1#1
  let main_v5 : IVec S_ 1 := (fun x v => Host.reduce IntOp.andi x v reducesTo_S160_S_d0 h_S_) main_v4 main_c_2
  let main_v6 : IVec S_ 1 := andi main_v2 main_v5
  let main_v7 : IVec S_ 32 := shapeCast S_ main_arg1 shapeCasts_S1_S_
  let main_c_3 : IVec S_ 32 := constantI S_ 32 1#32
  let main_v8 : IVec S_ 1 := cmpi .sge main_v7 main_c_3
  let main_v9 : IVec S_ 1 := andi main_v6 main_v8
  let main_v10 : IVec S_ 32 := shapeCast S_ main_arg1 shapeCasts_S1_S_
  let main_c_4 : IVec S_ 32 := constantI S_ 32 160#32
  let main_v11 : IVec S_ 1 := cmpi .sle main_v10 main_c_4
  let main_v12 : IVec S_ 1 := andi main_v9 main_v11
  main_v12
-- ==== Kernel.lean ====
abbrev S8x4096x6656 : Shape := ⟨3, ![8, 4096, 6656]⟩
abbrev S8x256x1536 : Shape := ⟨3, ![8, 256, 1536]⟩
abbrev S2x4 : Shape := ⟨2, ![2, 4]⟩
abbrev S64 : Shape := ⟨1, ![64]⟩
abbrev S64x64 : Shape := ⟨2, ![64, 64]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S8x1 : Shape := ⟨2, ![8, 1]⟩
abbrev S8x256 : Shape := ⟨2, ![8, 256]⟩
abbrev S8x4096x1024 : Shape := ⟨3, ![8, 4096, 1024]⟩
abbrev S1x4096x128 : Shape := ⟨3, ![1, 4096, 128]⟩
abbrev S1x4096x256 : Shape := ⟨3, ![1, 4096, 256]⟩
abbrev S1x256x128 : Shape := ⟨3, ![1, 256, 128]⟩
abbrev S1x256x256 : Shape := ⟨3, ![1, 256, 256]⟩
abbrev S4096x256 : Shape := ⟨2, ![4096, 256]⟩
abbrev S128x256 : Shape := ⟨2, ![128, 256]⟩
abbrev S1x256 : Shape := ⟨2, ![1, 256]⟩
abbrev S1x128 : Shape := ⟨2, ![1, 128]⟩
abbrev S256x256 : Shape := ⟨2, ![256, 256]⟩
abbrev S256x128 : Shape := ⟨2, ![256, 128]⟩
abbrev S256 : Shape := ⟨1, ![256]⟩
abbrev S256x1 : Shape := ⟨2, ![256, 1]⟩

abbrev nBuf : Space → Nat
  | .hbm => 42
  | .vmem => 22
  | .smem => 0
  | _ => 0

abbrev bufTy : (tb : Table) → Fin (tcTables nBuf tb) → BufTy
  | .hbm, ⟨0, _⟩ => ⟨S8x4096x6656, .bf16⟩
  | .hbm, ⟨1, _⟩ => ⟨S8x256x1536, .bf16⟩
  | .hbm, ⟨2, _⟩ => ⟨S2x4, .f32⟩
  | .hbm, ⟨3, _⟩ => ⟨S64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S4096, .f32⟩
  | .hbm, ⟨16, _⟩ => ⟨S4096x1, .f32⟩
  | .hbm, ⟨17, _⟩ => ⟨S1x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S4096, .f32⟩
  | .hbm, ⟨22, _⟩ => ⟨S4096x1, .f32⟩
  | .hbm, ⟨23, _⟩ => ⟨S1x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S4096x32, .f32⟩
  | .hbm, ⟨31, _⟩ => ⟨S4096x128, .f32⟩
  | .hbm, ⟨32, _⟩ => ⟨S4096x32, .f32⟩
  | .hbm, ⟨33, _⟩ => ⟨S4096x32, .f32⟩
  | .hbm, ⟨34, _⟩ => ⟨S4096x32, .f32⟩
  | .hbm, ⟨35, _⟩ => ⟨S4096x32, .f32⟩
  | .hbm, ⟨36, _⟩ => ⟨S4096x32, .f32⟩
  | .hbm, ⟨37, _⟩ => ⟨S4096x32, .f32⟩
  | .hbm, ⟨38, _⟩ => ⟨S4096x128, .f32⟩
  | .hbm, ⟨39, _⟩ => ⟨S8x1, .f32⟩
  | .hbm, ⟨40, _⟩ => ⟨S8x256, .f32⟩
  | .hbm, ⟨41, _⟩ => ⟨S8x4096x1024, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x256x128, .bf16⟩
  | .local _ .vmem, ⟨9, _⟩ => ⟨S1x256x128, .bf16⟩
  | .local _ .vmem, ⟨10, _⟩ => ⟨S1x256x256, .bf16⟩
  | .local _ .vmem, ⟨11, _⟩ => ⟨S1x256x256, .bf16⟩
  | .local _ .vmem, ⟨12, _⟩ => ⟨S4096x128, .f32⟩
  | .local _ .vmem, ⟨13, _⟩ => ⟨S4096x128, .f32⟩
  | .local _ .vmem, ⟨14, _⟩ => ⟨S8x256, .f32⟩
  | .local _ .vmem, ⟨15, _⟩ => ⟨S1x4096x256, .bf16⟩
  | .local _ .vmem, ⟨16, _⟩ => ⟨S1x4096x256, .bf16⟩
  | .local _ .vmem, ⟨17, _⟩ => ⟨S4096x128, .bf16⟩
  | .local _ .vmem, ⟨18, _⟩ => ⟨S4096x128, .f32⟩
  | .local _ .vmem, ⟨19, _⟩ => ⟨S4096x256, .f32⟩
  | .local _ .vmem, ⟨20, _⟩ => ⟨S128x256, .f32⟩
  | .local _ .vmem, ⟨21, _⟩ => ⟨S128x256, .f32⟩
  | _, _ => ⟨S8x4096x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![8, 4], ![false, false]⟩

def k0_off1 (i : grid0.Coords) : Fin 2 → Nat :=
  let arg1 : BitVec 32 := BitVec.ofNat 32 (i 1).val
  let v0 : Index := Scalar.indexCast arg1
  let c0 : Index := 0#32
  ![v0.toNat, 0]
def k0_off2 (i : grid0.Coords) : Fin 2 → Nat :=
  let c4_i32 : BitVec 32 := 4#32
  let arg1 : BitVec 32 := BitVec.ofNat 32 (i 1).val
  let v13 : BitVec 32 := Scalar.addi c4_i32 arg1
  let v14 : Index := Scalar.indexCast v13
  let c0_2 : Index := 0#32
  ![v14.toNat, 0]
@[reducible] def k0_t1_loop : Scf.Loop 32 :=
  let c0_i32 : BitVec 32 := 0#32
  let c16_i32 : BitVec 32 := 16#32
  let v109 : BitVec 32 := Scalar.addi c0_i32 c16_i32
  let c1_i32 : BitVec 32 := 1#32
  ⟨c0_i32, v109, c1_i32⟩
def k0_mult1 (k0_t1 : Fin k0_t1_loop.trips) : BitVec 32 :=
  let c0_i32 : BitVec 32 := 0#32
  let c1_i32 : BitVec 32 := 1#32
  let arg17 : BitVec 32 := Scf.iv c0_i32 c1_i32 k0_t1
  let c256_i32 : BitVec 32 := 256#32
  let v111 : BitVec 32 := Scalar.muli arg17 c256_i32
  v111
def k0_off3 (k0_t1 : Fin k0_t1_loop.trips) : Fin 2 → Nat :=
  let c0_i32 : BitVec 32 := 0#32
  let c1_i32 : BitVec 32 := 1#32
  let arg17 : BitVec 32 := Scf.iv c0_i32 c1_i32 k0_t1
  let c256_i32 : BitVec 32 := 256#32
  let v111 : BitVec 32 := Scalar.muli arg17 c256_i32
  let v112 : BitVec 32 := v111
  let v113 : Index := Scalar.indexCast v112
  let c0_35 : Index := 0#32
  ![v113.toNat, 0]
def k0_off4 (k0_t1 : Fin k0_t1_loop.trips) : Fin 3 → Nat :=
  let c0_37 : Index := 0#32
  let c0_i32 : BitVec 32 := 0#32
  let c1_i32 : BitVec 32 := 1#32
  let arg17 : BitVec 32 := Scf.iv c0_i32 c1_i32 k0_t1
  let c256_i32 : BitVec 32 := 256#32
  let v111 : BitVec 32 := Scalar.muli arg17 c256_i32
  let v112 : BitVec 32 := v111
  let v119 : Index := Scalar.indexCast v112
  let c0_38 : Index := 0#32
  ![0, v119.toNat, 0]
def k0_off5 (k0_t1 : Fin k0_t1_loop.trips) : Fin 3 → Nat :=
  let c0_59 : Index := 0#32
  let c0_i32 : BitVec 32 := 0#32
  let c1_i32 : BitVec 32 := 1#32
  let arg17 : BitVec 32 := Scf.iv c0_i32 c1_i32 k0_t1
  let c256_i32 : BitVec 32 := 256#32
  let v111 : BitVec 32 := Scalar.muli arg17 c256_i32
  let v112 : BitVec 32 := v111
  let v189 : Index := Scalar.indexCast v112
  let c0_60 : Index := 0#32
  ![0, v189.toNat, 0]
def k0_off6 (k0_t1 : Fin k0_t1_loop.trips) : Fin 2 → Nat :=
  let c0_i32 : BitVec 32 := 0#32
  let c1_i32 : BitVec 32 := 1#32
  let arg17 : BitVec 32 := Scf.iv c0_i32 c1_i32 k0_t1
  let c256_i32 : BitVec 32 := 256#32
  let v111 : BitVec 32 := Scalar.muli arg17 c256_i32
  let v112 : BitVec 32 := v111
  let v201 : Index := Scalar.indexCast v112
  let c0_66 : Index := 0#32
  ![v201.toNat, 0]
@[reducible] def k0_t2_loop : Scf.Loop 32 :=
  let c0_i32_31 : BitVec 32 := 0#32
  let c16_i32_32 : BitVec 32 := 16#32
  let v110 : BitVec 32 := Scalar.addi c0_i32_31 c16_i32_32
  let c1_i32_33 : BitVec 32 := 1#32
  ⟨c0_i32_31, v110, c1_i32_33⟩
def k0_mult2 (k0_t2 : Fin k0_t2_loop.trips) : BitVec 32 :=
  let c15_i32 : BitVec 32 := 15#32
  let c0_i32_31 : BitVec 32 := 0#32
  let c1_i32_33 : BitVec 32 := 1#32
  let arg17 : BitVec 32 := Scf.iv c0_i32_31 c1_i32_33 k0_t2
  let v111 : BitVec 32 := Scalar.subi c15_i32 arg17
  let c256_i32 : BitVec 32 := 256#32
  let v112 : BitVec 32 := Scalar.muli v111 c256_i32
  v112
def k0_off7 (k0_t2 : Fin k0_t2_loop.trips) : Fin 3 → Nat :=
  let c0_35 : Index := 0#32
  let c15_i32 : BitVec 32 := 15#32
  let c0_i32_31 : BitVec 32 := 0#32
  let c1_i32_33 : BitVec 32 := 1#32
  let arg17 : BitVec 32 := Scf.iv c0_i32_31 c1_i32_33 k0_t2
  let v111 : BitVec 32 := Scalar.subi c15_i32 arg17
  let c256_i32 : BitVec 32 := 256#32
  let v112 : BitVec 32 := Scalar.muli v111 c256_i32
  let v113 : BitVec 32 := v112
  let v114 : Index := Scalar.indexCast v113
  let c0_36 : Index := 0#32
  ![0, v114.toNat, 0]
def k0_off8 (k0_t2 : Fin k0_t2_loop.trips) : Fin 2 → Nat :=
  let c15_i32 : BitVec 32 := 15#32
  let c0_i32_31 : BitVec 32 := 0#32
  let c1_i32_33 : BitVec 32 := 1#32
  let arg17 : BitVec 32 := Scf.iv c0_i32_31 c1_i32_33 k0_t2
  let v111 : BitVec 32 := Scalar.subi c15_i32 arg17
  let c256_i32 : BitVec 32 := 256#32
  let v112 : BitVec 32 := Scalar.muli v111 c256_i32
  let v113 : BitVec 32 := v112
  let v117 : Index := Scalar.indexCast v113
  let c0_37 : Index := 0#32
  ![v117.toNat, 0]
def k0_off9 (k0_t2 : Fin k0_t2_loop.trips) : Fin 2 → Nat :=
  let c15_i32 : BitVec 32 := 15#32
  let c0_i32_31 : BitVec 32 := 0#32
  let c1_i32_33 : BitVec 32 := 1#32
  let arg17 : BitVec 32 := Scf.iv c0_i32_31 c1_i32_33 k0_t2
  let v111 : BitVec 32 := Scalar.subi c15_i32 arg17
  let c256_i32 : BitVec 32 := 256#32
  let v112 : BitVec 32 := Scalar.muli v111 c256_i32
  let v113 : BitVec 32 := v112
  let v119 : Index := Scalar.indexCast v113
  let c0_38 : Index := 0#32
  ![v119.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4096x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x4096x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S8x4096x6656 : Shape := ⟨3, ![8, 4096, 6656]⟩
abbrev S8x256x1536 : Shape := ⟨3, ![8, 256, 1536]⟩
abbrev S2x4 : Shape := ⟨2, ![2, 4]⟩
abbrev S64 : Shape := ⟨1, ![64]⟩
abbrev S64x64 : Shape := ⟨2, ![64, 64]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S8x4096x3072 : Shape := ⟨3, ![8, 4096, 3072]⟩
abbrev S8x4096x512 : Shape := ⟨3, ![8, 4096, 512]⟩
abbrev S8x4096x1024 : Shape := ⟨3, ![8, 4096, 1024]⟩
abbrev S8x256x512 : Shape := ⟨3, ![8, 256, 512]⟩
abbrev S8x256x1024 : Shape := ⟨3, ![8, 256, 1024]⟩
abbrev S8x256x4x128 : Shape := ⟨4, ![8, 256, 4, 128]⟩
abbrev S8x4x256x128 : Shape := ⟨4, ![8, 4, 256, 128]⟩
abbrev S8x256x4x256 : Shape := ⟨4, ![8, 256, 4, 256]⟩
abbrev S8x4x256x256 : Shape := ⟨4, ![8, 4, 256, 256]⟩
abbrev S1x4 : Shape := ⟨2, ![1, 4]⟩
abbrev S4 : Shape := ⟨1, ![4]⟩
abbrev S256 : Shape := ⟨1, ![256]⟩
abbrev S4x1x1 : Shape := ⟨3, ![4, 1, 1]⟩
abbrev S1x256x1 : Shape := ⟨3, ![1, 256, 1]⟩
abbrev S4x256x1 : Shape := ⟨3, ![4, 256, 1]⟩
abbrev S1x4x256x1 : Shape := ⟨4, ![1, 4, 256, 1]⟩
abbrev S8x4x128x256 : Shape := ⟨4, ![8, 4, 128, 256]⟩
abbrev S8x4096x4x128 : Shape := ⟨4, ![8, 4096, 4, 128]⟩
abbrev S8x4x4096x128 : Shape := ⟨4, ![8, 4, 4096, 128]⟩
abbrev S8x4x4096x64 : Shape := ⟨4, ![8, 4, 4096, 64]⟩
abbrev S8x4x4096x32 : Shape := ⟨4, ![8, 4, 4096, 32]⟩
abbrev S1x1x4096x32 : Shape := ⟨4, ![1, 1, 4096, 32]⟩
abbrev S8x4096x4x256 : Shape := ⟨4, ![8, 4096, 4, 256]⟩
abbrev S8x4x4096x256 : Shape := ⟨4, ![8, 4, 4096, 256]⟩
abbrev S1x4096 : Shape := ⟨2, ![1, 4096]⟩
abbrev S4096x4096 : Shape := ⟨2, ![4096, 4096]⟩
abbrev S1x4096x4096 : Shape := ⟨3, ![1, 4096, 4096]⟩
abbrev S4x4096x4096 : Shape := ⟨3, ![4, 4096, 4096]⟩
abbrev S1x4096x1 : Shape := ⟨3, ![1, 4096, 1]⟩
abbrev S4x4096x1 : Shape := ⟨3, ![4, 4096, 1]⟩
abbrev S8x4x4096x4096 : Shape := ⟨4, ![8, 4, 4096, 4096]⟩
abbrev S1x4x4096x4096 : Shape := ⟨4, ![1, 4, 4096, 4096]⟩
abbrev S1x4x4096x1 : Shape := ⟨4, ![1, 4, 4096, 1]⟩
abbrev S8x4x4096 : Shape := ⟨3, ![8, 4, 4096]⟩
abbrev S8x4x4096x1 : Shape := ⟨4, ![8, 4, 4096, 1]⟩

abbrev nBuf : Space → Nat
  | .hbm => 303
  | .vmem => 0
  | .smem => 0
  | _ => 0

abbrev hbmTy0_0 (i : Nat) : BufTy := match i % 128 with
  | 0 => ⟨S8x4096x6656, .bf16⟩
  | 1 => ⟨S8x256x1536, .bf16⟩
  | 2 => ⟨S2x4, .f32⟩
  | 3 => ⟨S64, .f32⟩
  | 4 => ⟨S64, .f32⟩
  | 5 => ⟨S64x64, .f32⟩
  | 6 => ⟨S64x64, .f32⟩
  | 7 => ⟨S32, .f32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S4096, .f32⟩
  | 16 => ⟨S4096x1, .f32⟩
  | 17 => ⟨S1x32, .f32⟩
  | 18 => ⟨S4096x32, .f32⟩
  | 19 => ⟨S4096x32, .f32⟩
  | 20 => ⟨S4096x32, .f32⟩
  | 21 => ⟨S4096, .f32⟩
  | 22 => ⟨S4096x1, .f32⟩
  | 23 => ⟨S1x32, .f32⟩
  | 24 => ⟨S4096x32, .f32⟩
  | 25 => ⟨S4096x32, .f32⟩
  | 26 => ⟨S4096x32, .f32⟩
  | 27 => ⟨S8x4096x3072, .bf16⟩
  | 28 => ⟨S8x4096x3072, .f32⟩
  | 29 => ⟨S8x4096x512, .f32⟩
  | 30 => ⟨S8x4096x512, .f32⟩
  | 31 => ⟨S8x4096x1024, .f32⟩
  | 32 => ⟨S8x4096x1024, .f32⟩
  | 33 => ⟨S8x256x1536, .f32⟩
  | 34 => ⟨S8x256x512, .f32⟩
  | 35 => ⟨S8x256x1024, .f32⟩
  | 36 => ⟨S2x4, .f32⟩
  | 37 => ⟨S_, .f32⟩
  | 38 => ⟨S2x4, .f32⟩
  | 39 => ⟨S2x4, .f32⟩
  | 40 => ⟨S2x4, .f32⟩
  | 41 => ⟨S2x4, .f32⟩
  | 42 => ⟨S2x4, .i1⟩
  | 43 => ⟨S2x4, .f32⟩
  | 44 => ⟨S2x4, .f32⟩
  | 45 => ⟨S2x4, .f32⟩
  | 46 => ⟨S2x4, .f32⟩
  | 47 => ⟨S2x4, .f32⟩
  | 48 => ⟨S2x4, .f32⟩
  | 49 => ⟨S2x4, .f32⟩
  | 50 => ⟨S2x4, .f32⟩
  | 51 => ⟨S2x4, .f32⟩
  | 52 => ⟨S8x256x4x128, .f32⟩
  | 53 => ⟨S8x4x256x128, .f32⟩
  | 54 => ⟨S_, .f32⟩
  | 55 => ⟨S8x4x256x128, .f32⟩
  | 56 => ⟨S8x4x256x128, .f32⟩
  | 57 => ⟨S8x256x4x256, .f32⟩
  | 58 => ⟨S8x4x256x256, .f32⟩
  | 59 => ⟨S1x4, .f32⟩
  | 60 => ⟨S4, .f32⟩
  | 61 => ⟨S256, .f32⟩
  | 62 => ⟨S4x1x1, .f32⟩
  | 63 => ⟨S_, .f32⟩
  | 64 => ⟨S256, .f32⟩
  | 65 => ⟨S256, .f32⟩
  | 66 => ⟨S1x256x1, .f32⟩
  | 67 => ⟨S4x256x1, .f32⟩
  | 68 => ⟨S4x256x1, .f32⟩
  | 69 => ⟨S4x256x1, .f32⟩
  | 70 => ⟨S4x256x1, .f32⟩
  | 71 => ⟨S1x4x256x1, .f32⟩
  | 72 => ⟨S8x4x256x128, .f32⟩
  | 73 => ⟨S8x4x256x128, .f32⟩
  | 74 => ⟨S8x4x128x256, .f32⟩
  | 75 => ⟨S8x4x256x128, .f32⟩
  | 76 => ⟨S8x4x256x256, .f32⟩
  | 77 => ⟨S1x4, .f32⟩
  | 78 => ⟨S4, .f32⟩
  | 79 => ⟨S256, .f32⟩
  | 80 => ⟨S4x1x1, .f32⟩
  | 81 => ⟨S_, .f32⟩
  | 82 => ⟨S256, .f32⟩
  | 83 => ⟨S256, .f32⟩
  | 84 => ⟨S1x256x1, .f32⟩
  | 85 => ⟨S4x256x1, .f32⟩
  | 86 => ⟨S4x256x1, .f32⟩
  | 87 => ⟨S4x256x1, .f32⟩
  | 88 => ⟨S4x256x1, .f32⟩
  | 89 => ⟨S1x4x256x1, .f32⟩
  | 90 => ⟨S8x4x256x128, .f32⟩
  | 91 => ⟨S8x4x256x128, .f32⟩
  | 92 => ⟨S8x4x128x256, .f32⟩
  | 93 => ⟨S8x4096x4x128, .f32⟩
  | 94 => ⟨S8x4x4096x128, .f32⟩
  | 95 => ⟨S8x4x4096x64, .f32⟩
  | 96 => ⟨S8x4x4096x32, .f32⟩
  | 97 => ⟨S8x4x4096x32, .f32⟩
  | 98 => ⟨S4096x32, .f32⟩
  | 99 => ⟨S4096x32, .f32⟩
  | 100 => ⟨S1x1x4096x32, .f32⟩
  | 101 => ⟨S8x4x4096x32, .f32⟩
  | 102 => ⟨S8x4x4096x32, .f32⟩
  | 103 => ⟨S1x1x4096x32, .f32⟩
  | 104 => ⟨S8x4x4096x32, .f32⟩
  | 105 => ⟨S8x4x4096x32, .f32⟩
  | 106 => ⟨S8x4x4096x32, .f32⟩
  | 107 => ⟨S1x1x4096x32, .f32⟩
  | 108 => ⟨S8x4x4096x32, .f32⟩
  | 109 => ⟨S8x4x4096x32, .f32⟩
  | 110 => ⟨S1x1x4096x32, .f32⟩
  | 111 => ⟨S8x4x4096x32, .f32⟩
  | 112 => ⟨S8x4x4096x32, .f32⟩
  | 113 => ⟨S8x4x4096x32, .f32⟩
  | 114 => ⟨S8x4x4096x64, .f32⟩
  | 115 => ⟨S8x4x4096x64, .f32⟩
  | 116 => ⟨S8x4x4096x32, .f32⟩
  | 117 => ⟨S8x4x4096x32, .f32⟩
  | 118 => ⟨S4096x32, .f32⟩
  | 119 => ⟨S4096x32, .f32⟩
  | 120 => ⟨S1x1x4096x32, .f32⟩
  | 121 => ⟨S8x4x4096x32, .f32⟩
  | 122 => ⟨S8x4x4096x32, .f32⟩
  | 123 => ⟨S1x1x4096x32, .f32⟩
  | 124 => ⟨S8x4x4096x32, .f32⟩
  | 125 => ⟨S8x4x4096x32, .f32⟩
  | 126 => ⟨S8x4x4096x32, .f32⟩
  | 127 => ⟨S1x1x4096x32, .f32⟩
  | _ => ⟨S8x4096x6656, .bf16⟩

abbrev hbmTy0_1 (i : Nat) : BufTy := match i % 128 with
  | 0 => ⟨S8x4x4096x32, .f32⟩
  | 1 => ⟨S8x4x4096x32, .f32⟩
  | 2 => ⟨S1x1x4096x32, .f32⟩
  | 3 => ⟨S8x4x4096x32, .f32⟩
  | 4 => ⟨S8x4x4096x32, .f32⟩
  | 5 => ⟨S8x4x4096x32, .f32⟩
  | 6 => ⟨S8x4x4096x64, .f32⟩
  | 7 => ⟨S8x4x4096x128, .f32⟩
  | 8 => ⟨S8x4096x4x128, .f32⟩
  | 9 => ⟨S8x4x4096x128, .f32⟩
  | 10 => ⟨S8x4x4096x64, .f32⟩
  | 11 => ⟨S8x4x4096x32, .f32⟩
  | 12 => ⟨S8x4x4096x32, .f32⟩
  | 13 => ⟨S4096x32, .f32⟩
  | 14 => ⟨S4096x32, .f32⟩
  | 15 => ⟨S1x1x4096x32, .f32⟩
  | 16 => ⟨S8x4x4096x32, .f32⟩
  | 17 => ⟨S8x4x4096x32, .f32⟩
  | 18 => ⟨S1x1x4096x32, .f32⟩
  | 19 => ⟨S8x4x4096x32, .f32⟩
  | 20 => ⟨S8x4x4096x32, .f32⟩
  | 21 => ⟨S8x4x4096x32, .f32⟩
  | 22 => ⟨S1x1x4096x32, .f32⟩
  | 23 => ⟨S8x4x4096x32, .f32⟩
  | 24 => ⟨S8x4x4096x32, .f32⟩
  | 25 => ⟨S1x1x4096x32, .f32⟩
  | 26 => ⟨S8x4x4096x32, .f32⟩
  | 27 => ⟨S8x4x4096x32, .f32⟩
  | 28 => ⟨S8x4x4096x32, .f32⟩
  | 29 => ⟨S8x4x4096x64, .f32⟩
  | 30 => ⟨S8x4x4096x64, .f32⟩
  | 31 => ⟨S8x4x4096x32, .f32⟩
  | 32 => ⟨S8x4x4096x32, .f32⟩
  | 33 => ⟨S4096x32, .f32⟩
  | 34 => ⟨S4096x32, .f32⟩
  | 35 => ⟨S1x1x4096x32, .f32⟩
  | 36 => ⟨S8x4x4096x32, .f32⟩
  | 37 => ⟨S8x4x4096x32, .f32⟩
  | 38 => ⟨S1x1x4096x32, .f32⟩
  | 39 => ⟨S8x4x4096x32, .f32⟩
  | 40 => ⟨S8x4x4096x32, .f32⟩
  | 41 => ⟨S8x4x4096x32, .f32⟩
  | 42 => ⟨S1x1x4096x32, .f32⟩
  | 43 => ⟨S8x4x4096x32, .f32⟩
  | 44 => ⟨S8x4x4096x32, .f32⟩
  | 45 => ⟨S1x1x4096x32, .f32⟩
  | 46 => ⟨S8x4x4096x32, .f32⟩
  | 47 => ⟨S8x4x4096x32, .f32⟩
  | 48 => ⟨S8x4x4096x32, .f32⟩
  | 49 => ⟨S8x4x4096x64, .f32⟩
  | 50 => ⟨S8x4x4096x128, .f32⟩
  | 51 => ⟨S_, .f32⟩
  | 52 => ⟨S8x4x4096x128, .f32⟩
  | 53 => ⟨S8x4x4096x128, .f32⟩
  | 54 => ⟨S8x4096x4x256, .f32⟩
  | 55 => ⟨S8x4x4096x256, .f32⟩
  | 56 => ⟨S1x4, .f32⟩
  | 57 => ⟨S4, .f32⟩
  | 58 => ⟨S4096, .f32⟩
  | 59 => ⟨S4096x1, .f32⟩
  | 60 => ⟨S1x4096, .f32⟩
  | 61 => ⟨S4096x4096, .f32⟩
  | 62 => ⟨S4096x4096, .f32⟩
  | 63 => ⟨S4096x4096, .f32⟩
  | 64 => ⟨S_, .f32⟩
  | 65 => ⟨S4096x4096, .f32⟩
  | 66 => ⟨S4096x4096, .i1⟩
  | 67 => ⟨S4x1x1, .f32⟩
  | 68 => ⟨S1x4096x4096, .i1⟩
  | 69 => ⟨S_, .f32⟩
  | 70 => ⟨S4096x4096, .f32⟩
  | 71 => ⟨S4096x4096, .f32⟩
  | 72 => ⟨S1x4096x4096, .f32⟩
  | 73 => ⟨S4x4096x4096, .f32⟩
  | 74 => ⟨S4x4096x4096, .f32⟩
  | 75 => ⟨S4x4096x4096, .f32⟩
  | 76 => ⟨S4x4096x4096, .f32⟩
  | 77 => ⟨S_, .f32⟩
  | 78 => ⟨S_, .f32⟩
  | 79 => ⟨S4x4096x4096, .i1⟩
  | 80 => ⟨S4x4096x4096, .f32⟩
  | 81 => ⟨S4x4096x4096, .f32⟩
  | 82 => ⟨S_, .f32⟩
  | 83 => ⟨S4096, .f32⟩
  | 84 => ⟨S4096, .f32⟩
  | 85 => ⟨S1x4096x1, .f32⟩
  | 86 => ⟨S4x4096x1, .f32⟩
  | 87 => ⟨S4x4096x1, .f32⟩
  | 88 => ⟨S4x4096x1, .f32⟩
  | 89 => ⟨S4x4096x1, .f32⟩
  | 90 => ⟨S8x4x4096x4096, .f32⟩
  | 91 => ⟨S1x4x4096x4096, .f32⟩
  | 92 => ⟨S8x4x4096x4096, .f32⟩
  | 93 => ⟨S8x4x4096x4096, .f32⟩
  | 94 => ⟨S8x4x4096x256, .f32⟩
  | 95 => ⟨S8x4x4096x256, .f32⟩
  | 96 => ⟨S1x4x4096x1, .f32⟩
  | 97 => ⟨S8x4x4096x256, .f32⟩
  | 98 => ⟨S8x4x4096x256, .f32⟩
  | 99 => ⟨S8x4x4096x256, .f32⟩
  | 100 => ⟨S8x4x4096x128, .f32⟩
  | 101 => ⟨S8x4x4096x128, .f32⟩
  | 102 => ⟨S8x4x4096x256, .f32⟩
  | 103 => ⟨S1x4, .f32⟩
  | 104 => ⟨S4, .f32⟩
  | 105 => ⟨S4096, .f32⟩
  | 106 => ⟨S4096x1, .f32⟩
  | 107 => ⟨S1x4096, .f32⟩
  | 108 => ⟨S4096x4096, .f32⟩
  | 109 => ⟨S4096x4096, .f32⟩
  | 110 => ⟨S4096x4096, .f32⟩
  | 111 => ⟨S_, .f32⟩
  | 112 => ⟨S4096x4096, .f32⟩
  | 113 => ⟨S4096x4096, .i1⟩
  | 114 => ⟨S4x1x1, .f32⟩
  | 115 => ⟨S1x4096x4096, .i1⟩
  | 116 => ⟨S_, .f32⟩
  | 117 => ⟨S4096x4096, .f32⟩
  | 118 => ⟨S4096x4096, .f32⟩
  | 119 => ⟨S1x4096x4096, .f32⟩
  | 120 => ⟨S4x4096x4096, .f32⟩
  | 121 => ⟨S4x4096x4096, .f32⟩
  | 122 => ⟨S4x4096x4096, .f32⟩
  | 123 => ⟨S4x4096x4096, .f32⟩
  | 124 => ⟨S_, .f32⟩
  | 125 => ⟨S_, .f32⟩
  | 126 => ⟨S4x4096x4096, .i1⟩
  | 127 => ⟨S4x4096x4096, .f32⟩
  | _ => ⟨S8x4096x6656, .bf16⟩

abbrev hbmTy0_2 (i : Nat) : BufTy := match i % 128 with
  | 0 => ⟨S4x4096x4096, .f32⟩
  | 1 => ⟨S_, .f32⟩
  | 2 => ⟨S4096, .f32⟩
  | 3 => ⟨S4096, .f32⟩
  | 4 => ⟨S1x4096x1, .f32⟩
  | 5 => ⟨S4x4096x1, .f32⟩
  | 6 => ⟨S4x4096x1, .f32⟩
  | 7 => ⟨S4x4096x1, .f32⟩
  | 8 => ⟨S4x4096x1, .f32⟩
  | 9 => ⟨S8x4x4096x4096, .f32⟩
  | 10 => ⟨S1x4x4096x4096, .f32⟩
  | 11 => ⟨S8x4x4096x4096, .f32⟩
  | 12 => ⟨S8x4x4096x4096, .f32⟩
  | 13 => ⟨S8x4x4096x256, .f32⟩
  | 14 => ⟨S8x4x4096x256, .f32⟩
  | 15 => ⟨S1x4x4096x1, .f32⟩
  | 16 => ⟨S8x4x4096x256, .f32⟩
  | 17 => ⟨S8x4x4096x256, .f32⟩
  | 18 => ⟨S8x4x4096x256, .f32⟩
  | 19 => ⟨S8x4x4096x256, .f32⟩
  | 20 => ⟨S8x4x4096x256, .f32⟩
  | 21 => ⟨S8x4x4096x256, .f32⟩
  | 22 => ⟨S_, .f32⟩
  | 23 => ⟨S8x4x4096, .f32⟩
  | 24 => ⟨S8x4x4096x1, .f32⟩
  | 25 => ⟨S_, .f32⟩
  | 26 => ⟨S8x4x4096x1, .f32⟩
  | 27 => ⟨S8x4x4096x1, .f32⟩
  | 28 => ⟨S_, .f32⟩
  | 29 => ⟨S8x4x4096x1, .f32⟩
  | 30 => ⟨S8x4x4096x1, .f32⟩
  | 31 => ⟨S8x4x4096x1, .f32⟩
  | 32 => ⟨S8x4x4096x256, .f32⟩
  | 33 => ⟨S8x4x4096x256, .f32⟩
  | 34 => ⟨S8x4096x4x256, .f32⟩
  | 35 => ⟨S8x4096x1024, .f32⟩
  | 36 => ⟨S8x4096x1024, .f32⟩
  | 37 => ⟨S8x4096x1024, .f32⟩
  | 38 => ⟨S_, .f32⟩
  | 39 => ⟨S8x4096x1024, .f32⟩
  | 40 => ⟨S8x4096x1024, .f32⟩
  | 41 => ⟨S_, .f32⟩
  | 42 => ⟨S8x4096x1024, .f32⟩
  | 43 => ⟨S8x4096x1024, .f32⟩
  | 44 => ⟨S8x4096x1024, .f32⟩
  | 45 => ⟨S8x4096x1024, .f32⟩
  | 46 => ⟨S8x4096x1024, .bf16⟩
  | _ => ⟨S8x4096x6656, .bf16⟩

abbrev hbmTy (i : Nat) : BufTy := match i / 128 with
  | 0 => hbmTy0_0 i
  | 1 => hbmTy0_1 i
  | 2 => hbmTy0_2 i
  | _ => ⟨S8x4096x6656, .bf16⟩

abbrev bufTy : (tb : Table) → Fin (tcTables nBuf tb) → BufTy
  | .hbm, ⟨i, _⟩ => hbmTy i
  | _, _ => ⟨S8x4096x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_call0_v0 : Ref sig .tc := ⟨.hbm, 36, rfl⟩
abbrev main_call0_call0_cst : Ref sig .tc := ⟨.hbm, 37, rfl⟩
abbrev main_call0_call0_v0 : Ref sig .tc := ⟨.hbm, 38, rfl⟩
abbrev main_call0_call0_v1 : Ref sig .tc := ⟨.hbm, 39, rfl⟩
abbrev main_call0_call0_v2 : Ref sig .tc := ⟨.hbm, 40, rfl⟩
abbrev main_call0_call0_v3 : Ref sig .tc := ⟨.hbm, 41, rfl⟩
abbrev main_call0_call0_v4 : Ref sig .tc := ⟨.hbm, 42, rfl⟩
abbrev main_call0_call0_v5 : Ref sig .tc := ⟨.hbm, 43, rfl⟩
abbrev main_call0_call0_v6 : Ref sig .tc := ⟨.hbm, 44, rfl⟩
abbrev main_call0_call0_v7 : Ref sig .tc := ⟨.hbm, 45, rfl⟩
abbrev main_call0_call0_v8 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_v1 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_1 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_2 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_3 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_cst_4 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_cst_5 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_cst_6 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_v177 : Ref sig .tc := ⟨.hbm, 203, rfl⟩
abbrev main_v178 : Ref sig .tc := ⟨.hbm, 204, rfl⟩
abbrev main_cst_7 : Ref sig .tc := ⟨.hbm, 205, rfl⟩
abbrev main_call3_v0 : Ref sig .tc := ⟨.hbm, 206, rfl⟩
abbrev main_call3_v1 : Ref sig .tc := ⟨.hbm, 207, rfl⟩
abbrev main_call3_v2 : Ref sig .tc := ⟨.hbm, 208, rfl⟩
abbrev main_v179 : Ref sig .tc := ⟨.hbm, 209, rfl⟩
abbrev main_cst_8 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_v183 : Ref sig .tc := ⟨.hbm, 214, rfl⟩
abbrev main_v184 : Ref sig .tc := ⟨.hbm, 215, rfl⟩
abbrev main_v185 : Ref sig .tc := ⟨.hbm, 216, rfl⟩
abbrev main_v186 : Ref sig .tc := ⟨.hbm, 217, rfl⟩
abbrev main_v187 : Ref sig .tc := ⟨.hbm, 218, rfl⟩
abbrev main_v188 : Ref sig .tc := ⟨.hbm, 219, rfl⟩
abbrev main_v189 : Ref sig .tc := ⟨.hbm, 220, rfl⟩
abbrev main_v190 : Ref sig .tc := ⟨.hbm, 221, rfl⟩
abbrev main_v191 : Ref sig .tc := ⟨.hbm, 222, rfl⟩
abbrev main_v192 : Ref sig .tc := ⟨.hbm, 223, rfl⟩
abbrev main_v193 : Ref sig .tc := ⟨.hbm, 224, rfl⟩
abbrev main_v194 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩
abbrev main_cst_9 : Ref sig .tc := ⟨.hbm, 239, rfl⟩
abbrev main_v208 : Ref sig .tc := ⟨.hbm, 240, rfl⟩
abbrev main_v209 : Ref sig .tc := ⟨.hbm, 241, rfl⟩
abbrev main_v210 : Ref sig .tc := ⟨.hbm, 242, rfl⟩
abbrev main_v211 : Ref sig .tc := ⟨.hbm, 243, rfl⟩
abbrev main_cst_10 : Ref sig .tc := ⟨.hbm, 244, rfl⟩
abbrev main_v212 : Ref sig .tc := ⟨.hbm, 245, rfl⟩
abbrev main_v213 : Ref sig .tc := ⟨.hbm, 246, rfl⟩
abbrev main_v214 : Ref sig .tc := ⟨.hbm, 247, rfl⟩
abbrev main_v215 : Ref sig .tc := ⟨.hbm, 248, rfl⟩
abbrev main_v216 : Ref sig .tc := ⟨.hbm, 249, rfl⟩
abbrev main_v217 : Ref sig .tc := ⟨.hbm, 250, rfl⟩
abbrev main_v218 : Ref sig .tc := ⟨.hbm, 251, rfl⟩
abbrev main_cst_11 : Ref sig .tc := ⟨.hbm, 252, rfl⟩
abbrev main_call7_v0 : Ref sig .tc := ⟨.hbm, 253, rfl⟩
abbrev main_call7_v1 : Ref sig .tc := ⟨.hbm, 254, rfl⟩
abbrev main_call7_v2 : Ref sig .tc := ⟨.hbm, 255, rfl⟩
abbrev main_v219 : Ref sig .tc := ⟨.hbm, 256, rfl⟩
abbrev main_cst_12 : Ref sig .tc := ⟨.hbm, 257, rfl⟩
abbrev main_v220 : Ref sig .tc := ⟨.hbm, 258, rfl⟩
abbrev main_v221 : Ref sig .tc := ⟨.hbm, 259, rfl⟩
abbrev main_v222 : Ref sig .tc := ⟨.hbm, 260, rfl⟩
abbrev main_v223 : Ref sig .tc := ⟨.hbm, 261, rfl⟩
abbrev main_v224 : Ref sig .tc := ⟨.hbm, 262, rfl⟩
abbrev main_v225 : Ref sig .tc := ⟨.hbm, 263, rfl⟩
abbrev main_v226 : Ref sig .tc := ⟨.hbm, 264, rfl⟩
abbrev main_v227 : Ref sig .tc := ⟨.hbm, 265, rfl⟩
abbrev main_v228 : Ref sig .tc := ⟨.hbm, 266, rfl⟩
abbrev main_v229 : Ref sig .tc := ⟨.hbm, 267, rfl⟩
abbrev main_v230 : Ref sig .tc := ⟨.hbm, 268, rfl⟩
abbrev main_v231 : Ref sig .tc := ⟨.hbm, 269, rfl⟩
abbrev main_v232 : Ref sig .tc := ⟨.hbm, 270, rfl⟩
abbrev main_v233 : Ref sig .tc := ⟨.hbm, 271, rfl⟩
abbrev main_v234 : Ref sig .tc := ⟨.hbm, 272, rfl⟩
abbrev main_v235 : Ref sig .tc := ⟨.hbm, 273, rfl⟩
abbrev main_v236 : Ref sig .tc := ⟨.hbm, 274, rfl⟩
abbrev main_v237 : Ref sig .tc := ⟨.hbm, 275, rfl⟩
abbrev main_v238 : Ref sig .tc := ⟨.hbm, 276, rfl⟩
abbrev main_v239 : Ref sig .tc := ⟨.hbm, 277, rfl⟩
abbrev main_cst_13 : Ref sig .tc := ⟨.hbm, 278, rfl⟩
abbrev main_v240 : Ref sig .tc := ⟨.hbm, 279, rfl⟩
abbrev main_v241 : Ref sig .tc := ⟨.hbm, 280, rfl⟩
abbrev main_cst_14 : Ref sig .tc := ⟨.hbm, 281, rfl⟩
abbrev main_v242 : Ref sig .tc := ⟨.hbm, 282, rfl⟩
abbrev main_v243 : Ref sig .tc := ⟨.hbm, 283, rfl⟩
abbrev main_cst_15 : Ref sig .tc := ⟨.hbm, 284, rfl⟩
abbrev main_v244 : Ref sig .tc := ⟨.hbm, 285, rfl⟩
abbrev main_v245 : Ref sig .tc := ⟨.hbm, 286, rfl⟩
abbrev main_v246 : Ref sig .tc := ⟨.hbm, 287, rfl⟩
abbrev main_v247 : Ref sig .tc := ⟨.hbm, 288, rfl⟩
abbrev main_v248 : Ref sig .tc := ⟨.hbm, 289, rfl⟩
abbrev main_v249 : Ref sig .tc := ⟨.hbm, 290, rfl⟩
abbrev main_v250 : Ref sig .tc := ⟨.hbm, 291, rfl⟩
abbrev main_call9_v0 : Ref sig .tc := ⟨.hbm, 292, rfl⟩
abbrev main_call9_v1 : Ref sig .tc := ⟨.hbm, 293, rfl⟩
abbrev main_call9_cst : Ref sig .tc := ⟨.hbm, 294, rfl⟩
abbrev main_call9_v2 : Ref sig .tc := ⟨.hbm, 295, rfl⟩
abbrev main_call9_v3 : Ref sig .tc := ⟨.hbm, 296, rfl⟩
abbrev main_call9_cst_0 : Ref sig .tc := ⟨.hbm, 297, rfl⟩
abbrev main_call9_v4 : Ref sig .tc := ⟨.hbm, 298, rfl⟩
abbrev main_call9_v5 : Ref sig .tc := ⟨.hbm, 299, rfl⟩
abbrev main_v251 : Ref sig .tc := ⟨.hbm, 300, rfl⟩
abbrev main_v252 : Ref sig .tc := ⟨.hbm, 301, rfl⟩
abbrev main_v253 : Ref sig .tc := ⟨.hbm, 302, rfl⟩

abbrev nD : Nat := 1
abbrev τ : Topo := Topo.v7x

variable {F : FTy → Type} [FloatOps F]
-- ==== Kernel2.lean ====
abbrev S8x4096x1024 : Shape := ⟨3, ![8, 4096, 1024]⟩
abbrev S1024 : Shape := ⟨1, ![1024]⟩
abbrev S8x1x1024 : Shape := ⟨3, ![8, 1, 1024]⟩
abbrev S1024x6656 : Shape := ⟨2, ![1024, 6656]⟩
abbrev S6656 : Shape := ⟨1, ![6656]⟩
abbrev S1x1024 : Shape := ⟨2, ![1, 1024]⟩
abbrev S1x6656 : Shape := ⟨2, ![1, 6656]⟩
abbrev S8x4096x6656 : Shape := ⟨3, ![8, 4096, 6656]⟩
abbrev S1x512x1024 : Shape := ⟨3, ![1, 512, 1024]⟩
abbrev S1x1x1024 : Shape := ⟨3, ![1, 1, 1024]⟩
abbrev S1x512x6656 : Shape := ⟨3, ![1, 512, 6656]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1x512 : Shape := ⟨2, ![1, 512]⟩
abbrev S1x512x512 : Shape := ⟨3, ![1, 512, 512]⟩

abbrev nBuf : Space → Nat
  | .hbm => 10
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x6656, .f32⟩
  | .hbm, ⟨5, _⟩ => ⟨S6656, .f32⟩
  | .hbm, ⟨6, _⟩ => ⟨S1x1024, .f32⟩
  | .hbm, ⟨7, _⟩ => ⟨S1x6656, .f32⟩
  | .hbm, ⟨8, _⟩ => ⟨S1024x6656, .bf16⟩
  | .hbm, ⟨9, _⟩ => ⟨S8x4096x6656, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x6656, .bf16⟩
  | .local _ .vmem, ⟨8, _⟩ => ⟨S1x6656, .f32⟩
  | .local _ .vmem, ⟨9, _⟩ => ⟨S1x512x6656, .bf16⟩
  | .local _ .vmem, ⟨10, _⟩ => ⟨S1x512x6656, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x6656 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x6656 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x6656 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S8x4096x1024 : Shape := ⟨3, ![8, 4096, 1024]⟩
abbrev S1024 : Shape := ⟨1, ![1024]⟩
abbrev S8x1x1024 : Shape := ⟨3, ![8, 1, 1024]⟩
abbrev S1024x6656 : Shape := ⟨2, ![1024, 6656]⟩
abbrev S6656 : Shape := ⟨1, ![6656]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x6656 : Shape := ⟨3, ![8, 4096, 6656]⟩
abbrev S1x1x6656 : Shape := ⟨3, ![1, 1, 6656]⟩

abbrev nBuf : Space → Nat
  | .hbm => 34
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x6656, .f32⟩
  | .hbm, ⟨5, _⟩ => ⟨S6656, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S_, .f32⟩
  | .hbm, ⟨23, _⟩ => ⟨S8x1x1024, .f32⟩
  | .hbm, ⟨24, _⟩ => ⟨S8x1x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S8x4096x6656, .f32⟩
  | .hbm, ⟨30, _⟩ => ⟨S1x1x6656, .f32⟩
  | .hbm, ⟨31, _⟩ => ⟨S8x4096x6656, .f32⟩
  | .hbm, ⟨32, _⟩ => ⟨S8x4096x6656, .f32⟩
  | .hbm, ⟨33, _⟩ => ⟨S8x4096x6656, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Kernel3.lean ====
abbrev S8x4096x1024 : Shape := ⟨3, ![8, 4096, 1024]⟩
abbrev S4096x4096 : Shape := ⟨2, ![4096, 4096]⟩
abbrev S8x4096x6656 : Shape := ⟨3, ![8, 4096, 6656]⟩
abbrev S8x1x1024 : Shape := ⟨3, ![8, 1, 1024]⟩
abbrev S1024 : Shape := ⟨1, ![1024]⟩
abbrev S1024x1024 : Shape := ⟨2, ![1024, 1024]⟩
abbrev S512x1024 : Shape := ⟨2, ![512, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S1x1024 : Shape := ⟨2, ![1, 1024]⟩
abbrev S8x4096x128 : Shape := ⟨3, ![8, 4096, 128]⟩
abbrev S8x32768 : Shape := ⟨2, ![8, 32768]⟩
abbrev S8x128 : Shape := ⟨2, ![8, 128]⟩
abbrev S1x1024x1024 : Shape := ⟨3, ![1, 1024, 1024]⟩
abbrev S1024x512 : Shape := ⟨2, ![1024, 512]⟩
abbrev S1x1024x512 : Shape := ⟨3, ![1, 1024, 512]⟩
abbrev S1x1x1024 : Shape := ⟨3, ![1, 1, 1024]⟩
abbrev S1x1024x128 : Shape := ⟨3, ![1, 1024, 128]⟩
abbrev S8x1024 : Shape := ⟨2, ![8, 1024]⟩
abbrev S1x512x512 : Shape := ⟨3, ![1, 512, 512]⟩
abbrev S512x512 : Shape := ⟨2, ![512, 512]⟩
abbrev S1x512x1024 : Shape := ⟨3, ![1, 512, 1024]⟩
abbrev S512 : Shape := ⟨1, ![512]⟩
abbrev S512x1 : Shape := ⟨2, ![512, 1]⟩
abbrev S512x128 : Shape := ⟨2, ![512, 128]⟩
abbrev S128 : Shape := ⟨1, ![128]⟩
abbrev S1x512x128 : Shape := ⟨3, ![1, 512, 128]⟩
abbrev S128x512 : Shape := ⟨2, ![128, 512]⟩
abbrev S8x512 : Shape := ⟨2, ![8, 512]⟩

abbrev nBuf : Space → Nat
  | .hbm => 50
  | .vmem => 37
  | .smem => 0
  | _ => 0

abbrev bufTy : (tb : Table) → Fin (tcTables nBuf tb) → BufTy
  | .hbm, ⟨0, _⟩ => ⟨S8x4096x1024, .bf16⟩
  | .hbm, ⟨1, _⟩ => ⟨S4096x4096, .bf16⟩
  | .hbm, ⟨2, _⟩ => ⟨S8x4096x6656, .bf16⟩
  | .hbm, ⟨3, _⟩ => ⟨S8x4096x1024, .f32⟩
  | .hbm, ⟨4, _⟩ => ⟨S8x1x1024, .f32⟩
  | .hbm, ⟨5, _⟩ => ⟨S8x1x1024, .f32⟩
  | .hbm, ⟨6, _⟩ => ⟨S8x1x1024, .f32⟩
  | .hbm, ⟨7, _⟩ => ⟨S1024, .f32⟩
  | .hbm, ⟨8, _⟩ => ⟨S1024x1024, .f32⟩
  | .hbm, ⟨9, _⟩ => ⟨S512x1024, .f32⟩
  | .hbm, ⟨10, _⟩ => ⟨S1024x1024, .f32⟩
  | .hbm, ⟨11, _⟩ => ⟨S1024x4, .f32⟩
  | .hbm, ⟨12, _⟩ => ⟨S4, .f32⟩
  | .hbm, ⟨13, _⟩ => ⟨S1024x32, .f32⟩
  | .hbm, ⟨14, _⟩ => ⟨S32, .f32⟩
  | .hbm, ⟨15, _⟩ => ⟨S_, .f32⟩
  | .hbm, ⟨16, _⟩ => ⟨S1024x128, .f32⟩
  | .hbm, ⟨17, _⟩ => ⟨S_, .i32⟩
  | .hbm, ⟨18, _⟩ => ⟨S1, .i32⟩
  | .hbm, ⟨19, _⟩ => ⟨S1024x128, .f32⟩
  | .hbm, ⟨20, _⟩ => ⟨S_, .i32⟩
  | .hbm, ⟨21, _⟩ => ⟨S1, .i32⟩
  | .hbm, ⟨22, _⟩ => ⟨S1024x128, .f32⟩
  | .hbm, ⟨23, _⟩ => ⟨S_, .f32⟩
  | .hbm, ⟨24, _⟩ => ⟨S1x128, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S1x128, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S1x128, .f32⟩
  | .hbm, ⟨37, _⟩ => ⟨S1024x128, .bf16⟩
  | .hbm, ⟨38, _⟩ => ⟨S1024x128, .f32⟩
  | .hbm, ⟨39, _⟩ => ⟨S1024x128, .f32⟩
  | .hbm, ⟨40, _⟩ => ⟨S1024x128, .bf16⟩
  | .hbm, ⟨41, _⟩ => ⟨S1x1024, .f32⟩
  | .hbm, ⟨42, _⟩ => ⟨S1024x1024, .bf16⟩
  | .hbm, ⟨43, _⟩ => ⟨S512x1024, .bf16⟩
  | .hbm, ⟨44, _⟩ => ⟨S1024x1024, .bf16⟩
  | .hbm, ⟨45, _⟩ => ⟨S8x4096x1024, .f32⟩
  | .hbm, ⟨46, _⟩ => ⟨S8x4096x1024, .bf16⟩
  | .hbm, ⟨47, _⟩ => ⟨S8x4096x128, .f32⟩
  | .hbm, ⟨48, _⟩ => ⟨S8x32768, .f32⟩
  | .hbm, ⟨49, _⟩ => ⟨S8x128, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x1024x1024, .f32⟩
  | .local _ .vmem, ⟨13, _⟩ => ⟨S1x1024x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1024, .f32⟩
  | .local _ .vmem, ⟨21, _⟩ => ⟨S1024x1024, .bf16⟩
  | .local _ .vmem, ⟨22, _⟩ => ⟨S512x1024, .bf16⟩
  | .local _ .vmem, ⟨23, _⟩ => ⟨S1024x1024, .bf16⟩
  | .local _ .vmem, ⟨24, _⟩ => ⟨S1024x128, .bf16⟩
  | .local _ .vmem, ⟨25, _⟩ => ⟨S1024x128, .bf16⟩
  | .local _ .vmem, ⟨26, _⟩ => ⟨S1x128, .f32⟩
  | .local _ .vmem, ⟨27, _⟩ => ⟨S1x1024x1024, .f32⟩
  | .local _ .vmem, ⟨28, _⟩ => ⟨S1x1024x1024, .f32⟩
  | .local _ .vmem, ⟨29, _⟩ => ⟨S1x1024x1024, .bf16⟩
  | .local _ .vmem, ⟨30, _⟩ => ⟨S1x1024x1024, .bf16⟩
  | .local _ .vmem, ⟨31, _⟩ => ⟨S1x1024x128, .f32⟩
  | .local _ .vmem, ⟨32, _⟩ => ⟨S1x1024x128, .f32⟩
  | .local _ .vmem, ⟨33, _⟩ => ⟨S8x1024, .f32⟩
  | .local _ .vmem, ⟨34, _⟩ => ⟨S8x1024, .f32⟩
  | .local _ .vmem, ⟨35, _⟩ => ⟨S8x128, .f32⟩
  | .local _ .vmem, ⟨36, _⟩ => ⟨S8x128, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_c_2 : Ref sig .tc := ⟨.hbm, 25, rfl⟩
abbrev main_v6 : Ref sig .tc := ⟨.hbm, 26, rfl⟩
abbrev main_c_3 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_c_4 : Ref sig .tc := ⟨.hbm, 31, rfl⟩
abbrev main_v10 : Ref sig .tc := ⟨.hbm, 32, rfl⟩
abbrev main_c_5 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22_0 : Ref sig .tc := ⟨.hbm, 45, rfl⟩
abbrev main_v22_1 : Ref sig .tc := ⟨.hbm, 46, rfl⟩
abbrev main_v22_2 : Ref sig .tc := ⟨.hbm, 47, rfl⟩
abbrev main_v22_3 : Ref sig .tc := ⟨.hbm, 48, rfl⟩
abbrev main_v22_4 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_3 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_4 (i : grid0.Coords) : Fin 3 → Nat :=
  let arg0 : BitVec 32 := BitVec.ofNat 32 (i 0).val
  let arg1 : BitVec 32 := BitVec.ofNat 32 (i 1).val
  let c11_i32 : BitVec 32 := 11#32
  let c0_i32 : BitVec 32 := 0#32
  ![arg0.toNat, arg1.toNat, c11_i32.toNat]

def cc0_transform_5 (i : grid0.Coords) : Fin 3 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, arg1.toNat, c12_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x1024x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1024x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1024x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S8x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 1 → Memref sig .tc .vmem S8x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]
-- ==== Reference3Ideal.lean ====
abbrev S8x4096x1024 : Shape := ⟨3, ![8, 4096, 1024]⟩
abbrev S4096x4096 : Shape := ⟨2, ![4096, 4096]⟩
abbrev S8x4096x6656 : Shape := ⟨3, ![8, 4096, 6656]⟩
abbrev S8x1x1024 : Shape := ⟨3, ![8, 1, 1024]⟩
abbrev S1024 : Shape := ⟨1, ![1024]⟩
abbrev S1024x1024 : Shape := ⟨2, ![1024, 1024]⟩
abbrev S512x1024 : Shape := ⟨2, ![512, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S8x4096x2048 : Shape := ⟨3, ![8, 4096, 2048]⟩
abbrev S4096x8x512 : Shape := ⟨3, ![4096, 8, 512]⟩
abbrev S8x4096x512 : Shape := ⟨3, ![8, 4096, 512]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 72
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S4096x4096, .bf16⟩
  | .hbm, ⟨2, _⟩ => ⟨S8x4096x6656, .bf16⟩
  | .hbm, ⟨3, _⟩ => ⟨S8x4096x1024, .f32⟩
  | .hbm, ⟨4, _⟩ => ⟨S8x1x1024, .f32⟩
  | .hbm, ⟨5, _⟩ => ⟨S8x1x1024, .f32⟩
  | .hbm, ⟨6, _⟩ => ⟨S8x1x1024, .f32⟩
  | .hbm, ⟨7, _⟩ => ⟨S1024, .f32⟩
  | .hbm, ⟨8, _⟩ => ⟨S1024x1024, .f32⟩
  | .hbm, ⟨9, _⟩ => ⟨S512x1024, .f32⟩
  | .hbm, ⟨10, _⟩ => ⟨S1024x1024, .f32⟩
  | .hbm, ⟨11, _⟩ => ⟨S1024x4, .f32⟩
  | .hbm, ⟨12, _⟩ => ⟨S4, .f32⟩
  | .hbm, ⟨13, _⟩ => ⟨S1024x32, .f32⟩
  | .hbm, ⟨14, _⟩ => ⟨S32, .f32⟩
  | .hbm, ⟨15, _⟩ => ⟨S8x4096x2048, .bf16⟩
  | .hbm, ⟨16, _⟩ => ⟨S8x4096x2048, .f32⟩
  | .hbm, ⟨17, _⟩ => ⟨S8x4096x1024, .f32⟩
  | .hbm, ⟨18, _⟩ => ⟨S8x4096x1024, .f32⟩
  | .hbm, ⟨19, _⟩ => ⟨S4096x4096, .f32⟩
  | .hbm, ⟨20, _⟩ => ⟨S4096x8x512, .f32⟩
  | .hbm, ⟨21, _⟩ => ⟨S8x4096x512, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S_, .f32⟩
  | .hbm, ⟨26, _⟩ => ⟨S8x4096x1024, .f32⟩
  | .hbm, ⟨27, _⟩ => ⟨S8x4096x1024, .f32⟩
  | .hbm, ⟨28, _⟩ => ⟨S_, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S_, .f32⟩
  | .hbm, ⟨36, _⟩ => ⟨S8x4096x1024, .f32⟩
  | .hbm, ⟨37, _⟩ => ⟨S8x4096x1024, .f32⟩
  | .hbm, ⟨38, _⟩ => ⟨S_, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S8x4096x1024, .f32⟩
  | .hbm, ⟨44, _⟩ => ⟨S8x4096x1024, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | .hbm, ⟨48, _⟩ => ⟨S8x4096x1024, .f32⟩
  | .hbm, ⟨49, _⟩ => ⟨S_, .f32⟩
  | .hbm, ⟨50, _⟩ => ⟨S8x4096, .f32⟩
  | .hbm, ⟨51, _⟩ => ⟨S8x4096x1, .f32⟩
  | .hbm, ⟨52, _⟩ => ⟨S_, .f32⟩
  | .hbm, ⟨53, _⟩ => ⟨S8x4096x1, .f32⟩
  | .hbm, ⟨54, _⟩ => ⟨S8x4096x1, .f32⟩
  | .hbm, ⟨55, _⟩ => ⟨S_, .f32⟩
  | .hbm, ⟨56, _⟩ => ⟨S8x4096x1, .f32⟩
  | .hbm, ⟨57, _⟩ => ⟨S8x4096x1, .f32⟩
  | .hbm, ⟨58, _⟩ => ⟨S8x4096x1, .f32⟩
  | .hbm, ⟨59, _⟩ => ⟨S8x4096x1024, .f32⟩
  | .hbm, ⟨60, _⟩ => ⟨S8x4096x1024, .f32⟩
  | .hbm, ⟨61, _⟩ => ⟨S1x1x1024, .f32⟩
  | .hbm, ⟨62, _⟩ => ⟨S8x4096x1024, .f32⟩
  | .hbm, ⟨63, _⟩ => ⟨S8x4096x1024, .f32⟩
  | .hbm, ⟨64, _⟩ => ⟨S_, .f32⟩
  | .hbm, ⟨65, _⟩ => ⟨S8x1x1024, .f32⟩
  | .hbm, ⟨66, _⟩ => ⟨S8x1x1024, .f32⟩
  | .hbm, ⟨67, _⟩ => ⟨S8x4096x1024, .f32⟩
  | .hbm, ⟨68, _⟩ => ⟨S8x4096x1024, .f32⟩
  | .hbm, ⟨69, _⟩ => ⟨S8x4096x1024, .f32⟩
  | .hbm, ⟨70, _⟩ => ⟨S8x4096x1024, .f32⟩
  | .hbm, ⟨71, _⟩ => ⟨S8x4096x1024, .bf16⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩

abbrev nD : Nat := 1
abbrev τ : Topo := Topo.v7x

variable {F : FTy → Type} [FloatOps F]
-- ==== Kernel4.lean ====
abbrev S160 : Shape := ⟨1, ![160]⟩
abbrev S1 : Shape := ⟨1, ![1]⟩
abbrev S81920x512 : Shape := ⟨2, ![81920, 512]⟩
abbrev S32x1024x512 : Shape := ⟨3, ![32, 1024, 512]⟩
abbrev S32x512x1024 : Shape := ⟨3, ![32, 512, 1024]⟩
abbrev S81920x1024 : Shape := ⟨2, ![81920, 1024]⟩
abbrev S512x512 : Shape := ⟨2, ![512, 512]⟩
abbrev S1x1024x512 : Shape := ⟨3, ![1, 1024, 512]⟩
abbrev S1x512x1024 : Shape := ⟨3, ![1, 512, 1024]⟩
abbrev S512x1024 : Shape := ⟨2, ![512, 1024]⟩
abbrev S1024x512 : Shape := ⟨2, ![1024, 512]⟩

abbrev nBuf : Space → Nat
  | .hbm => 5
  | .vmem => 13
  | .smem => 2
  | _ => 0

abbrev bufTy : (tb : Table) → Fin (tcTables nBuf tb) → BufTy
  | .hbm, ⟨0, _⟩ => ⟨S81920x512, .i32⟩
  | .hbm, ⟨1, _⟩ => ⟨S32x1024x512, .f32⟩
  | .hbm, ⟨2, _⟩ => ⟨S32x1024x512, .f32⟩
  | .hbm, ⟨3, _⟩ => ⟨S32x512x1024, .f32⟩
  | .hbm, ⟨4, _⟩ => ⟨S81920x1024, .bf16⟩
  | .local _ .vmem, ⟨0, _⟩ => ⟨S512x512, .i32⟩
  | .local _ .vmem, ⟨1, _⟩ => ⟨S512x512, .i32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S512x1024, .bf16⟩
  | .local _ .vmem, ⟨9, _⟩ => ⟨S512x1024, .bf16⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S160, .i32⟩
  | .local _ .smem, ⟨1, _⟩ => ⟨S1, .i32⟩
  | _, _ => ⟨S81920x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S160 : Shape := ⟨1, ![160]⟩
abbrev S1 : Shape := ⟨1, ![1]⟩
abbrev S81920x512 : Shape := ⟨2, ![81920, 512]⟩
abbrev S32x1024x512 : Shape := ⟨3, ![32, 1024, 512]⟩
abbrev S32x512x1024 : Shape := ⟨3, ![32, 512, 1024]⟩
abbrev S81920x512x2 : Shape := ⟨3, ![81920, 512, 2]⟩
abbrev S81920x512x1 : Shape := ⟨3, ![81920, 512, 1]⟩
abbrev S81920x1024 : Shape := ⟨2, ![81920, 1024]⟩
abbrev S160x512x1024 : Shape := ⟨3, ![160, 512, 1024]⟩
abbrev S_ : Shape := ⟨0, ![]⟩
abbrev S160x1 : Shape := ⟨2, ![160, 1]⟩
abbrev S160x3 : Shape := ⟨2, ![160, 3]⟩
abbrev S160x1x1024x512 : Shape := ⟨4, ![160, 1, 1024, 512]⟩
abbrev S160x1024x512 : Shape := ⟨3, ![160, 1024, 512]⟩
abbrev S160x512x512 : Shape := ⟨3, ![160, 512, 512]⟩
abbrev S160x1x512x1024 : Shape := ⟨4, ![160, 1, 512, 1024]⟩
abbrev S160x1x1 : Shape := ⟨3, ![160, 1, 1]⟩

abbrev nBuf : Space → Nat
  | .hbm => 126
  | .vmem => 0
  | .smem => 0
  | _ => 0

abbrev bufTy : (tb : Table) → Fin (tcTables nBuf tb) → BufTy
  | .hbm, ⟨0, _⟩ => ⟨S160, .i32⟩
  | .hbm, ⟨1, _⟩ => ⟨S1, .i32⟩
  | .hbm, ⟨2, _⟩ => ⟨S81920x512, .i32⟩
  | .hbm, ⟨3, _⟩ => ⟨S32x1024x512, .f32⟩
  | .hbm, ⟨4, _⟩ => ⟨S32x1024x512, .f32⟩
  | .hbm, ⟨5, _⟩ => ⟨S32x512x1024, .f32⟩
  | .hbm, ⟨6, _⟩ => ⟨S81920x512x2, .bf16⟩
  | .hbm, ⟨7, _⟩ => ⟨S81920x512x2, .f32⟩
  | .hbm, ⟨8, _⟩ => ⟨S81920x512x1, .f32⟩
  | .hbm, ⟨9, _⟩ => ⟨S81920x512, .f32⟩
  | .hbm, ⟨10, _⟩ => ⟨S81920x512x1, .f32⟩
  | .hbm, ⟨11, _⟩ => ⟨S81920x512, .f32⟩
  | .hbm, ⟨12, _⟩ => ⟨S81920x1024, .f32⟩
  | .hbm, ⟨13, _⟩ => ⟨S160x512x1024, .f32⟩
  | .hbm, ⟨14, _⟩ => ⟨S_, .i32⟩
  | .hbm, ⟨15, _⟩ => ⟨S160, .i32⟩
  | .hbm, ⟨16, _⟩ => ⟨S160, .i1⟩
  | .hbm, ⟨17, _⟩ => ⟨S_, .i32⟩
  | .hbm, ⟨18, _⟩ => ⟨S160, .i32⟩
  | .hbm, ⟨19, _⟩ => ⟨S160, .i32⟩
  | .hbm, ⟨20, _⟩ => ⟨S160, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S160x1, .i32⟩
  | .hbm, ⟨38, _⟩ => ⟨S160x1, .i32⟩
  | .hbm, ⟨39, _⟩ => ⟨S160x1, .i32⟩
  | .hbm, ⟨40, _⟩ => ⟨S160x3, .i32⟩
  | .hbm, ⟨41, _⟩ => ⟨S160x1x1024x512, .f32⟩
  | .hbm, ⟨42, _⟩ => ⟨S160x1024x512, .f32⟩
  | .hbm, ⟨43, _⟩ => ⟨S160x512x512, .f32⟩
  | .hbm, ⟨44, _⟩ => ⟨S160x512x512, .f32⟩
  | .hbm, ⟨45, _⟩ => ⟨S160x512x512, .f32⟩
  | .hbm, ⟨46, _⟩ => ⟨S_, .f32⟩
  | .hbm, ⟨47, _⟩ => ⟨S160x512x512, .f32⟩
  | .hbm, ⟨48, _⟩ => ⟨S160x512x512, .f32⟩
  | .hbm, ⟨49, _⟩ => ⟨S_, .f32⟩
  | .hbm, ⟨50, _⟩ => ⟨S160x512x512, .f32⟩
  | .hbm, ⟨51, _⟩ => ⟨S160x512x512, .f32⟩
  | .hbm, ⟨52, _⟩ => ⟨S160x512x512, .f32⟩
  | .hbm, ⟨53, _⟩ => ⟨S_, .i32⟩
  | .hbm, ⟨54, _⟩ => ⟨S160, .i32⟩
  | .hbm, ⟨55, _⟩ => ⟨S160, .i1⟩
  | .hbm, ⟨56, _⟩ => ⟨S_, .i32⟩
  | .hbm, ⟨57, _⟩ => ⟨S160, .i32⟩
  | .hbm, ⟨58, _⟩ => ⟨S160, .i32⟩
  | .hbm, ⟨59, _⟩ => ⟨S160, .i32⟩
  | .hbm, ⟨60, _⟩ => ⟨S_, .i32⟩
  | .hbm, ⟨61, _⟩ => ⟨S_, .i32⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i1⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S160x1, .i32⟩
  | .hbm, ⟨77, _⟩ => ⟨S160x1, .i32⟩
  | .hbm, ⟨78, _⟩ => ⟨S160x1, .i32⟩
  | .hbm, ⟨79, _⟩ => ⟨S160x3, .i32⟩
  | .hbm, ⟨80, _⟩ => ⟨S160x1x1024x512, .f32⟩
  | .hbm, ⟨81, _⟩ => ⟨S160x1024x512, .f32⟩
  | .hbm, ⟨82, _⟩ => ⟨S160x512x512, .f32⟩
  | .hbm, ⟨83, _⟩ => ⟨S160x512x512, .f32⟩
  | .hbm, ⟨84, _⟩ => ⟨S_, .i32⟩
  | .hbm, ⟨85, _⟩ => ⟨S160, .i32⟩
  | .hbm, ⟨86, _⟩ => ⟨S160, .i1⟩
  | .hbm, ⟨87, _⟩ => ⟨S_, .i32⟩
  | .hbm, ⟨88, _⟩ => ⟨S160, .i32⟩
  | .hbm, ⟨89, _⟩ => ⟨S160, .i32⟩
  | .hbm, ⟨90, _⟩ => ⟨S160, .i32⟩
  | .hbm, ⟨91, _⟩ => ⟨S_, .i32⟩
  | .hbm, ⟨92, _⟩ => ⟨S_, .i32⟩
  | .hbm, ⟨93, _⟩ => ⟨S_, .i1⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S_, .i32⟩
  | .hbm, ⟨100, _⟩ => ⟨S_, .i32⟩
  | .hbm, ⟨101, _⟩ => ⟨S_, .i1⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S_, .i32⟩
  | .hbm, ⟨106, _⟩ => ⟨S_, .i32⟩
  | .hbm, ⟨107, _⟩ => ⟨S160x1, .i32⟩
  | .hbm, ⟨108, _⟩ => ⟨S160x1, .i32⟩
  | .hbm, ⟨109, _⟩ => ⟨S160x1, .i32⟩
  | .hbm, ⟨110, _⟩ => ⟨S160x3, .i32⟩
  | .hbm, ⟨111, _⟩ => ⟨S160x1x512x1024, .f32⟩
  | .hbm, ⟨112, _⟩ => ⟨S160x512x1024, .f32⟩
  | .hbm, ⟨113, _⟩ => ⟨S160x512x1024, .f32⟩
  | .hbm, ⟨114, _⟩ => ⟨S160, .i32⟩
  | .hbm, ⟨115, _⟩ => ⟨S160x1x1, .i32⟩
  | .hbm, ⟨116, _⟩ => ⟨S_, .i32⟩
  | .hbm, ⟨117, _⟩ => ⟨S160x1x1, .i32⟩
  | .hbm, ⟨118, _⟩ => ⟨S160x1x1, .i1⟩
  | .hbm, ⟨119, _⟩ => ⟨S_, .f32⟩
  | .hbm, ⟨120, _⟩ => ⟨S_, .f32⟩
  | .hbm, ⟨121, _⟩ => ⟨S160x512x1024, .i1⟩
  | .hbm, ⟨122, _⟩ => ⟨S160x512x1024, .f32⟩
  | .hbm, ⟨123, _⟩ => ⟨S160x512x1024, .f32⟩
  | .hbm, ⟨124, _⟩ => ⟨S81920x1024, .f32⟩
  | .hbm, ⟨125, _⟩ => ⟨S81920x1024, .bf16⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_c_2 : Ref sig .tc := ⟨.hbm, 22, rfl⟩
abbrev main_v13 : Ref sig .tc := ⟨.hbm, 23, rfl⟩
abbrev main_c_3 : Ref sig .tc := ⟨.hbm, 24, rfl⟩
abbrev main_c_4 : Ref sig .tc := ⟨.hbm, 25, rfl⟩
abbrev main_v14 : Ref sig .tc := ⟨.hbm, 26, rfl⟩
abbrev main_c_5 : Ref sig .tc := ⟨.hbm, 27, rfl⟩
abbrev main_v15 : Ref sig .tc := ⟨.hbm, 28, rfl⟩
abbrev main_c_6 : Ref sig .tc := ⟨.hbm, 29, rfl⟩
abbrev main_c_7 : Ref sig .tc := ⟨.hbm, 30, rfl⟩
abbrev main_v16 : Ref sig .tc := ⟨.hbm, 31, rfl⟩
abbrev main_c_8 : Ref sig .tc := ⟨.hbm, 32, rfl⟩
abbrev main_c_9 : Ref sig .tc := ⟨.hbm, 33, rfl⟩
abbrev main_v17 : Ref sig .tc := ⟨.hbm, 34, rfl⟩
abbrev main_c_10 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v26 : Ref sig .tc := ⟨.hbm, 52, rfl⟩
abbrev main_c_11 : Ref sig .tc := ⟨.hbm, 53, rfl⟩
abbrev main_v27 : Ref sig .tc := ⟨.hbm, 54, rfl⟩
abbrev main_v28 : Ref sig .tc := ⟨.hbm, 55, rfl⟩
abbrev main_c_12 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_c_13 : Ref sig .tc := ⟨.hbm, 60, rfl⟩
abbrev main_c_14 : Ref sig .tc := ⟨.hbm, 61, rfl⟩
abbrev main_v32 : Ref sig .tc := ⟨.hbm, 62, rfl⟩
abbrev main_c_15 : Ref sig .tc := ⟨.hbm, 63, rfl⟩
abbrev main_c_16 : Ref sig .tc := ⟨.hbm, 64, rfl⟩
abbrev main_v33 : Ref sig .tc := ⟨.hbm, 65, rfl⟩
abbrev main_c_17 : Ref sig .tc := ⟨.hbm, 66, rfl⟩
abbrev main_v34 : Ref sig .tc := ⟨.hbm, 67, rfl⟩
abbrev main_c_18 : Ref sig .tc := ⟨.hbm, 68, rfl⟩
abbrev main_c_19 : Ref sig .tc := ⟨.hbm, 69, rfl⟩
abbrev main_v35 : Ref sig .tc := ⟨.hbm, 70, rfl⟩
abbrev main_c_20 : Ref sig .tc := ⟨.hbm, 71, rfl⟩
abbrev main_c_21 : Ref sig .tc := ⟨.hbm, 72, rfl⟩
abbrev main_v36 : Ref sig .tc := ⟨.hbm, 73, rfl⟩
abbrev main_c_22 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_c_23 : Ref sig .tc := ⟨.hbm, 84, rfl⟩
abbrev main_v46 : Ref sig .tc := ⟨.hbm, 85, rfl⟩
abbrev main_v47 : Ref sig .tc := ⟨.hbm, 86, rfl⟩
abbrev main_c_24 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_c_25 : Ref sig .tc := ⟨.hbm, 91, rfl⟩
abbrev main_c_26 : Ref sig .tc := ⟨.hbm, 92, rfl⟩
abbrev main_v51 : Ref sig .tc := ⟨.hbm, 93, rfl⟩
abbrev main_c_27 : Ref sig .tc := ⟨.hbm, 94, rfl⟩
abbrev main_c_28 : Ref sig .tc := ⟨.hbm, 95, rfl⟩
abbrev main_v52 : Ref sig .tc := ⟨.hbm, 96, rfl⟩
abbrev main_c_29 : Ref sig .tc := ⟨.hbm, 97, rfl⟩
abbrev main_v53 : Ref sig .tc := ⟨.hbm, 98, rfl⟩
abbrev main_c_30 : Ref sig .tc := ⟨.hbm, 99, rfl⟩
abbrev main_c_31 : Ref sig .tc := ⟨.hbm, 100, rfl⟩
abbrev main_v54 : Ref sig .tc := ⟨.hbm, 101, rfl⟩
abbrev main_c_32 : Ref sig .tc := ⟨.hbm, 102, rfl⟩
abbrev main_c_33 : Ref sig .tc := ⟨.hbm, 103, rfl⟩
abbrev main_v55 : Ref sig .tc := ⟨.hbm, 104, rfl⟩
abbrev main_c_34 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_cst : Ref sig .tc := ⟨.hbm, 119, rfl⟩
abbrev main_call1_v0 : Ref sig .tc := ⟨.hbm, 120, rfl⟩
abbrev main_call1_v1 : Ref sig .tc := ⟨.hbm, 121, rfl⟩
abbrev main_call1_v2 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩

abbrev nD : Nat := 1
abbrev τ : Topo := Topo.v7x

variable {F : FTy → Type} [FloatOps F]
-- ==== Proof.ExpertsRun.lean ====
module

public import proofs.«01_k».proof.Proof.Gen.Kernel4Ideal.Launch
public import proofs.«01_k».proof.Proof.Gen.Kernel4Ideal.Skeleton
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.VecWindow
public import Idealize.ShloMosaic.Lib.Tactic

@[expose] public section

set_option maxRecDepth 16384
set_option Elab.async false

noncomputable section

/-! # The experts' call: one grid point -/

namespace Cert.Kernel4Ideal.Exp

open Cert.Kernel4Ideal Cert.Kernel4Ideal.Gen Cert.Kernel4Ideal.Facts₀ Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The two tables and the three scratch buffers, whole. -/
abbrev tbE : Memref sig .tc .smem S160 .i32 := Memref.whole main_arg0
abbrev tbN : Memref sig .tc .smem S1 .i32 := Memref.whole main_arg1
abbrev sc1 : Memref sig .tc .vmem S1024x512 .bf16 := Memref.whole cc0_scratch0
abbrev sc3 : Memref sig .tc .vmem S1024x512 .bf16 := Memref.whole cc0_scratch1
abbrev sc2 : Memref sig .tc .vmem S512x1024 .bf16 := Memref.whole cc0_scratch2

/-- The expert of the block at point `i`, read from the table; -/
def eAt (T0 : S160.Idx → BitVec 32) (i : grid0.Coords) : BitVec 32 :=
  View.readAt (Elt F) tbE.view (Rect.unit (s := S160) (k0_off1 i) S1.size (Gen.k0_off1_inb i)).toLoadRect T0 (Shape.Idx.first (Gen.numel1_S1.symm ▸ Nat.one_pos))
/-- the expert of the block before it; -/
def ePrev (T0 : S160.Idx → BitVec 32) (i : grid0.Coords) : BitVec 32 :=
  View.readAt (Elt F) tbE.view (Rect.unit (s := S160) (k0_off2 i) S1.size (Gen.k0_off2_inb i)).toLoadRect T0 (Shape.Idx.first (Gen.numel1_S1.symm ▸ Nat.one_pos))
/-- and the number of blocks in use. -/
def nUsed (T1 : S1.Idx → BitVec 32) : BitVec 32 :=
  View.readAt (Elt F) tbN.view (Rect.unit (s := S1) ![0] S1.size Gen.inb_S1_S1_0).toLoadRect T1 (Shape.Idx.first (Gen.numel1_S1.symm ▸ Nat.one_pos))

/-- Point `i` loads its expert's weights anew. -/
def Reload (T0 : S160.Idx → BitVec 32) (i : grid0.Coords) : Prop :=
  Scalar.cmpi .ne (Scalar.extui (Scalar.ori (Scalar.cmpi .eq (BitVec.ofNat 32 (i 0).val) 0#32) (Scalar.cmpi .ne (eAt (F := F) T0 i) (ePrev (F := F) T0 i)))) 0#32 = 1#1

/-- What the point leaves in the result's block. -/
def outv (T1 : S1.Idx → BitVec 32) (i : grid0.Coords) (x0 : Vec F S512x512 .i32) (x1 x2 : Vec F S1x1024x512 .f32) (x3 : Vec F S1x512x1024 .f32) : Vec F S512x1024 .bf16 :=
  if k0_cond2 i (nUsed (F := F) T1) = 1#1 then k0_pay4 x0 (k0_pay1 x1) (k0_pay2 x2) (k0_pay3 x3) else k0_pay5

theorem word_ne (b : Bool) : Iff (Scalar.cmpi .ne (Scalar.extui (BitVec.ofBool b) : BitVec 32) 0#32 = 1#1) (b = true) := by
  cases b <;> decide
theorem cond2_iff (i : grid0.Coords) (v : BitVec 32) : Iff (k0_cond2 i v = 1#1) ((BitVec.ofNat 32 (i 0).val).slt v = true) :=
  word_ne _
theorem cond3_iff' (i : grid0.Coords) (v : BitVec 32) : Iff (k0_cond3 i v = 1#1) (v.sle (BitVec.ofNat 32 (i 0).val) = true) :=
  word_ne _
/-- A point computes its block or clears it, never both. -/
theorem cond3_iff (i : grid0.Coords) (v : BitVec 32) : Iff (k0_cond3 i v = 1#1) (¬ k0_cond2 i v = 1#1) := by
  rw [cond2_iff, cond3_iff', BitVec.sle_iff_toInt_le, BitVec.slt_iff_toInt_lt]
  exact Int.not_lt.symm

theorem rd1 (f : sc1.view.ty.Contents (Elt F)) : sc1.view.read (Elt F) f = f := rfl
theorem rd3 (f : sc3.view.ty.Contents (Elt F)) : sc3.view.read (Elt F) f = f := rfl
theorem rd2 (f : sc2.view.ty.Contents (Elt F)) : sc2.view.read (Elt F) f = f := rfl
/-- After a store of a whole block its contents are the payload. -/
theorem stX {κ : Kind} {sp : Space} {e : EltTy} (v : View sig κ sp S512x1024 e) (f : v.ty.Contents (Elt F))
    (inb : ∀ a, (![0, 0] : Fin 2 → ℕ) a + S512x1024.size a ≤ S512x1024.size a) (w : Vec F S512x1024 e)
    (L : List (View.Piece (Elt F) S512x1024 e)) :
    v.read (Elt F) (v.writes (Elt F) f (⟨Rect.unit (s := S512x1024) ![0, 0] S512x1024.size inb, w⟩ :: L)) = w :=
  View.read_writes_full v f inb w L
theorem stW {κ : Kind} {sp : Space} {e : EltTy} (v : View sig κ sp S1024x512 e) (f : v.ty.Contents (Elt F))
    (inb : ∀ a, (![0, 0] : Fin 2 → ℕ) a + S1024x512.size a ≤ S1024x512.size a) (w : Vec F S1024x512 e)
    (L : List (View.Piece (Elt F) S1024x512 e)) :
    v.read (Elt F) (v.writes (Elt F) f (⟨Rect.unit (s := S1024x512) ![0, 0] S1024x512.size inb, w⟩ :: L)) = w :=
  View.read_writes_full v f inb w L

set_option backward.proofsInPublic true in
set_option maxHeartbeats 8000000 in
/-- A point that loads its expert’s weights and computes its block. -/
theorem run_RU (c : Dev nD) (i : grid0.Coords) (arg3 : Memref sig .tc .vmem S512x512 .i32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S512x1024 .bf16) (harg7 : arg7.IsWhole)
    (T0 : S160.Idx → Elt F .i32) (T1 : S1.Idx → Elt F .i32) (x0 : Vec F S512x512 .i32) (x1 x2 : Vec F S1x1024x512 .f32) (x3 : Vec F S1x512x1024 .f32)
    (s1 s3 : Vec F S1024x512 .bf16) (s2 : Vec F S512x1024 .bf16)
    (hc0 : (Reload (F := F) T0 i)) (hc2 : (k0_cond2 i (nUsed (F := F) T1) = 1#1)) (hc3 : ¬(k0_cond3 i (nUsed (F := F) T1) = 1#1)) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
      ∗ (tbE.view.loc (c : Thread nD τ) ↦{fullShare.right} T0) ∗ (tbN.view.loc (c : Thread nD τ) ↦{fullShare.right} T1)
      ∗ (∃ d, owns (c : Thread nD τ) arg7 fullShare d)
      ∗ (sc1.view.loc (c : Thread nD τ) ↦{fullShare} s1) ∗ (sc3.view.loc (c : Thread nD τ) ↦{fullShare} s3) ∗ (sc2.view.loc (c : Thread nD τ) ↦{fullShare} s2)
      ∗ (iprop(owns (c : Thread nD τ) arg3 fullShare x0 ∗ owns (c : Thread nD τ) arg4 fullShare x1 ∗ owns (c : Thread nD τ) arg5 fullShare x2 ∗ owns (c : Thread nD τ) arg6 fullShare x3
          ∗ (tbE.view.loc (c : Thread nD τ) ↦{fullShare.right} T0) ∗ (tbN.view.loc (c : Thread nD τ) ↦{fullShare.right} T1)
          ∗ owns (c : Thread nD τ) arg7 fullShare (k0_pay4 x0 (k0_pay1 x1) (k0_pay2 x2) (k0_pay3 x3))
          ∗ (sc1.view.loc (c : Thread nD τ) ↦{fullShare} k0_pay1 x1) ∗ (sc3.view.loc (c : Thread nD τ) ↦{fullShare} k0_pay2 x2) ∗ (sc2.view.loc (c : Thread nD τ) ↦{fullShare} k0_pay3 x3)) -∗ K ⟨⟩))
      ⊢ wp frame (wpE (defs₀ (F := F)) Variants.none c none) Set.univ (cc0_moe_experts i tbE (Memref.isWhole_whole _) tbN (Memref.isWhole_whole _) arg3 harg3 arg4 harg4 arg5 harg5 arg6 harg6 arg7 harg7 sc1 (Memref.isWhole_whole _) sc3 (Memref.isWhole_whole _) sc2 (Memref.isWhole_whole _)) K := by
  unfold Reload eAt ePrev at hc0
  unfold nUsed at hc2 hc3
  rw [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, HT0, HT1, ⟨%d4, %f4, -, HO4⟩, HS0, HS1, HS2, Hk⟩
  obtain rfl := harg3.eq_unread hf0
  obtain rfl := harg4.eq_unread hf1
  obtain rfl := harg5.eq_unread hf2
  obtain rfl := harg6.eq_unread hf3
  have hS0 : sc1.IsWhole := Memref.isWhole_whole _
  have hS1 : sc3.IsWhole := Memref.isWhole_whole _
  have hS2 : sc2.IsWhole := Memref.isWhole_whole _
  have hT0 : tbE.IsWhole := Memref.isWhole_whole _
  have hT1 : tbN.IsWhole := Memref.isWhole_whole _
  sl_exec! (disch := first | exact hc0 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HT0]; · iexact HT0
  isplitl [HT1]; · iexact HT1
  isplitl [HO4]
  · iexists _; isplitr; swap; · iexact HO4
    ipureintro
    have e0 := View.readAt_full arg3.view (harg3.unread x0) Gen.inb_S512x512_S512x512_0_0
    rw [harg3.read_unread] at e0
    have e1 := View.readAt_full arg4.view (harg4.unread x1) Gen.inb_S1x1024x512_S1x1024x512_0_0_0
    rw [harg4.read_unread] at e1
    have e2 := View.readAt_full arg5.view (harg5.unread x2) Gen.inb_S1x1024x512_S1x1024x512_0_0_0
    rw [harg5.read_unread] at e2
    have e3 := View.readAt_full arg6.view (harg6.unread x3) Gen.inb_S1x512x1024_S1x512x1024_0_0_0
    rw [harg6.read_unread] at e3
    unfold run_RU.sl.HO4_1
    rw [stX]
    have g0 : sc1.view.readCov (run_RU.sl.HS0_1 c arg4 harg4 x1) (Rect.unit ![0, 0] S1024x512.size Gen.inb_S1024x512_S1024x512_0_0).toLoadRect = k0_pay1 x1 := by
      refine (View.readAt_full sc1.view _ _).trans ?_
      unfold run_RU.sl.HS0_1; rw [stW, e1]
    have g1 : sc3.view.readCov (run_RU.sl.HS1_1 c arg5 harg5 x2) (Rect.unit ![0, 0] S1024x512.size Gen.inb_S1024x512_S1024x512_0_0).toLoadRect = k0_pay2 x2 := by
      refine (View.readAt_full sc3.view _ _).trans ?_
      unfold run_RU.sl.HS1_1; rw [stW, e2]
    have g2 : sc2.view.readCov (run_RU.sl.HS2_1 c arg6 harg6 x3) (Rect.unit ![0, 0] S512x1024.size Gen.inb_S512x1024_S512x1024_0_0).toLoadRect = k0_pay3 x3 := by
      refine (View.readAt_full sc2.view _ _).trans ?_
      unfold run_RU.sl.HS2_1; rw [stX, e3]
    unfold run_RU.sl.v24 run_RU.sl.v26 run_RU.sl.v38
    rw [e0, g0, g1, g2]
  have w0 : sc1.view.writes (Elt F) sc1.view.junk (run_RU.sl.HS0_1 c arg4 harg4 x1) = k0_pay1 x1 := by
    have e1 := View.readAt_full arg4.view (harg4.unread x1) Gen.inb_S1x1024x512_S1x1024x512_0_0_0
    rw [harg4.read_unread] at e1
    unfold run_RU.sl.HS0_1
    rw [e1]
    refine (rd1 _).symm.trans ?_
    have g := stW (F := F) sc1.view sc1.view.junk Gen.inb_S1024x512_S1024x512_0_0 (k0_pay1 x1) []
    exact g
  have w1 : sc3.view.writes (Elt F) sc3.view.junk (run_RU.sl.HS1_1 c arg5 harg5 x2) = k0_pay2 x2 := by
    have e2 := View.readAt_full arg5.view (harg5.unread x2) Gen.inb_S1x1024x512_S1x1024x512_0_0_0
    rw [harg5.read_unread] at e2
    unfold run_RU.sl.HS1_1
    rw [e2]
    refine (rd3 _).symm.trans ?_
    have g := stW (F := F) sc3.view sc3.view.junk Gen.inb_S1024x512_S1024x512_0_0 (k0_pay2 x2) []
    exact g
  have w2 : sc2.view.writes (Elt F) sc2.view.junk (run_RU.sl.HS2_1 c arg6 harg6 x3) = k0_pay3 x3 := by
    have e3 := View.readAt_full arg6.view (harg6.unread x3) Gen.inb_S1x512x1024_S1x512x1024_0_0_0
    rw [harg6.read_unread] at e3
    unfold run_RU.sl.HS2_1
    rw [e3]
    refine (rd2 _).symm.trans ?_
    have g := stX (F := F) sc2.view sc2.view.junk Gen.inb_S512x1024_S512x1024_0_0 (k0_pay3 x3) []
    exact g
  rw [w0, w1, w2]
  isplitl [HS0]; · iexact HS0
  isplitl [HS1]; · iexact HS1
  iexact HS2
set_option backward.proofsInPublic true in
set_option maxHeartbeats 8000000 in
/-- A point that loads its expert’s weights and clears its block. -/
theorem run_RC (c : Dev nD) (i : grid0.Coords) (arg3 : Memref sig .tc .vmem S512x512 .i32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S512x1024 .bf16) (harg7 : arg7.IsWhole)
    (T0 : S160.Idx → Elt F .i32) (T1 : S1.Idx → Elt F .i32) (x0 : Vec F S512x512 .i32) (x1 x2 : Vec F S1x1024x512 .f32) (x3 : Vec F S1x512x1024 .f32)
    (s1 s3 : Vec F S1024x512 .bf16) (s2 : Vec F S512x1024 .bf16)
    (hc0 : (Reload (F := F) T0 i)) (hc2 : ¬(k0_cond2 i (nUsed (F := F) T1) = 1#1)) (hc3 : (k0_cond3 i (nUsed (F := F) T1) = 1#1)) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
      ∗ (tbE.view.loc (c : Thread nD τ) ↦{fullShare.right} T0) ∗ (tbN.view.loc (c : Thread nD τ) ↦{fullShare.right} T1)
      ∗ (∃ d, owns (c : Thread nD τ) arg7 fullShare d)
      ∗ (sc1.view.loc (c : Thread nD τ) ↦{fullShare} s1) ∗ (sc3.view.loc (c : Thread nD τ) ↦{fullShare} s3) ∗ (sc2.view.loc (c : Thread nD τ) ↦{fullShare} s2)
      ∗ (iprop(owns (c : Thread nD τ) arg3 fullShare x0 ∗ owns (c : Thread nD τ) arg4 fullShare x1 ∗ owns (c : Thread nD τ) arg5 fullShare x2 ∗ owns (c : Thread nD τ) arg6 fullShare x3
          ∗ (tbE.view.loc (c : Thread nD τ) ↦{fullShare.right} T0) ∗ (tbN.view.loc (c : Thread nD τ) ↦{fullShare.right} T1)
          ∗ owns (c : Thread nD τ) arg7 fullShare (k0_pay5 (F := F))
          ∗ (sc1.view.loc (c : Thread nD τ) ↦{fullShare} k0_pay1 x1) ∗ (sc3.view.loc (c : Thread nD τ) ↦{fullShare} k0_pay2 x2) ∗ (sc2.view.loc (c : Thread nD τ) ↦{fullShare} k0_pay3 x3)) -∗ K ⟨⟩))
      ⊢ wp frame (wpE (defs₀ (F := F)) Variants.none c none) Set.univ (cc0_moe_experts i tbE (Memref.isWhole_whole _) tbN (Memref.isWhole_whole _) arg3 harg3 arg4 harg4 arg5 harg5 arg6 harg6 arg7 harg7 sc1 (Memref.isWhole_whole _) sc3 (Memref.isWhole_whole _) sc2 (Memref.isWhole_whole _)) K := by
  unfold Reload eAt ePrev at hc0
  unfold nUsed at hc2 hc3
  rw [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, HT0, HT1, ⟨%d4, %f4, -, HO4⟩, HS0, HS1, HS2, Hk⟩
  obtain rfl := harg3.eq_unread hf0
  obtain rfl := harg4.eq_unread hf1
  obtain rfl := harg5.eq_unread hf2
  obtain rfl := harg6.eq_unread hf3
  have hS0 : sc1.IsWhole := Memref.isWhole_whole _
  have hS1 : sc3.IsWhole := Memref.isWhole_whole _
  have hS2 : sc2.IsWhole := Memref.isWhole_whole _
  have hT0 : tbE.IsWhole := Memref.isWhole_whole _
  have hT1 : tbN.IsWhole := Memref.isWhole_whole _
  sl_exec! (disch := first | exact hc0 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HT0]; · iexact HT0
  isplitl [HT1]; · iexact HT1
  isplitl [HO4]
  · iexists _; isplitr; swap; · iexact HO4
    ipureintro
    have e0 := View.readAt_full arg3.view (harg3.unread x0) Gen.inb_S512x512_S512x512_0_0
    rw [harg3.read_unread] at e0
    have e1 := View.readAt_full arg4.view (harg4.unread x1) Gen.inb_S1x1024x512_S1x1024x512_0_0_0
    rw [harg4.read_unread] at e1
    have e2 := View.readAt_full arg5.view (harg5.unread x2) Gen.inb_S1x1024x512_S1x1024x512_0_0_0
    rw [harg5.read_unread] at e2
    have e3 := View.readAt_full arg6.view (harg6.unread x3) Gen.inb_S1x512x1024_S1x512x1024_0_0_0
    rw [harg6.read_unread] at e3
    unfold run_RC.sl.HO4_1
    rw [stX]

  have w0 : sc1.view.writes (Elt F) sc1.view.junk (run_RC.sl.HS0_1 c arg4 harg4 x1) = k0_pay1 x1 := by
    have e1 := View.readAt_full arg4.view (harg4.unread x1) Gen.inb_S1x1024x512_S1x1024x512_0_0_0
    rw [harg4.read_unread] at e1
    unfold run_RC.sl.HS0_1
    rw [e1]
    refine (rd1 _).symm.trans ?_
    have g := stW (F := F) sc1.view sc1.view.junk Gen.inb_S1024x512_S1024x512_0_0 (k0_pay1 x1) []
    exact g
  have w1 : sc3.view.writes (Elt F) sc3.view.junk (run_RC.sl.HS1_1 c arg5 harg5 x2) = k0_pay2 x2 := by
    have e2 := View.readAt_full arg5.view (harg5.unread x2) Gen.inb_S1x1024x512_S1x1024x512_0_0_0
    rw [harg5.read_unread] at e2
    unfold run_RC.sl.HS1_1
    rw [e2]
    refine (rd3 _).symm.trans ?_
    have g := stW (F := F) sc3.view sc3.view.junk Gen.inb_S1024x512_S1024x512_0_0 (k0_pay2 x2) []
    exact g
  have w2 : sc2.view.writes (Elt F) sc2.view.junk (run_RC.sl.HS2_1 c arg6 harg6 x3) = k0_pay3 x3 := by
    have e3 := View.readAt_full arg6.view (harg6.unread x3) Gen.inb_S1x512x1024_S1x512x1024_0_0_0
    rw [harg6.read_unread] at e3
    unfold run_RC.sl.HS2_1
    rw [e3]
    refine (rd2 _).symm.trans ?_
    have g := stX (F := F) sc2.view sc2.view.junk Gen.inb_S512x1024_S512x1024_0_0 (k0_pay3 x3) []
    exact g
  rw [w0, w1, w2]
  isplitl [HS0]; · iexact HS0
  isplitl [HS1]; · iexact HS1
  iexact HS2
set_option backward.proofsInPublic true in
set_option maxHeartbeats 8000000 in
/-- A point that keeps the weights it has and computes its block. -/
theorem run_KU (c : Dev nD) (i : grid0.Coords) (arg3 : Memref sig .tc .vmem S512x512 .i32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S512x1024 .bf16) (harg7 : arg7.IsWhole)
    (T0 : S160.Idx → Elt F .i32) (T1 : S1.Idx → Elt F .i32) (x0 : Vec F S512x512 .i32) (x1 x2 : Vec F S1x1024x512 .f32) (x3 : Vec F S1x512x1024 .f32)
    (s1 s3 : Vec F S1024x512 .bf16) (s2 : Vec F S512x1024 .bf16)
    (hc0 : ¬(Reload (F := F) T0 i)) (hc2 : (k0_cond2 i (nUsed (F := F) T1) = 1#1)) (hc3 : ¬(k0_cond3 i (nUsed (F := F) T1) = 1#1)) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
      ∗ (tbE.view.loc (c : Thread nD τ) ↦{fullShare.right} T0) ∗ (tbN.view.loc (c : Thread nD τ) ↦{fullShare.right} T1)
      ∗ (∃ d, owns (c : Thread nD τ) arg7 fullShare d)
      ∗ (sc1.view.loc (c : Thread nD τ) ↦{fullShare} s1) ∗ (sc3.view.loc (c : Thread nD τ) ↦{fullShare} s3) ∗ (sc2.view.loc (c : Thread nD τ) ↦{fullShare} s2)
      ∗ (iprop(owns (c : Thread nD τ) arg3 fullShare x0 ∗ owns (c : Thread nD τ) arg4 fullShare x1 ∗ owns (c : Thread nD τ) arg5 fullShare x2 ∗ owns (c : Thread nD τ) arg6 fullShare x3
          ∗ (tbE.view.loc (c : Thread nD τ) ↦{fullShare.right} T0) ∗ (tbN.view.loc (c : Thread nD τ) ↦{fullShare.right} T1)
          ∗ owns (c : Thread nD τ) arg7 fullShare (k0_pay4 x0 s1 s3 s2)
          ∗ (sc1.view.loc (c : Thread nD τ) ↦{fullShare} s1) ∗ (sc3.view.loc (c : Thread nD τ) ↦{fullShare} s3) ∗ (sc2.view.loc (c : Thread nD τ) ↦{fullShare} s2)) -∗ K ⟨⟩))
      ⊢ wp frame (wpE (defs₀ (F := F)) Variants.none c none) Set.univ (cc0_moe_experts i tbE (Memref.isWhole_whole _) tbN (Memref.isWhole_whole _) arg3 harg3 arg4 harg4 arg5 harg5 arg6 harg6 arg7 harg7 sc1 (Memref.isWhole_whole _) sc3 (Memref.isWhole_whole _) sc2 (Memref.isWhole_whole _)) K := by
  unfold Reload eAt ePrev at hc0
  unfold nUsed at hc2 hc3
  rw [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, HT0, HT1, ⟨%d4, %f4, -, HO4⟩, HS0, HS1, HS2, Hk⟩
  obtain rfl := harg3.eq_unread hf0
  obtain rfl := harg4.eq_unread hf1
  obtain rfl := harg5.eq_unread hf2
  obtain rfl := harg6.eq_unread hf3
  have hS0 : sc1.IsWhole := Memref.isWhole_whole _
  have hS1 : sc3.IsWhole := Memref.isWhole_whole _
  have hS2 : sc2.IsWhole := Memref.isWhole_whole _
  have hT0 : tbE.IsWhole := Memref.isWhole_whole _
  have hT1 : tbN.IsWhole := Memref.isWhole_whole _
  sl_exec! (disch := first | exact hc0 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HT0]; · iexact HT0
  isplitl [HT1]; · iexact HT1
  isplitl [HO4]
  · iexists _; isplitr; swap; · iexact HO4
    ipureintro
    have e0 := View.readAt_full arg3.view (harg3.unread x0) Gen.inb_S512x512_S512x512_0_0
    rw [harg3.read_unread] at e0
    have e1 := View.readAt_full arg4.view (harg4.unread x1) Gen.inb_S1x1024x512_S1x1024x512_0_0_0
    rw [harg4.read_unread] at e1
    have e2 := View.readAt_full arg5.view (harg5.unread x2) Gen.inb_S1x1024x512_S1x1024x512_0_0_0
    rw [harg5.read_unread] at e2
    have e3 := View.readAt_full arg6.view (harg6.unread x3) Gen.inb_S1x512x1024_S1x512x1024_0_0_0
    rw [harg6.read_unread] at e3
    unfold run_KU.sl.HO4_1
    rw [stX]
    have g0 : View.readAt (Elt F) sc1.view (Rect.unit ![0, 0] S1024x512.size Gen.inb_S1024x512_S1024x512_0_0).toLoadRect s1 = s1 := View.readAt_full sc1.view s1 _
    have g1 : View.readAt (Elt F) sc3.view (Rect.unit ![0, 0] S1024x512.size Gen.inb_S1024x512_S1024x512_0_0).toLoadRect s3 = s3 := View.readAt_full sc3.view s3 _
    have g2 : View.readAt (Elt F) sc2.view (Rect.unit ![0, 0] S512x1024.size Gen.inb_S512x1024_S512x1024_0_0).toLoadRect s2 = s2 := View.readAt_full sc2.view s2 _
    rw [e0, g0, g1, g2]
  isplitl [HS0]; · iexact HS0
  isplitl [HS1]; · iexact HS1
  iexact HS2
set_option backward.proofsInPublic true in
set_option maxHeartbeats 8000000 in
/-- A point that keeps the weights it has and clears its block. -/
theorem run_KC (c : Dev nD) (i : grid0.Coords) (arg3 : Memref sig .tc .vmem S512x512 .i32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S512x1024 .bf16) (harg7 : arg7.IsWhole)
    (T0 : S160.Idx → Elt F .i32) (T1 : S1.Idx → Elt F .i32) (x0 : Vec F S512x512 .i32) (x1 x2 : Vec F S1x1024x512 .f32) (x3 : Vec F S1x512x1024 .f32)
    (s1 s3 : Vec F S1024x512 .bf16) (s2 : Vec F S512x1024 .bf16)
    (hc0 : ¬(Reload (F := F) T0 i)) (hc2 : ¬(k0_cond2 i (nUsed (F := F) T1) = 1#1)) (hc3 : (k0_cond3 i (nUsed (F := F) T1) = 1#1)) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
      ∗ (tbE.view.loc (c : Thread nD τ) ↦{fullShare.right} T0) ∗ (tbN.view.loc (c : Thread nD τ) ↦{fullShare.right} T1)
      ∗ (∃ d, owns (c : Thread nD τ) arg7 fullShare d)
      ∗ (sc1.view.loc (c : Thread nD τ) ↦{fullShare} s1) ∗ (sc3.view.loc (c : Thread nD τ) ↦{fullShare} s3) ∗ (sc2.view.loc (c : Thread nD τ) ↦{fullShare} s2)
      ∗ (iprop(owns (c : Thread nD τ) arg3 fullShare x0 ∗ owns (c : Thread nD τ) arg4 fullShare x1 ∗ owns (c : Thread nD τ) arg5 fullShare x2 ∗ owns (c : Thread nD τ) arg6 fullShare x3
          ∗ (tbE.view.loc (c : Thread nD τ) ↦{fullShare.right} T0) ∗ (tbN.view.loc (c : Thread nD τ) ↦{fullShare.right} T1)
          ∗ owns (c : Thread nD τ) arg7 fullShare (k0_pay5 (F := F))
          ∗ (sc1.view.loc (c : Thread nD τ) ↦{fullShare} s1) ∗ (sc3.view.loc (c : Thread nD τ) ↦{fullShare} s3) ∗ (sc2.view.loc (c : Thread nD τ) ↦{fullShare} s2)) -∗ K ⟨⟩))
      ⊢ wp frame (wpE (defs₀ (F := F)) Variants.none c none) Set.univ (cc0_moe_experts i tbE (Memref.isWhole_whole _) tbN (Memref.isWhole_whole _) arg3 harg3 arg4 harg4 arg5 harg5 arg6 harg6 arg7 harg7 sc1 (Memref.isWhole_whole _) sc3 (Memref.isWhole_whole _) sc2 (Memref.isWhole_whole _)) K := by
  unfold Reload eAt ePrev at hc0
  unfold nUsed at hc2 hc3
  rw [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, HT0, HT1, ⟨%d4, %f4, -, HO4⟩, HS0, HS1, HS2, Hk⟩
  obtain rfl := harg3.eq_unread hf0
  obtain rfl := harg4.eq_unread hf1
  obtain rfl := harg5.eq_unread hf2
  obtain rfl := harg6.eq_unread hf3
  have hS0 : sc1.IsWhole := Memref.isWhole_whole _
  have hS1 : sc3.IsWhole := Memref.isWhole_whole _
  have hS2 : sc2.IsWhole := Memref.isWhole_whole _
  have hT0 : tbE.IsWhole := Memref.isWhole_whole _
  have hT1 : tbN.IsWhole := Memref.isWhole_whole _
  sl_exec! (disch := first | exact hc0 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HT0]; · iexact HT0
  isplitl [HT1]; · iexact HT1
  isplitl [HO4]
  · iexists _; isplitr; swap; · iexact HO4
    ipureintro
    have e0 := View.readAt_full arg3.view (harg3.unread x0) Gen.inb_S512x512_S512x512_0_0
    rw [harg3.read_unread] at e0
    have e1 := View.readAt_full arg4.view (harg4.unread x1) Gen.inb_S1x1024x512_S1x1024x512_0_0_0
    rw [harg4.read_unread] at e1
    have e2 := View.readAt_full arg5.view (harg5.unread x2) Gen.inb_S1x1024x512_S1x1024x512_0_0_0
    rw [harg5.read_unread] at e2
    have e3 := View.readAt_full arg6.view (harg6.unread x3) Gen.inb_S1x512x1024_S1x512x1024_0_0_0
    rw [harg6.read_unread] at e3
    unfold run_KC.sl.HO4_1
    rw [stX]

  isplitl [HS0]; · iexact HS0
  isplitl [HS1]; · iexact HS1
  iexact HS2
end Cert.Kernel4Ideal.Exp

end
-- ==== Proof.Experts.lean ====
module

public import proofs.«01_k».proof.Proof.ExpertsRun
public import Idealize.ShloMosaic.Lib.Affine
public import Idealize.ShloMosaic.Adequacy
public import Idealize.ShloMosaic.Init

@[expose] public section

set_option maxRecDepth 16384
set_option Elab.async false

noncomputable section

/-! # The experts' call at any tables in range -/

namespace Cert.Kernel4Ideal.Exp

open Cert.Kernel4Ideal Cert.Kernel4Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ
abbrev EP : Emb (UR sig nD τ) 𝕄 := emb₁

/-! ## The point, whichever way it goes -/

/-- Whichever way a point goes it leaves `outv` in its block and its expert's weights in the scratch buffers, if the weights
    it did not load anew are already there. -/
theorem body_run (c : Dev nD) (i : grid0.Coords) (arg3 : Memref sig .tc .vmem S512x512 .i32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S512x1024 .bf16) (harg7 : arg7.IsWhole)
    (T0 : S160.Idx → Elt F .i32) (T1 : S1.Idx → Elt F .i32) (x0 : Vec F S512x512 .i32) (x1 x2 : Vec F S1x1024x512 .f32) (x3 : Vec F S1x512x1024 .f32)
    (s1 s3 : Vec F S1024x512 .bf16) (s2 : Vec F S512x1024 .bf16)
    (hk : ¬ Reload (F := F) T0 i → s1 = k0_pay1 x1 ∧ s3 = k0_pay2 x2 ∧ s2 = k0_pay3 x3) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
      ∗ (tbE.view.loc (c : Thread nD τ) ↦{fullShare.right} T0) ∗ (tbN.view.loc (c : Thread nD τ) ↦{fullShare.right} T1)
      ∗ (∃ d, owns (c : Thread nD τ) arg7 fullShare d)
      ∗ (sc1.view.loc (c : Thread nD τ) ↦{fullShare} s1) ∗ (sc3.view.loc (c : Thread nD τ) ↦{fullShare} s3) ∗ (sc2.view.loc (c : Thread nD τ) ↦{fullShare} s2)
      ∗ (iprop(owns (c : Thread nD τ) arg3 fullShare x0 ∗ owns (c : Thread nD τ) arg4 fullShare x1 ∗ owns (c : Thread nD τ) arg5 fullShare x2 ∗ owns (c : Thread nD τ) arg6 fullShare x3
          ∗ (tbE.view.loc (c : Thread nD τ) ↦{fullShare.right} T0) ∗ (tbN.view.loc (c : Thread nD τ) ↦{fullShare.right} T1)
          ∗ owns (c : Thread nD τ) arg7 fullShare (outv (F := F) T1 i x0 x1 x2 x3)
          ∗ (sc1.view.loc (c : Thread nD τ) ↦{fullShare} k0_pay1 x1) ∗ (sc3.view.loc (c : Thread nD τ) ↦{fullShare} k0_pay2 x2) ∗ (sc2.view.loc (c : Thread nD τ) ↦{fullShare} k0_pay3 x3)) -∗ K ⟨⟩))
      ⊢ wp frame (wpE (defs₀ (F := F)) Variants.none c none) Set.univ (cc0_moe_experts i tbE (Memref.isWhole_whole _) tbN (Memref.isWhole_whole _) arg3 harg3 arg4 harg4 arg5 harg5 arg6 harg6 arg7 harg7 sc1 (Memref.isWhole_whole _) sc3 (Memref.isWhole_whole _) sc2 (Memref.isWhole_whole _)) K := by
  unfold outv
  by_cases h2 : k0_cond2 i (nUsed (F := F) T1) = 1#1
  · have h3 : ¬ (k0_cond3 i (nUsed (F := F) T1) = 1#1) := fun h => (cond3_iff _ _).1 h h2
    rw [if_pos h2]
    by_cases h0 : Reload (F := F) T0 i
    · exact run_RU c i arg3 harg3 arg4 harg4 arg5 harg5 arg6 harg6 arg7 harg7 T0 T1 x0 x1 x2 x3 s1 s3 s2 h0 h2 h3 K
    · obtain ⟨rfl, rfl, rfl⟩ := hk h0
      exact run_KU c i arg3 harg3 arg4 harg4 arg5 harg5 arg6 harg6 arg7 harg7 T0 T1 x0 x1 x2 x3 _ _ _ h0 h2 h3 K
  · have h3 : k0_cond3 i (nUsed (F := F) T1) = 1#1 := (cond3_iff _ _).2 h2
    rw [if_neg h2]
    by_cases h0 : Reload (F := F) T0 i
    · exact run_RC c i arg3 harg3 arg4 harg4 arg5 harg5 arg6 harg6 arg7 harg7 T0 T1 x0 x1 x2 x3 s1 s3 s2 h0 h2 h3 K
    · obtain ⟨rfl, rfl, rfl⟩ := hk h0
      exact run_KC c i arg3 harg3 arg4 harg4 arg5 harg5 arg6 harg6 arg7 harg7 T0 T1 x0 x1 x2 x3 _ _ _ h0 h2 h3 K

/-! ## The words the points go by -/

theorem word_or (b d : Bool) : Iff (Scalar.cmpi .ne (Scalar.extui (Scalar.ori (BitVec.ofBool b) (BitVec.ofBool d)) : BitVec 32) 0#32 = 1#1) (b = true ∨ d = true) := by
  cases b <;> cases d <;> decide

/-- A point that keeps the weights is not the first, and its expert is that of the block before it. -/
theorem keep (T0 : S160.Idx → BitVec 32) (i : grid0.Coords) (h : ¬ Reload (F := F) T0 i) : BitVec.ofNat 32 (i 0).val ≠ 0#32 ∧ eAt (F := F) T0 i = ePrev (F := F) T0 i := by
  have h' : ¬ ((BitVec.ofNat 32 (i 0).val == 0#32) = true ∨ (eAt (F := F) T0 i != ePrev (F := F) T0 i) = true) := fun g => h ((word_or _ _).2 g)
  simp only [not_or, beq_iff_eq, bne_iff_ne, ne_eq, not_not] at h'
  exact h'

theorem coords_val : ∀ t : Fin grid0.N, (grid0.coords t 0).val = t.val := by decide +kernel
theorem off1_val : ∀ t : Fin grid0.N, k0_off1 (grid0.coords t) 0 = t.val := by decide +kernel
theorem off2_val : ∀ t : Fin grid0.N, k0_off2 (grid0.coords t) 0 = t.val - 1 := by decide +kernel

/-- The entry of the table at a position. -/
def pos (n : ℕ) (h : n < 160) : S160.Idx := fun a => match a with | ⟨0, _⟩ => ⟨n, h⟩

theorem eAt_eq (T0 : S160.Idx → BitVec 32) (t : Fin grid0.N) : eAt (F := F) T0 (grid0.coords t) = T0 (pos t.val t.isLt) := by
  unfold eAt
  refine congrArg T0 (funext fun a => Fin.ext ?_)
  match a with
  | ⟨0, _⟩ => show k0_off1 (grid0.coords t) 0 + 1 * 0 = t.val; rw [off1_val]; omega

theorem ePrev_eq (T0 : S160.Idx → BitVec 32) (t : Fin grid0.N) : ePrev (F := F) T0 (grid0.coords t) = T0 (pos (t.val - 1) (by have := t.isLt; have h : grid0.N = 160 := N_0; omega)) := by
  unfold ePrev
  refine congrArg T0 (funext fun a => Fin.ext ?_)
  match a with
  | ⟨0, _⟩ => show k0_off2 (grid0.coords t) 0 + 1 * 0 = t.val - 1; rw [off2_val]; omega

/-- The one index of the count. -/
def one0 : S1.Idx := fun a => match a with | ⟨0, _⟩ => ⟨0, Nat.one_pos⟩

theorem nUsed_eq (T1 : S1.Idx → BitVec 32) : nUsed (F := F) T1 = T1 one0 := by
  unfold nUsed
  refine congrArg T1 (funext fun a => Fin.ext ?_)
  match a with
  | ⟨0, _⟩ => rfl

/-! ## The pipeline at the tables -/

section
variable (pf : pre0.Contents (Elt F)) (ok : ok0 pf)

def adm : (pcfg0 (F := F)).Adm := ⟨pf, ok⟩
abbrev cfgA : Pipeline.Cfg sig Λ₀ := cfg0 (F := F) (adm pf ok)
abbrev pcs : Fin 1 → Pipeline.Cfg sig Λ₀ := Pipeline.pin (pcfgs (F := F)) fun _ => adm pf ok
abbrev crd (t : Fin (cfgA pf ok).N) : (cfgA pf ok).grid.Coords := (cfgA pf ok).grid.coords t

theorem ix1_eq (t : Fin (cfgA pf ok).N) : ((cfgA pf ok).win (1 : Fin 5)).index t = ![(eAt (F := F) (pf 0) (crd pf ok t)).toNat, 0, 0] := rfl
theorem ix2_eq (t : Fin (cfgA pf ok).N) : ((cfgA pf ok).win (2 : Fin 5)).index t = ![(eAt (F := F) (pf 0) (crd pf ok t)).toNat, 0, 0] := rfl
theorem ix3_eq (t : Fin (cfgA pf ok).N) : ((cfgA pf ok).win (3 : Fin 5)).index t = ![(eAt (F := F) (pf 0) (crd pf ok t)).toNat, 0, 0] := rfl
theorem ix0_eq (t : Fin (cfgA pf ok).N) : ((cfgA pf ok).win (0 : Fin 5)).index t = ![(Scalar.minsi (BitVec.ofNat 32 (crd pf ok t 0).val) (Scalar.subi (nUsed (F := F) (pf 1)) 1#32)).toNat, 0] := rfl
theorem ix4_eq (t : Fin (cfgA pf ok).N) : ((cfgA pf ok).win (4 : Fin 5)).index t = ![(BitVec.ofNat 32 (crd pf ok t 0).val).toNat, 0] := rfl

theorem idle4 (t : Fin (cfgA pf ok).N) : (cfgA pf ok).idle (4 : Fin 5) ((cfgA pf ok).grid.coords t) = false := by
  show (!(k0_cond2 (crd pf ok t) (pf.atD 1 ![0]) == 1#1) && !(k0_cond3 (crd pf ok t) (pf.atD 1 ![0]) == 1#1)) = false
  have h := cond3_iff (crd pf ok t) (pf.atD 1 ![0])
  by_cases h2 : k0_cond2 (crd pf ok t) (pf.atD 1 ![0]) = 1#1
  · simp [h2]
  · simp [h.2 h2]

abbrev ms0_0 (t : Fin (cfgA pf ok).N) : Memref sig .tc .vmem S512x512 .i32 := spec0_0.stage ((cfgA pf ok).slots t (0 : Fin 5))
abbrev hs0_0 (t : Fin (cfgA pf ok).N) : (ms0_0 pf ok t).IsWhole := hstage0_0 (((cfgA pf ok).slots t (0 : Fin 5)).cast nbuf0_0)
abbrev ms0_1 (t : Fin (cfgA pf ok).N) : Memref sig .tc .vmem S1x1024x512 .f32 := spec0_1.stage ((cfgA pf ok).slots t (1 : Fin 5))
abbrev hs0_1 (t : Fin (cfgA pf ok).N) : (ms0_1 pf ok t).IsWhole := hstage0_1 (((cfgA pf ok).slots t (1 : Fin 5)).cast nbuf0_1)
abbrev ms0_2 (t : Fin (cfgA pf ok).N) : Memref sig .tc .vmem S1x1024x512 .f32 := spec0_2.stage ((cfgA pf ok).slots t (2 : Fin 5))
abbrev hs0_2 (t : Fin (cfgA pf ok).N) : (ms0_2 pf ok t).IsWhole := hstage0_2 (((cfgA pf ok).slots t (2 : Fin 5)).cast nbuf0_2)
abbrev ms0_3 (t : Fin (cfgA pf ok).N) : Memref sig .tc .vmem S1x512x1024 .f32 := spec0_3.stage ((cfgA pf ok).slots t (3 : Fin 5))
abbrev hs0_3 (t : Fin (cfgA pf ok).N) : (ms0_3 pf ok t).IsWhole := hstage0_3 (((cfgA pf ok).slots t (3 : Fin 5)).cast nbuf0_3)
abbrev ms0_4 (t : Fin (cfgA pf ok).N) : Memref sig .tc .vmem S512x1024 .bf16 := spec0_4.stage ((cfgA pf ok).slots t (4 : Fin 5))
abbrev hs0_4 (t : Fin (cfgA pf ok).N) : (ms0_4 pf ok t).IsWhole := hstage0_4 (((cfgA pf ok).slots t (4 : Fin 5)).cast nbuf0_4)

variable (m : (ℓ : Loc nD τ sig) → Buf (Elt F) ℓ) (ρ : Dev nD → PrngReg)

/-- Window `w`'s block at point `t`, read off its array at launch. -/
def iblk (c : Dev nD) (w : Fin (cfgA pf ok).W) (t : Fin (cfgA pf ok).N) : (((cfgA pf ok).win w).xblock (crd pf ok t)).Idx → Elt F ((cfgA pf ok).win w).elt :=
  (((cfgA pf ok).win w).blk t).view.read (Elt F) ((s₀ m ρ).mem (((cfgA pf ok).win w).arr.view.loc (c : Thread nD τ)))

abbrev xb0 (c : Dev nD) (t : Fin (cfgA pf ok).N) : Vec F S512x512 .i32 := iblk pf ok m ρ c (0 : Fin 5) t
abbrev xb1 (c : Dev nD) (t : Fin (cfgA pf ok).N) : Vec F S1x1024x512 .f32 := iblk pf ok m ρ c (1 : Fin 5) t
abbrev xb2 (c : Dev nD) (t : Fin (cfgA pf ok).N) : Vec F S1x1024x512 .f32 := iblk pf ok m ρ c (2 : Fin 5) t
abbrev xb3 (c : Dev nD) (t : Fin (cfgA pf ok).N) : Vec F S1x512x1024 .f32 := iblk pf ok m ρ c (3 : Fin 5) t

/-- Two points of one expert see the same weights. -/
theorem xb1_same (c : Dev nD) (s t : Fin (cfgA pf ok).N) (h : eAt (F := F) (pf 0) (crd pf ok s) = eAt (F := F) (pf 0) (crd pf ok t)) : xb1 pf ok m ρ c s = xb1 pf ok m ρ c t := by
  funext y
  unfold xb1 iblk
  rw [View.read_apply, View.read_apply]
  refine congrArg ((s₀ m ρ).mem (((cfgA pf ok).win (1 : Fin 5)).arr.view.loc (c : Thread nD τ))) (funext fun a => Fin.ext ?_)
  show ((cfgA pf ok).win (1 : Fin 5)).index s a * S1x1024x512.size a + 1 * (y a).val = ((cfgA pf ok).win (1 : Fin 5)).index t a * S1x1024x512.size a + 1 * (y a).val
  rw [ix1_eq, ix1_eq, h]
theorem xb2_same (c : Dev nD) (s t : Fin (cfgA pf ok).N) (h : eAt (F := F) (pf 0) (crd pf ok s) = eAt (F := F) (pf 0) (crd pf ok t)) : xb2 pf ok m ρ c s = xb2 pf ok m ρ c t := by
  funext y
  unfold xb2 iblk
  rw [View.read_apply, View.read_apply]
  refine congrArg ((s₀ m ρ).mem (((cfgA pf ok).win (2 : Fin 5)).arr.view.loc (c : Thread nD τ))) (funext fun a => Fin.ext ?_)
  show ((cfgA pf ok).win (2 : Fin 5)).index s a * S1x1024x512.size a + 1 * (y a).val = ((cfgA pf ok).win (2 : Fin 5)).index t a * S1x1024x512.size a + 1 * (y a).val
  rw [ix2_eq, ix2_eq, h]
theorem xb3_same (c : Dev nD) (s t : Fin (cfgA pf ok).N) (h : eAt (F := F) (pf 0) (crd pf ok s) = eAt (F := F) (pf 0) (crd pf ok t)) : xb3 pf ok m ρ c s = xb3 pf ok m ρ c t := by
  funext y
  unfold xb3 iblk
  rw [View.read_apply, View.read_apply]
  refine congrArg ((s₀ m ρ).mem (((cfgA pf ok).win (3 : Fin 5)).arr.view.loc (c : Thread nD τ))) (funext fun a => Fin.ext ?_)
  show ((cfgA pf ok).win (3 : Fin 5)).index s a * S1x512x1024.size a + 1 * (y a).val = ((cfgA pf ok).win (3 : Fin 5)).index t a * S1x512x1024.size a + 1 * (y a).val
  rw [ix3_eq, ix3_eq, h]

/-- Before point `t` the scratch buffers hold the weights of the point before it, if there is one. -/
def Held (c : Dev nD) (n : ℕ) (a1 a3 : Vec F S1024x512 .bf16) (a2 : Vec F S512x1024 .bf16) : Prop :=
  ∀ s : Fin (cfgA pf ok).N, s.val + 1 = n → a1 = k0_pay1 (xb1 pf ok m ρ c s) ∧ a3 = k0_pay2 (xb2 pf ok m ρ c s) ∧ a2 = k0_pay3 (xb3 pf ok m ρ c s)

/-- The invariant before point `t`. -/
def Phi (c : Dev nD) (n : ℕ) : sProp 𝕄 :=
  iprop(∃ a1, ∃ a3, ∃ a2, ⌜Held pf ok m ρ c n a1 a3 a2⌝ ∗ (sc1.view.loc (c : Thread nD τ) ↦{fullShare} a1) ∗ (sc3.view.loc (c : Thread nD τ) ↦{fullShare} a3) ∗ (sc2.view.loc (c : Thread nD τ) ↦{fullShare} a2)
    ∗ (tbE.view.loc (c : Thread nD τ) ↦{fullShare.right} pf 0) ∗ (tbN.view.loc (c : Thread nD τ) ↦{fullShare.right} pf 1))

def outs (c : Dev nD) (t : Fin (cfgA pf ok).N) : Vec F S512x1024 .bf16 :=
  outv (F := F) (pf 1) (crd pf ok t) (xb0 pf ok m ρ c t) (xb1 pf ok m ρ c t) (xb2 pf ok m ρ c t) (xb3 pf ok m ρ c t)

/-- The proof data of the one pipeline on core `c`. -/
def dats (_ : Fin 1) (c : Dev nD) : Dat τ (Elt F) Unit ℕ (UR sig nD τ) ℕ (cfgA pf ok) c where
  A w := (s₀ m ρ).mem (((cfgA pf ok).win w).arr.view.loc (c : Thread nD τ))
  after w t := match w with
    | ⟨0, _⟩ => iblk pf ok m ρ c (0 : Fin 5) t
    | ⟨1, _⟩ => iblk pf ok m ρ c (1 : Fin 5) t
    | ⟨2, _⟩ => iblk pf ok m ρ c (2 : Fin 5) t
    | ⟨3, _⟩ => iblk pf ok m ρ c (3 : Fin 5) t
    | ⟨4, _⟩ => outs pf ok m ρ c t
  Φ t := Phi pf ok m ρ c t.val
  q _ := fullShare
  owed _ := 0

theorem after0_0 (c : Dev nD) (t : Fin (cfgA pf ok).N) : (dats pf ok m ρ 0 c).after (0 : Fin 5) t = iblk pf ok m ρ c (0 : Fin 5) t := rfl
theorem after0_1 (c : Dev nD) (t : Fin (cfgA pf ok).N) : (dats pf ok m ρ 0 c).after (1 : Fin 5) t = iblk pf ok m ρ c (1 : Fin 5) t := rfl
theorem after0_2 (c : Dev nD) (t : Fin (cfgA pf ok).N) : (dats pf ok m ρ 0 c).after (2 : Fin 5) t = iblk pf ok m ρ c (2 : Fin 5) t := rfl
theorem after0_3 (c : Dev nD) (t : Fin (cfgA pf ok).N) : (dats pf ok m ρ 0 c).after (3 : Fin 5) t = iblk pf ok m ρ c (3 : Fin 5) t := rfl
theorem after0_4 (c : Dev nD) (t : Fin (cfgA pf ok).N) : (dats pf ok m ρ 0 c).after (4 : Fin 5) t = outs pf ok m ρ c t := rfl

theorem before0_0 (c : Dev nD) (t : Fin (cfgA pf ok).N) (d) : (dats pf ok m ρ 0 c).before (0 : Fin 5) t d = iblk pf ok m ρ c (0 : Fin 5) t :=
  ((dats pf ok m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA pf ok).N) (d) : (dats pf ok m ρ 0 c).before (1 : Fin 5) t d = iblk pf ok m ρ c (1 : Fin 5) t :=
  ((dats pf ok m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA pf ok).N) (d) : (dats pf ok m ρ 0 c).before (2 : Fin 5) t d = iblk pf ok m ρ c (2 : Fin 5) t :=
  ((dats pf ok m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA pf ok).N) (d) : (dats pf ok m ρ 0 c).before (3 : Fin 5) t d = iblk pf ok m ρ c (3 : Fin 5) t :=
  ((dats pf ok m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- What a point that keeps the weights finds in the scratch buffers. -/
theorem held_keep (c : Dev nD) (t : Fin (cfgA pf ok).N) (a1 a3 : Vec F S1024x512 .bf16) (a2 : Vec F S512x1024 .bf16) (h : Held pf ok m ρ c t.val a1 a3 a2)
    (hr : ¬ Reload (F := F) (pf 0) (crd pf ok t)) : a1 = k0_pay1 (xb1 pf ok m ρ c t) ∧ a3 = k0_pay2 (xb2 pf ok m ρ c t) ∧ a2 = k0_pay3 (xb3 pf ok m ρ c t) := by
  have g := keep (F := F) (pf 0) (crd pf ok t) hr
  have hN : grid0.N = 160 := N_0
  have ht : t.val ≠ 0 := fun h0 => g.1 (by rw [show ((crd pf ok t) 0).val = t.val from coords_val t, h0])
  have hs : t.val - 1 < grid0.N := lt_of_le_of_lt (Nat.sub_le _ _) t.isLt
  have e : eAt (F := F) (pf 0) (crd pf ok ⟨t.val - 1, hs⟩) = eAt (F := F) (pf 0) (crd pf ok t) := by
    rw [g.2]
    exact (eAt_eq (F := F) (pf 0) (⟨t.val - 1, hs⟩ : Fin grid0.N)).trans (ePrev_eq (F := F) (pf 0) (t : Fin grid0.N)).symm
  have k := h ⟨t.val - 1, hs⟩ (by show t.val - 1 + 1 = t.val; omega)
  rw [xb1_same pf ok m ρ c _ t e, xb2_same pf ok m ρ c _ t e, xb3_same pf ok m ρ c _ t e] at k
  exact k

theorem held_next (c : Dev nD) (t : Fin (cfgA pf ok).N) : Held pf ok m ρ c (t.val + 1) (k0_pay1 (xb1 pf ok m ρ c t)) (k0_pay2 (xb2 pf ok m ρ c t)) (k0_pay3 (xb3 pf ok m ρ c t)) := by
  intro s hs
  have : s = t := Fin.ext (by omega)
  subst this
  exact ⟨rfl, rfl, rfl⟩

/-- The body at point `t` on its staging memrefs, as the pipeline calls it. -/
abbrev bodyAt0 (t : Fin (cfgA pf ok).N) : Prog (TpuEff nD τ sig (Elt F) Λ₀ .tc) PUnit :=
  cc0_moe_experts (crd pf ok t) (Memref.whole main_arg0) (Memref.isWhole_whole _) (Memref.whole main_arg1) (Memref.isWhole_whole _) (ms0_0 pf ok t) (hs0_0 pf ok t) (ms0_1 pf ok t) (hs0_1 pf ok t) (ms0_2 pf ok t) (hs0_2 pf ok t) (ms0_3 pf ok t) (hs0_3 pf ok t) (ms0_4 pf ok t) (hs0_4 pf ok t) (Memref.whole cc0_scratch0) (Memref.isWhole_whole _) (Memref.whole cc0_scratch1) (Memref.isWhole_whole _) (Memref.whole cc0_scratch2) (Memref.isWhole_whole _)

set_option maxHeartbeats 4000000 in
theorem sound_body (c : Dev nD) (t : Fin (cfgA pf ok).N) :
    iprop((dats pf ok m ρ 0 c).Φ t.castSucc ∗ (dats pf ok m ρ 0 c).owesAt () t.castSucc
        ∗ (∃ d, owns (c : Thread nD τ) (ms0_0 pf ok t) fullShare ((dats pf ok m ρ 0 c).before (0 : Fin 5) t d))
        ∗ (∃ d, owns (c : Thread nD τ) (ms0_1 pf ok t) fullShare ((dats pf ok m ρ 0 c).before (1 : Fin 5) t d))
        ∗ (∃ d, owns (c : Thread nD τ) (ms0_2 pf ok t) fullShare ((dats pf ok m ρ 0 c).before (2 : Fin 5) t d))
        ∗ (∃ d, owns (c : Thread nD τ) (ms0_3 pf ok t) fullShare ((dats pf ok m ρ 0 c).before (3 : Fin 5) t d))
        ∗ (∃ d, owns (c : Thread nD τ) (ms0_4 pf ok t) fullShare ((dats pf ok m ρ 0 c).before (4 : Fin 5) t d)))
      ⊢ wp frame (wpE (defs₀ (F := F)) Variants.none c none) Set.univ (bodyAt0 pf ok t) fun _ =>
          iprop((dats pf ok m ρ 0 c).Φ t.succ ∗ (dats pf ok m ρ 0 c).owesAt () t.succ
            ∗ bigSep Finset.univ fun w : Fin (cfgA pf ok).W =>
                match (cfgA pf ok).idle w ((cfgA pf ok).grid.coords t) with
                | true =>
                  match ((cfgA pf ok).win w).flush t with
                  | false => iprop(∃ d, owns (c : Thread nD τ) (((cfgA pf ok).win w).stage ((cfgA pf ok).slots t w)) fullShare ((dats pf ok m ρ 0 c).before w t d))
                  | true => owns (c : Thread nD τ) (((cfgA pf ok).win w).stage ((cfgA pf ok).slots t w)) fullShare ((dats pf ok m ρ 0 c).after w t)
                | false => owns (c : Thread nD τ) (((cfgA pf ok).win w).stage ((cfgA pf ok).slots t w)) fullShare ((dats pf ok m ρ 0 c).after w t)) := by
  rw [bigSep_W0]
  rewrite [idle4 pf ok t]
  simp only [before0_0, before0_1, before0_2, before0_3, after0_0, after0_1, after0_2, after0_3, after0_4]
  rewrite [show (dats pf ok m ρ 0 c).Φ t.succ = Phi pf ok m ρ c (t.val + 1) from rfl, show (dats pf ok m ρ 0 c).Φ t.castSucc = Phi pf ok m ρ c t.val from rfl,
    show (dats pf ok m ρ 0 c).owesAt () t.succ = (dats pf ok m ρ 0 c).owesAt () t.castSucc from rfl]
  unfold Phi
  iintro ⟨⟨%a1, %a3, %a2, %hh, HS0, HS1, HS2, HT0, HT1⟩, Ho, ⟨%d0, H0⟩, ⟨%d1, H1⟩, ⟨%d2, H2⟩, ⟨%d3, H3⟩, ⟨%d4, H4⟩⟩
  iapply (body_run c (crd pf ok t) (ms0_0 pf ok t) (hs0_0 pf ok t) (ms0_1 pf ok t) (hs0_1 pf ok t) (ms0_2 pf ok t) (hs0_2 pf ok t) (ms0_3 pf ok t) (hs0_3 pf ok t) (ms0_4 pf ok t) (hs0_4 pf ok t) (pf 0) (pf 1)
    (xb0 pf ok m ρ c t) (xb1 pf ok m ρ c t) (xb2 pf ok m ρ c t) (xb3 pf ok m ρ c t) a1 a3 a2 (held_keep pf ok m ρ c t a1 a3 a2 hh) _)
  isplitl [H0]; · iexact H0
  isplitl [H1]; · iexact H1
  isplitl [H2]; · iexact H2
  isplitl [H3]; · iexact H3
  isplitl [HT0]; · iexact HT0
  isplitl [HT1]; · iexact HT1
  isplitl [H4]; · iexists _; iexact H4
  isplitl [HS0]; · iexact HS0
  isplitl [HS1]; · iexact HS1
  isplitl [HS2]; · iexact HS2
  iintro ⟨H0, H1, H2, H3, HT0, HT1, H4, HS0, HS1, HS2⟩
  isplitl [HS0 HS1 HS2 HT0 HT1]
  · iexists _, _, _; isplitr; swap
    · isplitl [HS0]; · iexact HS0
      isplitl [HS1]; · iexact HS1
      isplitl [HS2]; · iexact HS2
      isplitl [HT0]; · iexact HT0
      iexact HT1
    · ipureintro; exact held_next pf ok m ρ c t
  isplitl [Ho]; · iexact Ho
  isplitl [H0]; · iexact H0
  isplitl [H1]; · iexact H1
  isplitl [H2]; · iexact H2
  isplitl [H3]; · iexact H3
  iexact H4

theorem body_obligation (c : Dev nD) : BodyObligation (dats pf ok m ρ 0 c) (defs₀ (F := F)) Variants.none () Set.univ := fun t => by
  rw [bigSep_W0]
  exact sound_body pf ok m ρ c t

/-! ## The launch -/

/-- The rounds library's launch element. -/
def u₀ : UR sig nD τ :=
  initOf (Pipeline.cells (pcs pf ok) ((launch0 (F := F)).cellOf_inj fun _ => adm pf ok))
    (Pipeline.launchToks (pcs pf ok) ((launch0 (F := F)).cellOf_inj fun _ => adm pf ok))

theorem share_eq (c : Dev nD) (w : Fin (cfgA pf ok).W) : (dats pf ok m ρ 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm pf ok).1 ∗ Pipeline.scopedRest spec0 c) ⊢ (dats pf ok m ρ 0 c).Φ 0 := by
  rw [prefHeld_eq, scopedRest0_eq, show (dats pf ok m ρ 0 c).Φ 0 = Phi pf ok m ρ c 0 from rfl]
  unfold Phi
  iintro ⟨-, ⟨HT0, HT1⟩, ⟨%a0, HS0⟩, ⟨%a1, HS1⟩, ⟨%a2, HS2⟩⟩
  iexists a0, a1, a2; isplitr; swap
  · isplitl [HS0]; · iexact HS0
    isplitl [HS1]; · iexact HS1
    isplitl [HS2]; · iexact HS2
    isplitl [HT0]; · iexact HT0
    iexact HT1
  · ipureintro; intro s hs; omega

theorem phiN_exit (c : Dev nD) : (dats pf ok m ρ 0 c).Φ (Fin.last (cfgA pf ok).N) ⊢ iprop(BI.emp ∗ Pipeline.scopedRest spec0 c) := by
  rw [scopedRest0_eq, show (dats pf ok m ρ 0 c).Φ (Fin.last (cfgA pf ok).N) = Phi pf ok m ρ c (cfgA pf ok).N from rfl]
  unfold Phi
  iintro ⟨%a1, %a3, %a2, -, HS0, HS1, HS2, -, -⟩
  isplitr; · iempintro
  isplitl [HS0]
  · iexists a1; iexact HS0
  isplitl [HS1]
  · iexists a3; iexact HS1
  iexists a2; iexact HS2

/-- Every array at what the pipeline leaves in it, every table at what the pipeline ran at. -/
def QC : PUnit × MemSt nD τ sig (Elt F) → Prop := fun r =>
  ∀ c : Dev nD, (∀ w : Fin (cfgA pf ok).W, r.2.mem (((cfgA pf ok).win w).arr.view.loc (c : Thread nD τ)) = (dats pf ok m ρ 0 c).arrAt w (cfgA pf ok).N)
    ∧ ∀ j, r.2.mem ((c : Thread nD τ).loc (pre0.ref j)) = (adm pf ok).1 j

set_option backward.isDefEq.respectTransparency.types false in
set_option maxHeartbeats 4000000 in
theorem run_main_quiescent (hp : ∀ (c : Dev nD) (j : Fin 2), m ((c : Thread nD τ).loc (pre0.ref j)) = pf j) : θ_run (defs (F := F)) (onTc (τ := τ) (main (F := F))) (s₀ m ρ) (fun r => QC pf ok m ρ r ∧ r.2.sem = fun _ => 0) :=
  Pipeline.θ_run_region_noSem_pf_quiescent pcfgs (fun _ => adm pf ok) (dats pf ok m ρ) () ((launch0 (F := F)).cellOf_inj fun _ => adm pf ok) (0 : Fin 1)
    (launch0 (F := F)).win.to₀ (launch0 (F := F)).pre EP defs₀ Variants.none m ρ main
    (hbody := fun c => (body_obligation pf ok m ρ c).loose) (hne := (launch0 (F := F)).block_pos)
    (harr := (launch0 (F := F)).arr_whole) (hstage := (launch0 (F := F)).stage_whole) (howed := fun _ _ => rfl)
    (u₀ := u₀ pf ok) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs pf ok) (dats pf ok m ρ) 0 (launch0 (F := F)).win.arr_inj c (launch0 (F := F)).arr_whole
      (share_eq pf ok m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi0_intro pf ok m ρ)
    (hout := phiN_exit pf ok m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end as they were, and the result as the pipeline leaves it. -/
theorem run_blocks (hp : ∀ (c : Dev nD) (j : Fin 2), m ((c : Thread nD τ).loc (pre0.ref j)) = pf j) :
    θ_run (defs (F := F)) (onTc (τ := τ) (main (F := F))) ⟨m, fun _ => 0, ρ⟩ (fun r => (∀ c : Dev nD,
      r.2.mem ((c.tc : Thread nD τ).loc main_v0) = (dats pf ok m ρ 0 c).arrAt (4 : Fin 5) (cfgA pf ok).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨(h.1 c).1 (4 : Fin 5), ((h.1 c).2 0).trans (hp c 0).symm, ((h.1 c).2 1).trans (hp c 1).symm, ((h.1 c).1 (0 : Fin 5)).trans ((dats pf ok m ρ 0 c).arrAt_in (0 : Fin 5) rfl _), ((h.1 c).1 (1 : Fin 5)).trans ((dats pf ok m ρ 0 c).arrAt_in (1 : Fin 5) rfl _), ((h.1 c).1 (2 : Fin 5)).trans ((dats pf ok m ρ 0 c).arrAt_in (2 : Fin 5) rfl _), ((h.1 c).1 (3 : Fin 5)).trans ((dats pf ok m ρ 0 c).arrAt_in (3 : Fin 5) rfl _)⟩, h.2⟩)
    (run_main_quiescent pf ok m ρ hp)

end

/-! ## The tables in range -/

set_option maxHeartbeats 1000000 in
/-- Tables in range put every window's block inside its array. -/
theorem ok_of (pf : pre0.Contents (Elt F)) (he : ∀ j : S160.Idx, ((pf 0 : S160.Idx → BitVec 32) j).toNat < 32)
    (hn : 1 ≤ ((pf 1 : S1.Idx → BitVec 32) one0).toNat ∧ ((pf 1 : S1.Idx → BitVec 32) one0).toNat ≤ 160) : ok0 pf := by
  have hE : ∀ i : grid0.Coords, (eAt (F := F) (pf 0) i).toNat < 32 := fun i => he _
  have hN : 1 ≤ (nUsed (F := F) (pf 1)).toNat ∧ (nUsed (F := F) (pf 1)).toNat ≤ 160 := (nUsed_eq (F := F) (pf 1)).symm ▸ hn
  refine ⟨fun i => ⟨?_, .inl rfl⟩,
    fun i => ⟨?_, .inl rfl⟩, fun i => ⟨?_, .inl rfl⟩, fun i => ⟨?_, .inl rfl⟩⟩
  · have hm : (Scalar.minsi (BitVec.ofNat 32 (i 0).val) (Scalar.subi (nUsed (F := F) (pf 1)) 1#32)).toNat < 160 := by
      have hi : (i 0).val < 160 := (i 0).isLt
      generalize nUsed (F := F) (pf 1) = v at hN ⊢
      show (if (BitVec.ofNat 32 (i 0).val).slt (v - 1#32) then BitVec.ofNat 32 (i 0).val else v - 1#32).toNat < 160
      split
      · rw [BitVec.toNat_ofNat]; omega
      · rw [BitVec.toNat_sub]; simp only [BitVec.toNat_ofNat]; omega
    intro a
    show (![(Scalar.minsi (BitVec.ofNat 32 (i 0).val) (Scalar.subi (nUsed (F := F) (pf 1)) 1#32)).toNat, 0] a + 1) * S512x512.size a ≤ S81920x512.size a
    match a with
    | ⟨0, _⟩ => show ((Scalar.minsi (BitVec.ofNat 32 (i 0).val) (Scalar.subi (nUsed (F := F) (pf 1)) 1#32)).toNat + 1) * 512 ≤ 81920; omega
    | ⟨1, _⟩ => show (0 + 1) * 512 ≤ 512; omega
  · intro a
    have := hE i
    show (![(eAt (F := F) (pf 0) i).toNat, 0, 0] a + 1) * S1x1024x512.size a ≤ S32x1024x512.size a
    match a with
    | ⟨0, _⟩ => show ((eAt (F := F) (pf 0) i).toNat + 1) * 1 ≤ 32; omega
    | ⟨1, _⟩ => show (0 + 1) * 1024 ≤ 1024; omega
    | ⟨2, _⟩ => show (0 + 1) * 512 ≤ 512; omega
  · intro a
    have := hE i
    show (![(eAt (F := F) (pf 0) i).toNat, 0, 0] a + 1) * S1x1024x512.size a ≤ S32x1024x512.size a
    match a with
    | ⟨0, _⟩ => show ((eAt (F := F) (pf 0) i).toNat + 1) * 1 ≤ 32; omega
    | ⟨1, _⟩ => show (0 + 1) * 1024 ≤ 1024; omega
    | ⟨2, _⟩ => show (0 + 1) * 512 ≤ 512; omega
  · intro a
    have := hE i
    show (![(eAt (F := F) (pf 0) i).toNat, 0, 0] a + 1) * S1x512x1024.size a ≤ S32x512x1024.size a
    match a with
    | ⟨0, _⟩ => show ((eAt (F := F) (pf 0) i).toNat + 1) * 1 ≤ 32; omega
    | ⟨1, _⟩ => show (0 + 1) * 512 ≤ 512; omega
    | ⟨2, _⟩ => show (0 + 1) * 1024 ≤ 1024; omega

end Cert.Kernel4Ideal.Exp

end
-- ==== Proof.Merge.lean ====
module

public import proofs.«01_k».proof.Proof.Gen.Kernel3Ideal.Value
public import Idealize.ShloMosaic.Lib.Pointwise
@[expose] public section
set_option maxRecDepth 16384
set_option maxHeartbeats 1000000
noncomputable section
namespace Cert.Kernel3Ideal.Merge
open Cert.Kernel3Ideal Cert.Kernel3Ideal.Gen Idealize.ShloMosaic Idealize.ShloMosaic.TcCoe Idealize.SL.Sem

/-! # One block of the merge call: 1024 tokens, computed in two halves of 512 -/

/-- The logistic function as the kernel computes it. -/
def sg (z : EReal) : EReal := Ideal.div 1 (1 + Ideal.exp (0 - z))

/-- The blocks one grid point reads, as the windows deliver them. -/
structure Ins where
  ret : Vec Ideal S1x1024x1024 .bf16
  hy : Vec Ideal S1024x512 .bf16
  ga : Vec Ideal S1x1024x512 .bf16
  gb : Vec Ideal S1x1024x512 .bf16
  ha : Vec Ideal S1x1024x512 .bf16
  hb : Vec Ideal S1x1024x512 .bf16
  x : Vec Ideal S1x1024x1024 .f32
  gt : Vec Ideal S1x1x1024 .f32
  sh : Vec Ideal S1x1x1024 .f32
  sc : Vec Ideal S1x1x1024 .f32
  ng : Vec Ideal S1x1024 .f32
  wr : Vec Ideal S1024x1024 .bf16
  wh : Vec Ideal S512x1024 .bf16
  wo : Vec Ideal S1024x1024 .bf16

/-- Two half-width blocks side by side. -/
def two (a b : Vec Ideal S1x1024x512 .bf16) (r k : Fin 1024) : EReal :=
  if h : k.val < 512 then a (ix3 0 r ⟨k.val, h⟩) else b (ix3 0 r ⟨k.val - 512, by omega⟩)

/-- The gated sum of the two branches. -/
def mixed (B : Ins) (r k : Fin 1024) : EReal :=
  sg (two B.ga B.gb r k) * (∑ d, B.ret (ix3 0 r d) * B.wr (ix2 d k)) + sg (two B.ha B.hb r k) * ∑ d, B.hy (ix2 r d) * B.wh (ix2 d k)

/-- The residual stream after the mix. -/
def x1 (B : Ins) (r j : Fin 1024) : EReal :=
  B.x (ix3 0 r j) + B.gt (ix3 0 0 j) * ∑ k, mixed B r k * B.wo (ix2 k j)

theorem pay5_e (a b : Vec Ideal S1x512x512 .bf16) (x : Vec Ideal S1x512x1024 .bf16) (w : Vec Ideal S1024x1024 .bf16) (r : Fin 512) (k : Fin 1024) :
    k0_pay5 a b x w (ix2 r k) = sg (if h : k.val < 512 then a (ix3 0 r ⟨k.val, h⟩) else b (ix3 0 r ⟨k.val - 512, by omega⟩)) * ∑ d, x (ix3 0 r d) * w (ix2 d k) := by
  pointwise [k0_pay5]
  rfl

/-- The rows over the root of their mean square, with the gain, one plus the scale, and the shift. -/
def h2 (B : Ins) (r j : Fin 1024) : EReal :=
  x1 B r j * Ideal.rsqrt (Ideal.div (∑ d, x1 B r d * x1 B r d) (Ideal.ofBits .f32 0x44800000#32) + Ideal.ofBits .f32 0x358637BD#32)
    * B.ng (ix2 0 j) * (1 + B.sc (ix3 0 0 j)) + B.sh (ix3 0 0 j)

theorem pay6_e (a b : Vec Ideal S1x512x512 .bf16) (r : Fin 512) (k : Fin 1024) :
    k0_pay6 a b (ix2 r k) = 0 - (if h : k.val < 512 then a (ix3 0 r ⟨k.val, h⟩) else b (ix3 0 r ⟨k.val - 512, by omega⟩) : EReal) := by
  pointwise [k0_pay6]

theorem pay40_e (a b : Vec Ideal S1x512x512 .bf16) (r : Fin 512) (k : Fin 1024) :
    k0_pay40 a b (ix2 r k) = (if h : k.val < 512 then a (ix3 0 r ⟨k.val, h⟩) else b (ix3 0 r ⟨k.val - 512, by omega⟩) : EReal) := by
  pointwise [k0_pay40]

theorem pay41_e (a b : Vec Ideal S1x512x512 .bf16) (r : Fin 512) (k : Fin 1024) :
    k0_pay41 a b (ix2 r k) = sg (if h : k.val < 512 then a (ix3 0 r ⟨k.val, h⟩) else b (ix3 0 r ⟨k.val - 512, by omega⟩)) := by
  pointwise [k0_pay41]
  rfl

/-! ## One half: the rows `row` of the block -/

section Half

variable (B : Ins) (row : Fin 512 → Fin 1024) {ga gb ha hb : Vec Ideal S1x512x512 .bf16} {rt : Vec Ideal S1x512x1024 .bf16} {y : Vec Ideal S512x512 .bf16} {x : Vec Ideal S1x512x1024 .f32}
  (hga : ∀ r k, ga (ix3 0 r k) = B.ga (ix3 0 (row r) k)) (hgb : ∀ r k, gb (ix3 0 r k) = B.gb (ix3 0 (row r) k))
  (hha : ∀ r k, ha (ix3 0 r k) = B.ha (ix3 0 (row r) k)) (hhb : ∀ r k, hb (ix3 0 r k) = B.hb (ix3 0 (row r) k))
  (hrt : ∀ r k, rt (ix3 0 r k) = B.ret (ix3 0 (row r) k)) (hy : ∀ r k, y (ix2 r k) = B.hy (ix2 (row r) k)) (hx : ∀ r k, x (ix3 0 r k) = B.x (ix3 0 (row r) k))
include hga hgb hha hhb hrt hy hx

/-- The first half's residual rows. -/
theorem pay7_e (r : Fin 512) (j : Fin 1024) : k0_pay7 (k0_pay5 ga gb rt B.wr) (k0_pay6 ha hb) y B.wh x B.gt B.wo (ix2 r j) = x1 B (row r) j := by
  pointwise [k0_pay7]
  simp only [pay5_e, pay6_e, hga, hgb, hha, hhb, hrt, hy, hx]
  rfl

/-- The second half's. -/
theorem pay42_e (r : Fin 512) (j : Fin 1024) : k0_pay42 (k0_pay40 ha hb) (k0_pay41 ga gb) rt B.wr y B.wh x B.gt B.wo (ix2 r j) = x1 B (row r) j := by
  pointwise [k0_pay42]
  simp only [pay40_e, pay41_e, hga, hgb, hha, hhb, hrt, hy, hx]
  rfl

theorem pay8_e (r : Fin 512) (j : Fin 1024) : k0_pay8 (k0_pay5 ga gb rt B.wr) (k0_pay6 ha hb) y B.wh x B.gt B.wo (ix3 0 r j) = x1 B (row r) j := by
  rw [← pay7_e B row hga hgb hha hhb hrt hy hx]
  unfold k0_pay8
  generalize k0_pay7 (F := Ideal) _ _ _ _ _ _ _ = q
  pointwise

theorem pay43_e (r : Fin 512) (j : Fin 1024) : k0_pay43 (k0_pay40 ha hb) (k0_pay41 ga gb) rt B.wr y B.wh x B.gt B.wo (ix3 0 r j) = x1 B (row r) j := by
  rw [← pay42_e B row hga hgb hha hhb hrt hy hx]
  unfold k0_pay43
  generalize k0_pay42 (F := Ideal) _ _ _ _ _ _ _ _ _ = q
  pointwise

/-- The first half's normalised and modulated rows. -/
theorem pay11_e (r : Fin 512) (j : Fin 1024) : k0_pay11 (k0_pay9 (k0_pay5 ga gb rt B.wr) (k0_pay6 ha hb) y B.wh x B.gt B.wo) B.ng B.sc B.sh (ix3 0 r j) = h2 B (row r) j := by
  have hq := pay7_e B row hga hgb hha hhb hrt hy hx
  unfold k0_pay9
  generalize k0_pay7 (F := Ideal) _ _ _ _ _ _ _ = q at hq ⊢
  pointwise [k0_pay11, k0_pay10]
  simp only [hq]
  rfl

/-- The second half's. -/
theorem pay46_e (r : Fin 512) (j : Fin 1024) : k0_pay46 (k0_pay42 (k0_pay40 ha hb) (k0_pay41 ga gb) rt B.wr y B.wh x B.gt B.wo)
    (k0_pay44 (k0_pay40 ha hb) (k0_pay41 ga gb) rt B.wr y B.wh x B.gt B.wo) B.ng B.sc B.sh (ix3 0 r j) = h2 B (row r) j := by
  have hq := pay42_e B row hga hgb hha hhb hrt hy hx
  unfold k0_pay44
  generalize k0_pay42 (F := Ideal) _ _ _ _ _ _ _ _ _ = q at hq ⊢
  pointwise [k0_pay46, k0_pay45]
  simp only [hq]
  rfl

end Half

/-! ## The loads of a half, and its stores -/

/-- Row `r` of the half that starts at row `o`. -/
def row (o : ℕ) (ho : o + 512 ≤ 1024) (r : Fin 512) : Fin 1024 := ⟨o + r.val, by omega⟩

theorem ld_w {e : EltTy} (X : Vec Ideal S1x1024x1024 e) (o : ℕ) (ho : o + 512 ≤ 1024) (inb) (r : Fin 512) (k : Fin 1024) :
    View.ld X (Rect.unit (s := S1x1024x1024) ![0, o, 0] ![1, 512, 1024] inb) (ix3 0 r k) = X (ix3 0 (row o ho r) k) := by
  refine congrArg X (funext fun a => Fin.ext ?_)
  match a with
  | ⟨0, _⟩ => rfl
  | ⟨1, _⟩ => show o + 1 * r.val = o + r.val; omega
  | ⟨2, _⟩ => show 0 + 1 * k.val = k.val; omega

theorem ld_g {e : EltTy} (X : Vec Ideal S1x1024x512 e) (o : ℕ) (ho : o + 512 ≤ 1024) (inb) (r : Fin 512) (k : Fin 512) :
    View.ld X (Rect.unit (s := S1x1024x512) ![0, o, 0] ![1, 512, 512] inb) (ix3 0 r k) = X (ix3 0 (row o ho r) k) := by
  refine congrArg X (funext fun a => Fin.ext ?_)
  match a with
  | ⟨0, _⟩ => rfl
  | ⟨1, _⟩ => show o + 1 * r.val = o + r.val; omega
  | ⟨2, _⟩ => show 0 + 1 * k.val = k.val; omega

theorem ld_y {e : EltTy} (X : Vec Ideal S1024x512 e) (o : ℕ) (ho : o + 512 ≤ 1024) (inb) (r : Fin 512) (k : Fin 512) :
    View.ld X (Rect.unit (s := S1024x512) ![o, 0] ![512, 512] inb) (ix2 r k) = X (ix2 (row o ho r) k) := by
  refine congrArg X (funext fun a => Fin.ext ?_)
  match a with
  | ⟨0, _⟩ => show o + 1 * r.val = o + r.val; omega
  | ⟨1, _⟩ => show 0 + 1 * k.val = k.val; omega

/-- An array that is `f` of row and column on a half is `f` at the store's places. -/
theorem store {p : S1x512x1024.Idx → EReal} (f : Fin 1024 → Fin 1024 → EReal) (o : ℕ) (ho : o + 512 ≤ 1024) (inb)
    (h : ∀ (r : Fin 512) (j : Fin 1024), p (ix3 0 r j) = f (row o ho r) j) (x : S1x512x1024.Idx) :
    p x = f ((Rect.unit (s := S1x1024x1024) ![0, o, 0] ![1, 512, 1024] inb).emb x 1) ((Rect.unit (s := S1x1024x1024) ![0, o, 0] ![1, 512, 1024] inb).emb x 2) := by
  obtain ⟨z, r, j, rfl⟩ : ∃ (z : Fin 1) (r : Fin 512) (j : Fin 1024), x = ix3 z r j := ⟨x 0, x 1, x 2, by funext a; match a with | ⟨0, _⟩ => rfl | ⟨1, _⟩ => rfl | ⟨2, _⟩ => rfl⟩
  obtain rfl : z = 0 := Subsingleton.elim _ _
  rw [h]
  refine congrArg₂ f (Fin.ext ?_) (Fin.ext ?_)
  · show o + r.val = o + 1 * r.val; omega
  · show j.val = 0 + 1 * j.val; omega

theorem ld_0 {e : EltTy} (X : Vec Ideal S1024x1024 e) (inb) : View.ld X (Rect.unit (s := S1024x1024) ![0, 0] ![1024, 1024] inb) = X :=
  View.ld_unit_zero (S := S1024x1024) (by decide) inb X

theorem ld_1 {e : EltTy} (X : Vec Ideal S512x1024 e) (inb) : View.ld X (Rect.unit (s := S512x1024) ![0, 0] ![512, 1024] inb) = X :=
  View.ld_unit_zero (S := S512x1024) (by decide) inb X

theorem ld_2 {e : EltTy} (X : Vec Ideal S1x1024 e) (inb) : View.ld X (Rect.unit (s := S1x1024) ![0, 0] ![1, 1024] inb) = X :=
  View.ld_unit_zero (S := S1x1024) (by decide) inb X

theorem ld_3 {e : EltTy} (X : Vec Ideal S1x1x1024 e) (inb) : View.ld X (Rect.unit (s := S1x1x1024) ![0, 0, 0] ![1, 1, 1024] inb) = X :=
  View.ld_unit_zero (S := S1x1x1024) (by decide) inb X

variable (m : (ℓ : Loc nD τ sig) → Buf (Elt Ideal) ℓ) (c : Dev nD) (t : Fin cfg0.N)

/-- What the grid point `t` reads. -/
def ins : Ins := ⟨iblk m c 0 t, iblk m c 1 t, iblk m c 2 t, iblk m c 3 t, iblk m c 4 t, iblk m c 5 t, iblk m c 6 t, iblk m c 7 t, iblk m c 8 t, iblk m c 9 t, iblk m c 10 t,
  iblk m c 11 t, iblk m c 12 t, iblk m c 13 t⟩

theorem out17_A (h0 : t.val % 32 = 0) (y : S1x1024x1024.Idx) : (outsAt0 m c t.val t.isLt).1 y = x1 (ins m c t) (y 1) (y 2) := by
  rw [outsAt0_A m c t h0]
  unfold out0_A_17
  dsimp only
  refine View.read_writes_apply_of_pieces (Val := Elt Ideal) (e := .f32) _ _ (fun y : S1x1024x1024.Idx => x1 (ins m c t) (y 1) (y 2)) _ ?_ y ?_
  rotate_left
  · exact cover0_A_17 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y
  unfold kernelRun0_A
  dsimp only
  intro p hp
  simp only [List.mem_cons, List.not_mem_nil, or_false] at hp
  rcases hp with rfl | rfl
  · simp only [View.readAt_eq_ld, Memref.IsWhole.read_unread, kernelRun0_A.sl.r_18, kernelRun0_A.sl.r_19]
    simp only [ld_0, ld_1, ld_2, ld_3]
    refine store (x1 (ins m c t)) 512 (by omega) _ (pay43_e (ins m c t) (row _ _) ?_ ?_ ?_ ?_ ?_ ?_ ?_)
    exacts [ld_g _ _ _ _, ld_g _ _ _ _, ld_g _ _ _ _, ld_g _ _ _ _, ld_w _ _ _ _, ld_y _ _ _ _, ld_w _ _ _ _]
  · simp only [View.readAt_eq_ld, Memref.IsWhole.read_unread, kernelRun0_A.sl.r, kernelRun0_A.sl.r_1]
    simp only [ld_0, ld_1, ld_2, ld_3]
    refine store (x1 (ins m c t)) 0 (by omega) _ (pay8_e (ins m c t) (row _ _) ?_ ?_ ?_ ?_ ?_ ?_ ?_)
    exacts [ld_g _ _ _ _, ld_g _ _ _ _, ld_g _ _ _ _, ld_g _ _ _ _, ld_w _ _ _ _, ld_y _ _ _ _, ld_w _ _ _ _]

theorem out17_B (h0 : ¬t.val % 32 = 0) (y : S1x1024x1024.Idx) : (outsAt0 m c t.val t.isLt).1 y = x1 (ins m c t) (y 1) (y 2) := by
  rw [outsAt0_B m c t h0]
  unfold out0_B_17
  dsimp only
  refine View.read_writes_apply_of_pieces (Val := Elt Ideal) (e := .f32) _ _ (fun y : S1x1024x1024.Idx => x1 (ins m c t) (y 1) (y 2)) _ ?_ y ?_
  rotate_left
  · exact cover0_B_17 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y
  unfold kernelRun0_B
  dsimp only
  intro p hp
  simp only [List.mem_cons, List.not_mem_nil, or_false] at hp
  rcases hp with rfl | rfl
  · simp only [View.readAt_eq_ld, Memref.IsWhole.read_unread, kernelRun0_B.sl.r_19, kernelRun0_B.sl.r_20]
    simp only [ld_0, ld_1, ld_2, ld_3]
    refine store (x1 (ins m c t)) 512 (by omega) _ (pay43_e (ins m c t) (row _ _) ?_ ?_ ?_ ?_ ?_ ?_ ?_)
    exacts [ld_g _ _ _ _, ld_g _ _ _ _, ld_g _ _ _ _, ld_g _ _ _ _, ld_w _ _ _ _, ld_y _ _ _ _, ld_w _ _ _ _]
  · simp only [View.readAt_eq_ld, Memref.IsWhole.read_unread, kernelRun0_B.sl.r, kernelRun0_B.sl.r_1]
    simp only [ld_0, ld_1, ld_2, ld_3]
    refine store (x1 (ins m c t)) 0 (by omega) _ (pay8_e (ins m c t) (row _ _) ?_ ?_ ?_ ?_ ?_ ?_ ?_)
    exacts [ld_g _ _ _ _, ld_g _ _ _ _, ld_g _ _ _ _, ld_g _ _ _ _, ld_w _ _ _ _, ld_y _ _ _ _, ld_w _ _ _ _]

theorem out18_A (h0 : t.val % 32 = 0) (y : S1x1024x1024.Idx) : (outsAt0 m c t.val t.isLt).2.1 y = h2 (ins m c t) (y 1) (y 2) := by
  rw [outsAt0_A m c t h0]
  unfold out0_A_18
  dsimp only
  refine View.read_writes_apply_of_pieces (Val := Elt Ideal) (e := .bf16) _ _ (fun y : S1x1024x1024.Idx => h2 (ins m c t) (y 1) (y 2)) _ ?_ y ?_
  rotate_left
  · exact cover0_A_18 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y
  unfold kernelRun0_A
  dsimp only
  intro p hp
  simp only [List.mem_cons, List.not_mem_nil, or_false] at hp
  rcases hp with rfl | rfl
  · simp only [View.readAt_eq_ld, Memref.IsWhole.read_unread, kernelRun0_A.sl.r_18, kernelRun0_A.sl.r_19, kernelRun0_A.sl.r_20, kernelRun0_A.sl.r_21]
    simp only [ld_0, ld_1, ld_2, ld_3]
    refine store (h2 (ins m c t)) 512 (by omega) _ (pay46_e (ins m c t) (row _ _) ?_ ?_ ?_ ?_ ?_ ?_ ?_)
    exacts [ld_g _ _ _ _, ld_g _ _ _ _, ld_g _ _ _ _, ld_g _ _ _ _, ld_w _ _ _ _, ld_y _ _ _ _, ld_w _ _ _ _]
  · simp only [View.readAt_eq_ld, Memref.IsWhole.read_unread, kernelRun0_A.sl.r_2, kernelRun0_A.sl.r, kernelRun0_A.sl.r_1]
    simp only [ld_0, ld_1, ld_2, ld_3]
    refine store (h2 (ins m c t)) 0 (by omega) _ (pay11_e (ins m c t) (row _ _) ?_ ?_ ?_ ?_ ?_ ?_ ?_)
    exacts [ld_g _ _ _ _, ld_g _ _ _ _, ld_g _ _ _ _, ld_g _ _ _ _, ld_w _ _ _ _, ld_y _ _ _ _, ld_w _ _ _ _]

theorem out18_B (h0 : ¬t.val % 32 = 0) (y : S1x1024x1024.Idx) : (outsAt0 m c t.val t.isLt).2.1 y = h2 (ins m c t) (y 1) (y 2) := by
  rw [outsAt0_B m c t h0]
  unfold out0_B_18
  dsimp only
  refine View.read_writes_apply_of_pieces (Val := Elt Ideal) (e := .bf16) _ _ (fun y : S1x1024x1024.Idx => h2 (ins m c t) (y 1) (y 2)) _ ?_ y ?_
  rotate_left
  · exact cover0_B_18 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y
  unfold kernelRun0_B
  dsimp only
  intro p hp
  simp only [List.mem_cons, List.not_mem_nil, or_false] at hp
  rcases hp with rfl | rfl
  · simp only [View.readAt_eq_ld, Memref.IsWhole.read_unread, kernelRun0_B.sl.r_19, kernelRun0_B.sl.r_20, kernelRun0_B.sl.r_21, kernelRun0_B.sl.r_22]
    simp only [ld_0, ld_1, ld_2, ld_3]
    refine store (h2 (ins m c t)) 512 (by omega) _ (pay46_e (ins m c t) (row _ _) ?_ ?_ ?_ ?_ ?_ ?_ ?_)
    exacts [ld_g _ _ _ _, ld_g _ _ _ _, ld_g _ _ _ _, ld_g _ _ _ _, ld_w _ _ _ _, ld_y _ _ _ _, ld_w _ _ _ _]
  · simp only [View.readAt_eq_ld, Memref.IsWhole.read_unread, kernelRun0_B.sl.r_2, kernelRun0_B.sl.r, kernelRun0_B.sl.r_1]
    simp only [ld_0, ld_1, ld_2, ld_3]
    refine store (h2 (ins m c t)) 0 (by omega) _ (pay11_e (ins m c t) (row _ _) ?_ ?_ ?_ ?_ ?_ ?_ ?_)
    exacts [ld_g _ _ _ _, ld_g _ _ _ _, ld_g _ _ _ _, ld_g _ _ _ _, ld_w _ _ _ _, ld_y _ _ _ _, ld_w _ _ _ _]

end Cert.Kernel3Ideal.Merge
end
-- ==== Proof.MergeBlocks.lean ====
module

public import proofs.«01_k».proof.Proof.Merge

@[expose] public section

set_option maxRecDepth 16384

noncomputable section

/-! # The merge call's two results, entry by entry, from its arguments -/

namespace Cert.Kernel3Ideal.Merge

open Cert.Kernel3Ideal Cert.Kernel3Ideal.Gen Idealize.ShloMosaic Idealize.ShloMosaic.TcCoe Idealize.SL.Sem

/-! ## The blocks of the grid points -/

variable (m : (ℓ : Loc nD τ sig) → Buf (Elt Ideal) ℓ) (c : Dev nD) (t : Fin cfg0.N)

/-- The batch row of a point. -/
def pb (t : Fin cfg0.N) : Fin 8 := ⟨t.val / 4, by have h : t.val < 32 := t.isLt; omega⟩

/-- The position of row `r` of a point's block. -/
def pr (t : Fin cfg0.N) (r : Fin 1024) : Fin 4096 := ⟨t.val % 4 * 1024 + r.val, by omega⟩

/-- Channel `d` of batch row `b` in the second branch's layout. -/
def ch (b : Fin 8) (d : Fin 512) : Fin 4096 := ⟨b.val * 512 + d.val, by omega⟩

/-- Column `k` of the projection's columns from `o` on. -/
def col (o : ℕ) (n : ℕ) (ho : o + n ≤ 6656) (k : Fin n) : Fin 6656 := ⟨o + k.val, by omega⟩

theorem ix_0 : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)

theorem ix_1 : ∀ t : Fin cfg0.N, win0_1.index t 0 = t.val % 4 ∧ win0_1.index t 1 = t.val / 4 :=
  (by decide +kernel : ∀ t : Fin grid0.N, win0_1.index t 0 = t.val % 4 ∧ win0_1.index t 1 = t.val / 4)

theorem ix_2 : ∀ t : Fin cfg0.N, win0_2.index t 0 = t.val / 4 ∧ win0_2.index t 1 = t.val % 4 ∧ win0_2.index t 2 = 9 :=
  (by decide +kernel : ∀ t : Fin grid0.N, win0_2.index t 0 = t.val / 4 ∧ win0_2.index t 1 = t.val % 4 ∧ win0_2.index t 2 = 9)

theorem ix_3 : ∀ t : Fin cfg0.N, win0_3.index t 0 = t.val / 4 ∧ win0_3.index t 1 = t.val % 4 ∧ win0_3.index t 2 = 10 :=
  (by decide +kernel : ∀ t : Fin grid0.N, win0_3.index t 0 = t.val / 4 ∧ win0_3.index t 1 = t.val % 4 ∧ win0_3.index t 2 = 10)

theorem ix_4 : ∀ t : Fin cfg0.N, win0_4.index t 0 = t.val / 4 ∧ win0_4.index t 1 = t.val % 4 ∧ win0_4.index t 2 = 11 :=
  (by decide +kernel : ∀ t : Fin grid0.N, win0_4.index t 0 = t.val / 4 ∧ win0_4.index t 1 = t.val % 4 ∧ win0_4.index t 2 = 11)

theorem ix_5 : ∀ t : Fin cfg0.N, win0_5.index t 0 = t.val / 4 ∧ win0_5.index t 1 = t.val % 4 ∧ win0_5.index t 2 = 12 :=
  (by decide +kernel : ∀ t : Fin grid0.N, win0_5.index t 0 = t.val / 4 ∧ win0_5.index t 1 = t.val % 4 ∧ win0_5.index t 2 = 12)

theorem ix_6 : ∀ t : Fin cfg0.N, win0_6.index t 0 = t.val / 4 ∧ win0_6.index t 1 = t.val % 4 ∧ win0_6.index t 2 = 0 :=
  (by decide +kernel : ∀ t : Fin grid0.N, win0_6.index t 0 = t.val / 4 ∧ win0_6.index t 1 = t.val % 4 ∧ win0_6.index t 2 = 0)

theorem ix_7 : ∀ t : Fin cfg0.N, win0_7.index t 0 = t.val / 4 ∧ win0_7.index t 1 = 0 ∧ win0_7.index t 2 = 0 :=
  (by decide +kernel : ∀ t : Fin grid0.N, win0_7.index t 0 = t.val / 4 ∧ win0_7.index t 1 = 0 ∧ win0_7.index t 2 = 0)

theorem ix_8 : ∀ t : Fin cfg0.N, win0_8.index t 0 = t.val / 4 ∧ win0_8.index t 1 = 0 ∧ win0_8.index t 2 = 0 :=
  (by decide +kernel : ∀ t : Fin grid0.N, win0_8.index t 0 = t.val / 4 ∧ win0_8.index t 1 = 0 ∧ win0_8.index t 2 = 0)

theorem ix_9 : ∀ t : Fin cfg0.N, win0_9.index t 0 = t.val / 4 ∧ win0_9.index t 1 = 0 ∧ win0_9.index t 2 = 0 :=
  (by decide +kernel : ∀ t : Fin grid0.N, win0_9.index t 0 = t.val / 4 ∧ win0_9.index t 1 = 0 ∧ win0_9.index t 2 = 0)

theorem ix_10 : ∀ t : Fin cfg0.N, win0_10.index t 0 = 0 ∧ win0_10.index t 1 = 0 :=
  (by decide +kernel : ∀ t : Fin grid0.N, win0_10.index t 0 = 0 ∧ win0_10.index t 1 = 0)

theorem ix_11 : ∀ t : Fin cfg0.N, win0_11.index t 0 = 0 ∧ win0_11.index t 1 = 0 :=
  (by decide +kernel : ∀ t : Fin grid0.N, win0_11.index t 0 = 0 ∧ win0_11.index t 1 = 0)

theorem ix_12 : ∀ t : Fin cfg0.N, win0_12.index t 0 = 0 ∧ win0_12.index t 1 = 0 :=
  (by decide +kernel : ∀ t : Fin grid0.N, win0_12.index t 0 = 0 ∧ win0_12.index t 1 = 0)

theorem ix_13 : ∀ t : Fin cfg0.N, win0_13.index t 0 = 0 ∧ win0_13.index t 1 = 0 :=
  (by decide +kernel : ∀ t : Fin grid0.N, win0_13.index t 0 = 0 ∧ win0_13.index t 1 = 0)

theorem ix_17 : ∀ t : Fin cfg0.N, win0_17.index t 0 = t.val / 4 ∧ win0_17.index t 1 = t.val % 4 ∧ win0_17.index t 2 = 0 :=
  (by decide +kernel : ∀ t : Fin grid0.N, win0_17.index t 0 = t.val / 4 ∧ win0_17.index t 1 = t.val % 4 ∧ win0_17.index t 2 = 0)

theorem ix_18 : ∀ t : Fin cfg0.N, win0_18.index t 0 = t.val / 4 ∧ win0_18.index t 1 = t.val % 4 ∧ win0_18.index t 2 = 0 :=
  (by decide +kernel : ∀ t : Fin grid0.N, win0_18.index t 0 = t.val / 4 ∧ win0_18.index t 1 = t.val % 4 ∧ win0_18.index t 2 = 0)

theorem blk_0 (r d : Fin 1024) : (iblk m c 0 t : Vec Ideal S1x1024x1024 .bf16) (ix3 0 r d) = m ((c : Thread nD τ).loc main_arg0) (ix3 (pb t) (pr t r) d) := by
  have hi := ix_0 t
  unfold iblk
  rw [View.read_apply]
  show V m c main_arg0 _ = _
  rw [V_main_arg0]
  refine congrArg _ (funext fun a => Fin.ext ?_)
  match a with
  | ⟨0, _⟩ => show win0_0.index t 0 * 1 + 1 * 0 = t.val / 4; rw [hi.1]; try omega
  | ⟨1, _⟩ => show win0_0.index t 1 * 1024 + 1 * r.val = t.val % 4 * 1024 + r.val; rw [hi.2.1]; try omega
  | ⟨2, _⟩ => show win0_0.index t 2 * 1024 + 1 * d.val = d.val; rw [hi.2.2]; try omega

theorem blk_1 (r : Fin 1024) (d : Fin 512) : (iblk m c 1 t : Vec Ideal S1024x512 .bf16) (ix2 r d) = m ((c : Thread nD τ).loc main_arg1) (ix2 (pr t r) (ch (pb t) d)) := by
  have hi := ix_1 t
  unfold iblk
  rw [View.read_apply]
  show V m c main_arg1 _ = _
  rw [V_main_arg1]
  refine congrArg _ (funext fun a => Fin.ext ?_)
  match a with
  | ⟨0, _⟩ => show win0_1.index t 0 * 1024 + 1 * r.val = t.val % 4 * 1024 + r.val; rw [hi.1]; try omega
  | ⟨1, _⟩ => show win0_1.index t 1 * 512 + 1 * d.val = t.val / 4 * 512 + d.val; rw [hi.2]; try omega

theorem blk_2 (r : Fin 1024) (d : Fin 512) : (iblk m c 2 t : Vec Ideal S1x1024x512 .bf16) (ix3 0 r d) = m ((c : Thread nD τ).loc main_arg2) (ix3 (pb t) (pr t r) (col 4608 512 (by omega) d)) := by
  have hi := ix_2 t
  unfold iblk
  rw [View.read_apply]
  show V m c main_arg2 _ = _
  rw [V_main_arg2]
  refine congrArg _ (funext fun a => Fin.ext ?_)
  match a with
  | ⟨0, _⟩ => show win0_2.index t 0 * 1 + 1 * 0 = t.val / 4; rw [hi.1]; try omega
  | ⟨1, _⟩ => show win0_2.index t 1 * 1024 + 1 * r.val = t.val % 4 * 1024 + r.val; rw [hi.2.1]; try omega
  | ⟨2, _⟩ => show win0_2.index t 2 * 512 + 1 * d.val = 4608 + d.val; rw [hi.2.2]; try omega

theorem blk_3 (r : Fin 1024) (d : Fin 512) : (iblk m c 3 t : Vec Ideal S1x1024x512 .bf16) (ix3 0 r d) = m ((c : Thread nD τ).loc main_arg2) (ix3 (pb t) (pr t r) (col 5120 512 (by omega) d)) := by
  have hi := ix_3 t
  unfold iblk
  rw [View.read_apply]
  show V m c main_arg2 _ = _
  rw [V_main_arg2]
  refine congrArg _ (funext fun a => Fin.ext ?_)
  match a with
  | ⟨0, _⟩ => show win0_3.index t 0 * 1 + 1 * 0 = t.val / 4; rw [hi.1]; try omega
  | ⟨1, _⟩ => show win0_3.index t 1 * 1024 + 1 * r.val = t.val % 4 * 1024 + r.val; rw [hi.2.1]; try omega
  | ⟨2, _⟩ => show win0_3.index t 2 * 512 + 1 * d.val = 5120 + d.val; rw [hi.2.2]; try omega

theorem blk_4 (r : Fin 1024) (d : Fin 512) : (iblk m c 4 t : Vec Ideal S1x1024x512 .bf16) (ix3 0 r d) = m ((c : Thread nD τ).loc main_arg2) (ix3 (pb t) (pr t r) (col 5632 512 (by omega) d)) := by
  have hi := ix_4 t
  unfold iblk
  rw [View.read_apply]
  show V m c main_arg2 _ = _
  rw [V_main_arg2]
  refine congrArg _ (funext fun a => Fin.ext ?_)
  match a with
  | ⟨0, _⟩ => show win0_4.index t 0 * 1 + 1 * 0 = t.val / 4; rw [hi.1]; try omega
  | ⟨1, _⟩ => show win0_4.index t 1 * 1024 + 1 * r.val = t.val % 4 * 1024 + r.val; rw [hi.2.1]; try omega
  | ⟨2, _⟩ => show win0_4.index t 2 * 512 + 1 * d.val = 5632 + d.val; rw [hi.2.2]; try omega

theorem blk_5 (r : Fin 1024) (d : Fin 512) : (iblk m c 5 t : Vec Ideal S1x1024x512 .bf16) (ix3 0 r d) = m ((c : Thread nD τ).loc main_arg2) (ix3 (pb t) (pr t r) (col 6144 512 (by omega) d)) := by
  have hi := ix_5 t
  unfold iblk
  rw [View.read_apply]
  show V m c main_arg2 _ = _
  rw [V_main_arg2]
  refine congrArg _ (funext fun a => Fin.ext ?_)
  match a with
  | ⟨0, _⟩ => show win0_5.index t 0 * 1 + 1 * 0 = t.val / 4; rw [hi.1]; try omega
  | ⟨1, _⟩ => show win0_5.index t 1 * 1024 + 1 * r.val = t.val % 4 * 1024 + r.val; rw [hi.2.1]; try omega
  | ⟨2, _⟩ => show win0_5.index t 2 * 512 + 1 * d.val = 6144 + d.val; rw [hi.2.2]; try omega

theorem blk_6 (r d : Fin 1024) : (iblk m c 6 t : Vec Ideal S1x1024x1024 .f32) (ix3 0 r d) = m ((c : Thread nD τ).loc main_arg3) (ix3 (pb t) (pr t r) d) := by
  have hi := ix_6 t
  unfold iblk
  rw [View.read_apply]
  show V m c main_arg3 _ = _
  rw [V_main_arg3]
  refine congrArg _ (funext fun a => Fin.ext ?_)
  match a with
  | ⟨0, _⟩ => show win0_6.index t 0 * 1 + 1 * 0 = t.val / 4; rw [hi.1]; try omega
  | ⟨1, _⟩ => show win0_6.index t 1 * 1024 + 1 * r.val = t.val % 4 * 1024 + r.val; rw [hi.2.1]; try omega
  | ⟨2, _⟩ => show win0_6.index t 2 * 1024 + 1 * d.val = d.val; rw [hi.2.2]; try omega

theorem blk_7 (d : Fin 1024) : (iblk m c 7 t : Vec Ideal S1x1x1024 .f32) (ix3 0 0 d) = m ((c : Thread nD τ).loc main_arg4) (ix3 (pb t) 0 d) := by
  have hi := ix_7 t
  unfold iblk
  rw [View.read_apply]
  show V m c main_arg4 _ = _
  rw [V_main_arg4]
  refine congrArg _ (funext fun a => Fin.ext ?_)
  match a with
  | ⟨0, _⟩ => show win0_7.index t 0 * 1 + 1 * 0 = t.val / 4; rw [hi.1]; try omega
  | ⟨1, _⟩ => show win0_7.index t 1 * 1 + 1 * 0 = 0; rw [hi.2.1]; try omega
  | ⟨2, _⟩ => show win0_7.index t 2 * 1024 + 1 * d.val = d.val; rw [hi.2.2]; try omega

theorem blk_8 (d : Fin 1024) : (iblk m c 8 t : Vec Ideal S1x1x1024 .f32) (ix3 0 0 d) = m ((c : Thread nD τ).loc main_arg5) (ix3 (pb t) 0 d) := by
  have hi := ix_8 t
  unfold iblk
  rw [View.read_apply]
  show V m c main_arg5 _ = _
  rw [V_main_arg5]
  refine congrArg _ (funext fun a => Fin.ext ?_)
  match a with
  | ⟨0, _⟩ => show win0_8.index t 0 * 1 + 1 * 0 = t.val / 4; rw [hi.1]; try omega
  | ⟨1, _⟩ => show win0_8.index t 1 * 1 + 1 * 0 = 0; rw [hi.2.1]; try omega
  | ⟨2, _⟩ => show win0_8.index t 2 * 1024 + 1 * d.val = d.val; rw [hi.2.2]; try omega

theorem blk_9 (d : Fin 1024) : (iblk m c 9 t : Vec Ideal S1x1x1024 .f32) (ix3 0 0 d) = m ((c : Thread nD τ).loc main_arg6) (ix3 (pb t) 0 d) := by
  have hi := ix_9 t
  unfold iblk
  rw [View.read_apply]
  show V m c main_arg6 _ = _
  rw [V_main_arg6]
  refine congrArg _ (funext fun a => Fin.ext ?_)
  match a with
  | ⟨0, _⟩ => show win0_9.index t 0 * 1 + 1 * 0 = t.val / 4; rw [hi.1]; try omega
  | ⟨1, _⟩ => show win0_9.index t 1 * 1 + 1 * 0 = 0; rw [hi.2.1]; try omega
  | ⟨2, _⟩ => show win0_9.index t 2 * 1024 + 1 * d.val = d.val; rw [hi.2.2]; try omega

theorem blk_10 (d : Fin 1024) : (iblk m c 10 t : Vec Ideal S1x1024 .f32) (ix2 0 d) = m ((c : Thread nD τ).loc main_arg7) (ix1 d) := by
  have hi := ix_10 t
  have hv : (V m c main_v18 : FVec Ideal S1x1024 .f32) = shapeCast S1x1024 (m ((c : Thread nD τ).loc main_arg7)) shapeCasts_S1024_S1x1024 := by
    unfold_abbrev_sides
    after_results
    all_goals rfl
  have he : (V m c main_v18 : FVec Ideal S1x1024 .f32) (ix2 0 d) = m ((c : Thread nD τ).loc main_arg7) (ix1 d) := by
    rw [hv]
    pointwise
  rw [← he]
  unfold iblk
  rw [View.read_apply]
  show V m c main_v18 _ = _
  refine congrArg _ (funext fun a => Fin.ext ?_)
  match a with
  | ⟨0, _⟩ => show win0_10.index t 0 * 1 + 1 * 0 = 0; rw [hi.1]; try omega
  | ⟨1, _⟩ => show win0_10.index t 1 * 1024 + 1 * d.val = d.val; rw [hi.2]; try omega

theorem blk_11 (d k : Fin 1024) : (iblk m c 11 t : Vec Ideal S1024x1024 .bf16) (ix2 d k) = m ((c : Thread nD τ).loc main_arg8) (ix2 d k) := by
  have hi := ix_11 t
  have hv : (V m c main_v19 : FVec Ideal S1024x1024 .bf16) = (truncf .bf16 (m ((c : Thread nD τ).loc main_arg8) : FVec Ideal S1024x1024 .f32) bitsLt_bf16_f32 : FVec Ideal S1024x1024 .bf16) := by
    unfold_abbrev_sides
    after_results
    all_goals rfl
  have he : (V m c main_v19 : FVec Ideal S1024x1024 .bf16) (ix2 d k) = m ((c : Thread nD τ).loc main_arg8) (ix2 d k) := by
    rw [hv]
    pointwise
  rw [← he]
  unfold iblk
  rw [View.read_apply]
  show V m c main_v19 _ = _
  refine congrArg _ (funext fun a => Fin.ext ?_)
  match a with
  | ⟨0, _⟩ => show win0_11.index t 0 * 1024 + 1 * d.val = d.val; rw [hi.1]; try omega
  | ⟨1, _⟩ => show win0_11.index t 1 * 1024 + 1 * k.val = k.val; rw [hi.2]; try omega

theorem blk_12 (d : Fin 512) (k : Fin 1024) : (iblk m c 12 t : Vec Ideal S512x1024 .bf16) (ix2 d k) = m ((c : Thread nD τ).loc main_arg9) (ix2 d k) := by
  have hi := ix_12 t
  have hv : (V m c main_v20 : FVec Ideal S512x1024 .bf16) = (truncf .bf16 (m ((c : Thread nD τ).loc main_arg9) : FVec Ideal S512x1024 .f32) bitsLt_bf16_f32 : FVec Ideal S512x1024 .bf16) := by
    unfold_abbrev_sides
    after_results
    all_goals rfl
  have he : (V m c main_v20 : FVec Ideal S512x1024 .bf16) (ix2 d k) = m ((c : Thread nD τ).loc main_arg9) (ix2 d k) := by
    rw [hv]
    pointwise
  rw [← he]
  unfold iblk
  rw [View.read_apply]
  show V m c main_v20 _ = _
  refine congrArg _ (funext fun a => Fin.ext ?_)
  match a with
  | ⟨0, _⟩ => show win0_12.index t 0 * 512 + 1 * d.val = d.val; rw [hi.1]; try omega
  | ⟨1, _⟩ => show win0_12.index t 1 * 1024 + 1 * k.val = k.val; rw [hi.2]; try omega

theorem blk_13 (d k : Fin 1024) : (iblk m c 13 t : Vec Ideal S1024x1024 .bf16) (ix2 d k) = m ((c : Thread nD τ).loc main_arg10) (ix2 d k) := by
  have hi := ix_13 t
  have hv : (V m c main_v21 : FVec Ideal S1024x1024 .bf16) = (truncf .bf16 (m ((c : Thread nD τ).loc main_arg10) : FVec Ideal S1024x1024 .f32) bitsLt_bf16_f32 : FVec Ideal S1024x1024 .bf16) := by
    unfold_abbrev_sides
    after_results
    all_goals rfl
  have he : (V m c main_v21 : FVec Ideal S1024x1024 .bf16) (ix2 d k) = m ((c : Thread nD τ).loc main_arg10) (ix2 d k) := by
    rw [hv]
    pointwise
  rw [← he]
  unfold iblk
  rw [View.read_apply]
  show V m c main_v21 _ = _
  refine congrArg _ (funext fun a => Fin.ext ?_)
  match a with
  | ⟨0, _⟩ => show win0_13.index t 0 * 1024 + 1 * d.val = d.val; rw [hi.1]; try omega
  | ⟨1, _⟩ => show win0_13.index t 1 * 1024 + 1 * k.val = k.val; rw [hi.2]; try omega

/-! ## The results from the arguments -/

section Val

variable (R : FVec Ideal S8x4096x1024 .bf16) (H : FVec Ideal S4096x4096 .bf16) (P : FVec Ideal S8x4096x6656 .bf16) (X : FVec Ideal S8x4096x1024 .f32) (gt sh sc : FVec Ideal S8x1x1024 .f32) (g : FVec Ideal S1024 .f32)
  (Wr : FVec Ideal S1024x1024 .f32) (Wh : FVec Ideal S512x1024 .f32) (Wo : FVec Ideal S1024x1024 .f32)

/-- The gated sum of the branches at position `i` of batch row `b`. -/
def mixV (b : Fin 8) (i : Fin 4096) (k : Fin 1024) : EReal :=
  sg (P (ix3 b i (col 4608 1024 (by omega) k))) * (∑ d, R (ix3 b i d) * Wr (ix2 d k)) + sg (P (ix3 b i (col 5632 1024 (by omega) k))) * ∑ d, H (ix2 i (ch b d)) * Wh (ix2 d k)

/-- The residual stream after the mix. -/
def x1V (b : Fin 8) (i : Fin 4096) (j : Fin 1024) : EReal :=
  X (ix3 b i j) + gt (ix3 b 0 j) * ∑ k, mixV R H P Wr Wh b i k * Wo (ix2 k j)

/-- Its rows over the root of their mean square, with the gain, one plus the scale, and the shift. -/
def h2V (b : Fin 8) (i : Fin 4096) (j : Fin 1024) : EReal :=
  x1V R H P X gt Wr Wh Wo b i j * Ideal.rsqrt (Ideal.div (∑ d, x1V R H P X gt Wr Wh Wo b i d * x1V R H P X gt Wr Wh Wo b i d) (Ideal.ofBits .f32 0x44800000#32) + Ideal.ofBits .f32 0x358637BD#32)
    * g (ix1 j) * (1 + sc (ix3 b 0 j)) + sh (ix3 b 0 j)

end Val

theorem ga_e (r k : Fin 1024) : two (ins m c t).ga (ins m c t).gb r k = m ((c : Thread nD τ).loc main_arg2) (ix3 (pb t) (pr t r) (col 4608 1024 (by omega) k)) := by
  unfold two
  split
  · exact blk_2 m c t r _
  · refine (blk_3 m c t r _).trans (congrArg (fun q => m ((c : Thread nD τ).loc main_arg2) (ix3 (pb t) (pr t r) q)) (Fin.ext ?_))
    show 5120 + (k.val - 512) = 4608 + k.val
    omega

theorem ha_e (r k : Fin 1024) : two (ins m c t).ha (ins m c t).hb r k = m ((c : Thread nD τ).loc main_arg2) (ix3 (pb t) (pr t r) (col 5632 1024 (by omega) k)) := by
  unfold two
  split
  · exact blk_4 m c t r _
  · refine (blk_5 m c t r _).trans (congrArg (fun q => m ((c : Thread nD τ).loc main_arg2) (ix3 (pb t) (pr t r) q)) (Fin.ext ?_))
    show 6144 + (k.val - 512) = 5632 + k.val
    omega

theorem x1_e (r j : Fin 1024) : x1 (ins m c t) r j = x1V (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) (pb t) (pr t r) j := by
  unfold x1 x1V mixed mixV
  simp only [ga_e, ha_e]
  simp only [ins, blk_0, blk_1, blk_6, blk_7, blk_11, blk_12, blk_13]

theorem h2_e (r j : Fin 1024) : h2 (ins m c t) r j = h2V (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (pb t) (pr t r) j := by
  unfold h2 h2V
  simp only [x1_e]
  simp only [ins, blk_8, blk_9, blk_10]

/-! ## The final arrays -/

/-- The point that holds position `i` of batch row `b`. -/
def pt (b : Fin 8) (i : Fin 4096) : Fin cfg0.N := ⟨4 * b.val + i.val / 1024, by show _ < 32; omega⟩

theorem out17 (y : S1x1024x1024.Idx) : (outsAt0 m c t.val t.isLt).1 y = x1 (ins m c t) (y 1) (y 2) := by
  by_cases h0 : t.val % 32 = 0
  · exact out17_A m c t h0 y
  · exact out17_B m c t h0 y

theorem arr17_e (b : Fin 8) (i : Fin 4096) (j : Fin 1024) : ((dats m 0 c).arrAt 17 cfg0.N : FVec Ideal S8x4096x1024 .f32) (ix3 b i j)
    = x1V (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) b i j := by
  have hi := ix_17 (pt b i)
  have hp0 : (pt b i).val / 4 = b.val := by show (4 * b.val + i.val / 1024) / 4 = b.val; omega
  have hp1 : (pt b i).val % 4 = i.val / 1024 := by show (4 * b.val + i.val / 1024) % 4 = i.val / 1024; omega
  have hb := congrFun (Value.blocks17 m c (pt b i) (flush0_17 _)) (ix3 0 ⟨i.val % 1024, by omega⟩ j : S1x1024x1024.Idx)
  rw [Value.flushed17, View.read_apply] at hb
  have e : ((dats m 0 c).arrAt 17 cfg0.N : FVec Ideal S8x4096x1024 .f32) (ix3 b i j) = (outsAt0 m c (pt b i).val (pt b i).isLt).1 (ix3 0 ⟨i.val % 1024, by omega⟩ j) := by
    refine Eq.trans ?_ hb
    refine congrArg ((dats m 0 c).arrAt 17 cfg0.N) (funext fun a => Fin.ext ?_)
    match a with
    | ⟨0, _⟩ => show b.val = win0_17.index (pt b i) 0 * 1 + 1 * 0; rw [hi.1, hp0]; omega
    | ⟨1, _⟩ => show i.val = win0_17.index (pt b i) 1 * 1024 + 1 * (i.val % 1024); rw [hi.2.1, hp1]; omega
    | ⟨2, _⟩ => show j.val = win0_17.index (pt b i) 2 * 1024 + 1 * j.val; rw [hi.2.2]; omega
  have hb0 : pb (pt b i) = b := Fin.ext hp0
  have hr0 : pr (pt b i) ⟨i.val % 1024, by omega⟩ = i := Fin.ext (by show (pt b i).val % 4 * 1024 + i.val % 1024 = i.val; rw [hp1]; omega)
  rw [e, out17]
  refine (x1_e m c (pt b i) _ _).trans ?_
  rw [hb0]
  exact congrArg (fun q => x1V (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) b q j) hr0

theorem out18 (y : S1x1024x1024.Idx) : (outsAt0 m c t.val t.isLt).2.1 y = h2 (ins m c t) (y 1) (y 2) := by
  by_cases h0 : t.val % 32 = 0
  · exact out18_A m c t h0 y
  · exact out18_B m c t h0 y

theorem arr18_e (b : Fin 8) (i : Fin 4096) (j : Fin 1024) : ((dats m 0 c).arrAt 18 cfg0.N : FVec Ideal S8x4096x1024 .bf16) (ix3 b i j)
    = h2V (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) b i j := by
  have hi := ix_18 (pt b i)
  have hp0 : (pt b i).val / 4 = b.val := by show (4 * b.val + i.val / 1024) / 4 = b.val; omega
  have hp1 : (pt b i).val % 4 = i.val / 1024 := by show (4 * b.val + i.val / 1024) % 4 = i.val / 1024; omega
  have hb := congrFun (Value.blocks18 m c (pt b i) (flush0_18 _)) (ix3 0 ⟨i.val % 1024, by omega⟩ j : S1x1024x1024.Idx)
  rw [Value.flushed18, View.read_apply] at hb
  have e : ((dats m 0 c).arrAt 18 cfg0.N : FVec Ideal S8x4096x1024 .bf16) (ix3 b i j) = (outsAt0 m c (pt b i).val (pt b i).isLt).2.1 (ix3 0 ⟨i.val % 1024, by omega⟩ j) := by
    refine Eq.trans ?_ hb
    refine congrArg ((dats m 0 c).arrAt 18 cfg0.N) (funext fun a => Fin.ext ?_)
    match a with
    | ⟨0, _⟩ => show b.val = win0_18.index (pt b i) 0 * 1 + 1 * 0; rw [hi.1, hp0]; omega
    | ⟨1, _⟩ => show i.val = win0_18.index (pt b i) 1 * 1024 + 1 * (i.val % 1024); rw [hi.2.1, hp1]; omega
    | ⟨2, _⟩ => show j.val = win0_18.index (pt b i) 2 * 1024 + 1 * j.val; rw [hi.2.2]; omega
  have hb0 : pb (pt b i) = b := Fin.ext hp0
  have hr0 : pr (pt b i) ⟨i.val % 1024, by omega⟩ = i := Fin.ext (by show (pt b i).val % 4 * 1024 + i.val % 1024 = i.val; rw [hp1]; omega)
  rw [e, out18]
  refine (h2_e m c (pt b i) _ _).trans ?_
  rw [hb0]
  exact congrArg (fun q => h2V (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) b q j) hr0

end Cert.Kernel3Ideal.Merge

end
-- ==== Proof.ExpertsRef.lean ====
module

public import proofs.«01_k».proof.Proof.Gen.Reference4Ideal.Run
public import proofs.«01_k».proof.Proof.MergeBlocks

@[expose] public section

set_option maxRecDepth 16384

noncomputable section

/-! # The reference's experts, entry by entry -/

namespace Cert.Reference4Ideal.Exp

open Cert.Reference4Ideal Cert.Reference4Ideal.Gen Idealize.ShloMosaic Idealize.ShloMosaic.TcCoe Idealize.SL.Sem

variable (E : IVec S160 32) (n : IVec S1 32) (X : IVec S81920x512 32) (W1 W3 : FVec Ideal S32x1024x512 .f32) (W2 : FVec Ideal S32x512x1024 .f32)

/-- The experts of the blocks, a negative one counted from the end; -/
def refE : IVec S160 32 := select (cmpi .slt E (broadcastInDim S160 ![] bcast_S_S160 (constantI S_ 32 0#32))) (addi E (broadcastInDim S160 ![] bcast_S_S160 (constantI S_ 32 32#32))) E
/-- a start at zero on an axis of size `k`; -/
def refZ (k : BitVec 32) : IVec S160x1 32 := broadcastInDim S160x1 ![] bcast_S_S160x1 (select (cmpi .slt (constantI S_ 32 0#32) (constantI S_ 32 0#32)) (addi (constantI S_ 32 0#32) (constantI S_ 32 k)) (constantI S_ 32 0#32))
/-- where each block's weights start. -/
def refAt (k k' : BitVec 32) : IVec S160x3 32 :=
  concatenate S160x3 1 [⟨S160x1, broadcastInDim S160x1 ![0] bcast_S160_S160x1_0 (refE E)⟩, ⟨S160x1, refZ k⟩, ⟨S160x1, refZ k'⟩] concatenates_S160x1_S160x1_S160x1_S160x3_d1

/-- The weights of the blocks. -/
def refUp (W : FVec Ideal S32x1024x512 .f32) : FVec Ideal S160x1024x512 .f32 :=
  shapeCast _ (Host.gather gather_S32x1024x512_S160x3_S160x1x1024x512_123_n_n_n_012_1_11024512 W (refAt E 1024#32 512#32)) shapeCasts_S160x1x1024x512_S160x1024x512
def refDown (W : FVec Ideal S32x512x1024 .f32) : FVec Ideal S160x512x1024 .f32 :=
  shapeCast _ (Host.gather gather_S32x512x1024_S160x3_S160x1x512x1024_123_n_n_n_012_1_15121024 W (refAt E 512#32 1024#32)) shapeCasts_S160x1x512x1024_S160x512x1024

/-- One half of the words of the rows. -/
def refHalf0 : FVec Ideal S81920x512 .f32 :=
  shapeCast _ (extractStridedSlice S81920x512x1 ![0, 0, 0] (extf .f32 (bitcastToFloat (F := Ideal) .bf16 (Host.bitcastConvertNarrow S81920x512x2 16 X splits_S81920x512_w32_S81920x512x2_w16)) bitsLt_bf16_f32) slices_S81920x512x2_S81920x512x1_0_0_0) shapeCasts_S81920x512x1_S81920x512
def refHalf1 : FVec Ideal S81920x512 .f32 :=
  shapeCast _ (extractStridedSlice S81920x512x1 ![0, 0, 1] (extf .f32 (bitcastToFloat (F := Ideal) .bf16 (Host.bitcastConvertNarrow S81920x512x2 16 X splits_S81920x512_w32_S81920x512x2_w16)) bitsLt_bf16_f32) slices_S81920x512x2_S81920x512x1_0_0_1) shapeCasts_S81920x512x1_S81920x512
/-- The rows: the low halves, then the high ones. -/
def refX : FVec Ideal S81920x1024 .f32 :=
  concatenate S81920x1024 1 [⟨S81920x512, refHalf0 X⟩, ⟨S81920x512, refHalf1 X⟩] concatenates_S81920x512_S81920x512_S81920x1024_d1

/-- A block's rows times its weights. -/
def refDot (W : FVec Ideal S32x1024x512 .f32) : FVec Ideal S160x512x512 .f32 :=
  Host.dotGeneral dot_S160x512x1024_S160x1024x512_S160x512x512_2_1_1_2_0_0 none (shapeCast _ (refX X) shapeCasts_S81920x1024_S160x512x1024) (refUp E W)

def refSilu (A : FVec Ideal S160x512x512 .f32) : FVec Ideal S160x512x512 .f32 :=
  mulf A (Host.divf (broadcastInDim S160x512x512 ![] bcast_S_S160x512x512 (constant S_ .f32 0x3F800000#32)) (addf (broadcastInDim S160x512x512 ![] bcast_S_S160x512x512 (constant S_ .f32 0x3F800000#32)) (Host.exp (Host.negf A))))

/-- The blocks' results, those beyond the used ones cleared. -/
def refOut : FVec Ideal S81920x1024 .bf16 :=
  truncf .bf16 (shapeCast _ (select (broadcastInDim S160x512x1024 ![0, 1, 2] bcast_S160x1x1_S160x512x1024_0_1_2 (cmpi .slt (broadcastInDim S160x1x1 ![0] bcast_S160_S160x1x1_0 (iotaInDim S160 32 0)) (broadcastInDim S160x1x1 ![] bcast_S_S160x1x1 (shapeCast _ n shapeCasts_S1_S_))))
    (Host.dotGeneral dot_S160x512x512_S160x512x1024_S160x512x1024_2_1_1_2_0_0 none (mulf (refSilu (refDot E X W1)) (refDot E X W3)) (refDown E W2))
    (broadcastInDim S160x512x1024 ![] bcast_S_S160x512x1024 (id (constant S_ .f32 0x00000000#32)))) shapeCasts_S160x512x1024_S81920x1024 : FVec Ideal S81920x1024 .f32) bitsLt_bf16_f32

/-- The reference's result is that of its arguments. -/
theorem res_eq (m : (ℓ : Loc nD τ sig) → Buf (Elt Ideal) ℓ) (c : Dev nD) : (Value.res_out0 m c : FVec Ideal S81920x1024 .bf16)
    = refOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold refOut refDown refSilu refDot refX refHalf0 refHalf1 refUp refAt refZ refE
  rfl

/-- An expert in range. -/
def ex (w : BitVec 32) : Fin 32 := ⟨min w.toNat 31, by omega⟩

theorem refE_e (hE : ∀ t, (E t).toNat < 32) (t : Fin 160) : refE E (ix1 t) = E (ix1 t) := by
  have h := hE (ix1 t)
  show Scalar.select (Scalar.cmpi .slt (E (ix1 t)) 0#32) (E (ix1 t) + 32#32) (E (ix1 t)) = E (ix1 t)
  generalize E (ix1 t) = w at h
  have hs : w.slt 0#32 = false := by
    rw [Bool.eq_false_iff]; intro hh
    rw [BitVec.slt_iff_toInt_lt, BitVec.toInt_eq_toNat_of_lt (by omega)] at hh
    simp at hh
    omega
  show (if BitVec.ofBool (w.slt 0#32) = 1#1 then _ else _) = w
  rw [hs]; rfl

theorem refAt_0 (k k' : BitVec 32) (t : Fin 160) : refAt E k k' (ix2 t 0) = refE E (ix1 t) := by
  unfold refAt
  pointwise
theorem refAt_1 (k k' : BitVec 32) (t : Fin 160) : refAt E k k' (ix2 t 1) = 0#32 := by
  unfold refAt
  pointwise [refZ]
  rfl
theorem refAt_2 (k k' : BitVec 32) (t : Fin 160) : refAt E k k' (ix2 t 2) = 0#32 := by
  unfold refAt
  pointwise [refZ]
  rfl

/-- A weight of a block's expert. -/
theorem up_e (W : FVec Ideal S32x1024x512 .f32) (hE : ∀ t, (E t).toNat < 32) (t : Fin 160) (k : Fin 1024) (d : Fin 512) :
    Host.gather gather_S32x1024x512_S160x3_S160x1x1024x512_123_n_n_n_012_1_11024512 W (refAt E 1024#32 512#32) (ix4 t 0 k d) = W (ix3 (ex (E (ix1 t))) k d) := by
  unfold Host.gather
  refine congrArg W (funext fun a => Fin.ext ?_)
  match a with
  | ⟨0, _⟩ =>
    show min (refAt E 1024#32 512#32 _).toInt.toNat 31 + 0 + 0 = min (E (ix1 t)).toNat 31
    refine (congrArg (fun w : BitVec 32 => min w.toInt.toNat 31 + 0 + 0) ((congrArg (refAt E 1024#32 512#32) (a₂ := ix2 t 0) (funext fun b => ?_)).trans ((refAt_0 E 1024#32 512#32 t).trans (refE_e E hE t)))).trans ?_
    · match b with
      | ⟨0, _⟩ => rfl
      | ⟨1, _⟩ => rfl
    · have h := hE (ix1 t)
      show min (E (ix1 t)).toInt.toNat 31 + 0 + 0 = _
      rw [BitVec.toInt_eq_toNat_of_lt (by omega)]; rfl
  | ⟨1, _⟩ =>
    show min (refAt E 1024#32 512#32 _).toInt.toNat 0 + 0 + k.val = k.val
    rw [Nat.min_zero]; omega
  | ⟨2, _⟩ =>
    show min (refAt E 1024#32 512#32 _).toInt.toNat 0 + 0 + d.val = d.val
    rw [Nat.min_zero]; omega

theorem down_e (W : FVec Ideal S32x512x1024 .f32) (hE : ∀ t, (E t).toNat < 32) (t : Fin 160) (d : Fin 512) (j : Fin 1024) :
    Host.gather gather_S32x512x1024_S160x3_S160x1x512x1024_123_n_n_n_012_1_15121024 W (refAt E 512#32 1024#32) (ix4 t 0 d j) = W (ix3 (ex (E (ix1 t))) d j) := by
  unfold Host.gather
  refine congrArg W (funext fun a => Fin.ext ?_)
  match a with
  | ⟨0, _⟩ =>
    show min (refAt E 512#32 1024#32 _).toInt.toNat 31 + 0 + 0 = min (E (ix1 t)).toNat 31
    refine (congrArg (fun w : BitVec 32 => min w.toInt.toNat 31 + 0 + 0) ((congrArg (refAt E 512#32 1024#32) (a₂ := ix2 t 0) (funext fun b => ?_)).trans ((refAt_0 E 512#32 1024#32 t).trans (refE_e E hE t)))).trans ?_
    · match b with
      | ⟨0, _⟩ => rfl
      | ⟨1, _⟩ => rfl
    · have h := hE (ix1 t)
      show min (E (ix1 t)).toInt.toNat 31 + 0 + 0 = _
      rw [BitVec.toInt_eq_toNat_of_lt (by omega)]; rfl
  | ⟨1, _⟩ =>
    show min (refAt E 512#32 1024#32 _).toInt.toNat 0 + 0 + d.val = d.val
    rw [Nat.min_zero]; omega
  | ⟨2, _⟩ =>
    show min (refAt E 512#32 1024#32 _).toInt.toNat 0 + 0 + j.val = j.val
    rw [Nat.min_zero]; omega

theorem refUp_e (W : FVec Ideal S32x1024x512 .f32) (hE : ∀ t, (E t).toNat < 32) (t : Fin 160) (k : Fin 1024) (d : Fin 512) :
    refUp E W (ix3 t k d) = W (ix3 (ex (E (ix1 t))) k d) := by
  refine Eq.trans ?_ (up_e E W hE t k d)
  unfold refUp
  generalize Host.gather _ W _ = G
  pointwise

theorem refDown_e (hE : ∀ t, (E t).toNat < 32) (t : Fin 160) (d : Fin 512) (j : Fin 1024) :
    refDown E W2 (ix3 t d j) = W2 (ix3 (ex (E (ix1 t))) d j) := by
  refine Eq.trans ?_ (down_e E W2 hE t d j)
  unfold refDown
  generalize Host.gather _ W2 _ = G
  pointwise

/-- Row `r` of block `t`. -/
def row (t : Fin 160) (r : Fin 512) : Fin 81920 := ⟨t.val * 512 + r.val, by omega⟩

/-- The value in one half of a word. -/
def half (k : ℕ) (w : BitVec 32) : Ideal .bf16 := Ideal.ofBits .bf16 (w.extractLsb' (k * 16) 16)
/-- Entry `k` of a row. -/
def ent (p : Fin 81920) (k : Fin 1024) : Ideal .bf16 := half (k.val / 512) (X (ix2 p ⟨k.val % 512, by omega⟩))

/-- Two halves side by side, read by halves. -/
theorem cases_e (k : Fin 1024) (A B : Fin 512 → Ideal .bf16) (x : Fin 512 → BitVec 32) (hA : ∀ k, A k = half 0 (x k)) (hB : ∀ k, B k = half 1 (x k)) :
    (if h : k.val < 512 then A ⟨k.val, h⟩ else B ⟨k.val - 512, by omega⟩) = half (k.val / 512) (x ⟨k.val % 512, by omega⟩) := by
  by_cases h : k.val < 512
  · rw [dif_pos h, hA, show k.val / 512 = 0 by omega]
    exact congrArg (fun q => half 0 (x q)) (Fin.ext (Nat.mod_eq_of_lt h).symm)
  · rw [dif_neg h, hB, show k.val / 512 = 1 by omega]
    exact congrArg (fun q => half 1 (x q)) (Fin.ext (by show k.val - 512 = k.val % 512; omega))

theorem half0_e (p : Fin 81920) (k : Fin 512) : refHalf0 X (ix2 p k) = half 0 (X (ix2 p k)) := by
  pointwise [refHalf0]
  refine congrArg (fun w : BitVec 32 => Ideal.ofBits .bf16 (w.extractLsb' (0 * 16) 16)) (congrArg X (a₂ := ix2 p k) (funext fun a => Fin.ext ?_))
  match a with
  | ⟨0, _⟩ => rfl
  | ⟨1, _⟩ => rfl
theorem half1_e (p : Fin 81920) (k : Fin 512) : refHalf1 X (ix2 p k) = half 1 (X (ix2 p k)) := by
  pointwise [refHalf1]
  refine congrArg (fun w : BitVec 32 => Ideal.ofBits .bf16 (w.extractLsb' (1 * 16) 16)) (congrArg X (a₂ := ix2 p k) (funext fun a => Fin.ext ?_))
  match a with
  | ⟨0, _⟩ => rfl
  | ⟨1, _⟩ => rfl
theorem refX_e (p : Fin 81920) (k : Fin 1024) : refX X (ix2 p k) = ent X p k := by
  unfold refX
  have h0 := half0_e X p
  have h1 := half1_e X p
  generalize refHalf0 X = A at h0 ⊢
  generalize refHalf1 X = B at h1 ⊢
  pointwise
  unfold ent
  exact cases_e k (fun k => A (ix2 p k)) (fun k => B (ix2 p k)) (fun k => X (ix2 p k)) h0 h1

theorem refDot_e (W : FVec Ideal S32x1024x512 .f32) (hE : ∀ t, (E t).toNat < 32) (t : Fin 160) (r d : Fin 512) :
    refDot E X W (ix3 t r d) = ∑ k : Fin 1024, ent X (row t r) k * W (ix3 (ex (E (ix1 t))) k d) := by
  have h : ∀ k, refUp E W (ix3 t k d) = W (ix3 (ex (E (ix1 t))) k d) := fun k => refUp_e E W hE t k d
  unfold refDot
  have hx : ∀ k, refX X (ix2 (row t r) k) = ent X (row t r) k := refX_e X (row t r)
  generalize refUp E W = U at h
  generalize refX X = Y at hx
  simp only [← h, ← hx]
  pointwise
  rfl

/-- A hidden entry of a block. -/
def hid (e : Fin 32) (t : Fin 160) (r d : Fin 512) : Ideal .bf16 :=
  (∑ k : Fin 1024, ent X (row t r) k * W1 (ix3 e k d)) * Cert.Kernel3Ideal.Merge.sg (∑ k : Fin 1024, ent X (row t r) k * W1 (ix3 e k d)) * (∑ k : Fin 1024, ent X (row t r) k * W3 (ix3 e k d))

theorem refSilu_e (A : FVec Ideal S160x512x512 .f32) (t : Fin 160) (r d : Fin 512) : refSilu A (ix3 t r d) = A (ix3 t r d) * Cert.Kernel3Ideal.Merge.sg (A (ix3 t r d)) := by
  pointwise [refSilu]
  unfold Cert.Kernel3Ideal.Merge.sg
  rw [zero_sub]

/-- The word of a point below a count. -/
theorem used_word (n : ℕ) (w : BitVec 32) (hn : n < 160) (hw : w.toNat ≤ 160) : Iff ((BitVec.ofNat 32 n).slt w = true) (n < w.toNat) := by
  rw [BitVec.slt_iff_toInt_lt, BitVec.toInt_eq_toNat_of_lt (by rw [BitVec.toNat_ofNat]; omega), BitVec.toInt_eq_toNat_of_lt (by omega), BitVec.toNat_ofNat, Nat.mod_eq_of_lt (by omega)]
  omega

/-- An entry of the reference's result. -/
theorem refOut_e (hE : ∀ t, (E t).toNat < 32) (hn : (n (ix1 0)).toNat ≤ 160) (t : Fin 160) (r : Fin 512) (j : Fin 1024) :
    refOut E n X W1 W3 W2 (ix2 (row t r) j) = if t.val < (n (ix1 0)).toNat then ∑ d : Fin 512, hid X W1 W3 (ex (E (ix1 t))) t r d * W2 (ix3 (ex (E (ix1 t))) d j) else 0 := by
  have hd : ∀ d, refDown E W2 (ix3 t d j) = W2 (ix3 (ex (E (ix1 t))) d j) := fun d => refDown_e E W2 hE t d j
  have hh : ∀ d, mulf (refSilu (refDot E X W1)) (refDot E X W3) (ix3 t r d) = hid X W1 W3 (ex (E (ix1 t))) t r d := fun d => by
    show refSilu (refDot E X W1) (ix3 t r d) * refDot E X W3 (ix3 t r d) = _
    rw [refSilu_e, refDot_e E X W1 hE, refDot_e E X W3 hE]; rfl
  unfold refOut
  generalize mulf (refSilu (refDot E X W1)) (refDot E X W3) = H at hh
  generalize refDown E W2 = D at hd
  simp only [← hh, ← hd]
  pointwise
  have hq : (row t r).val / 512 = t.val := by show (t.val * 512 + r.val) / 512 = _; omega
  have hr : (row t r).val % 512 = r.val := by show (t.val * 512 + r.val) % 512 = _; omega
  have z : id (constant (F := Ideal) S_ .f32 0x00000000#32) ix0 = 0 := by
    show constant (F := Ideal) S_ .f32 0x00000000#32 ix0 = 0
    pointwise
  simp only [hq, hr, Fin.eta]
  rw [z]
  have hu := used_word t.val (n (ix1 0)) t.isLt hn
  show (if BitVec.ofBool ((BitVec.ofNat 32 t.val).slt (n (ix1 0))) = 1#1 then _ else _) = _
  by_cases h : t.val < (n (ix1 0)).toNat
  · rw [if_pos h, hu.2 h]; rfl
  · rw [if_neg h, Bool.eq_false_iff.2 (fun e => h (hu.1 e))]; rfl

end Cert.Reference4Ideal.Exp

end
-- ==== Proof.ExpertsBlocks.lean ====
module

public import proofs.«01_k».proof.Proof.Experts
public import proofs.«01_k».proof.Proof.ExpertsRef

@[expose] public section

set_option maxRecDepth 16384

noncomputable section

/-! # The experts' result, entry by entry -/

namespace Cert.Kernel4Ideal.Exp

open Cert.Kernel4Ideal Cert.Kernel4Ideal.Gen Idealize.ShloMosaic Idealize.ShloMosaic.TcCoe Idealize.SL.Sem
open Cert.Reference4Ideal.Exp (row ex half ent cases_e used_word)

/-- A block of rows from its words. -/
def unp (x : Vec Ideal S512x512 .i32) : FVec Ideal S512x1024 .bf16 :=
  truncf .bf16 (concatenate S512x1024 1 [⟨S512x512, (unpackElementwise 0 x : FVec Ideal S512x512 .f32)⟩, ⟨S512x512, (unpackElementwise 1 x : FVec Ideal S512x512 .f32)⟩] concatenates_S512x512_S512x512_S512x1024_d1) bitsLt_bf16_f32

theorem unp_e (x : Vec Ideal S512x512 .i32) (r : Fin 512) (k : Fin 1024) :
    unp x (ix2 r k) = half (k.val / 512) (x (ix2 r ⟨k.val % 512, by omega⟩)) := by
  pointwise [unp]
  exact cases_e k (fun k => half 0 (x (ix2 r k))) (fun k => half 1 (x (ix2 r k))) (fun k => x (ix2 r k)) (fun _ => rfl) (fun _ => rfl)

/-- The computed block of unpacked rows. -/
def pay (y : FVec Ideal S512x1024 .bf16) (x1 x2 : FVec Ideal S1024x512 .bf16) (x3 : FVec Ideal S512x1024 .bf16) : FVec Ideal S512x1024 .bf16 :=
  let dot (w : FVec Ideal S1024x512 .bf16) : FVec Ideal S512x512 .f32 := matmul dot_S512x1024_S1024x512_S512x512_1_0_0_1_n_n none y w (constant S512x512 .f32 0x00000000#32)
  let sig (a : FVec Ideal S512x512 .f32) : FVec Ideal S512x512 .f32 := divf (broadcast S512x512 (Scalar.ofBits .f32 0x3F800000#32)) (addf (broadcast S512x512 (Scalar.ofBits .f32 0x3F800000#32)) (exp (subf (broadcast S512x512 (Scalar.ofBits .f32 0x00000000#32)) a)))
  truncf .bf16 (matmul dot_S512x512_S512x1024_S512x1024_1_0_0_1_n_n none (truncf .bf16 (mulf (mulf (dot x1) (sig (dot x1))) (dot x2)) bitsLt_bf16_f32) x3 (constant S512x1024 .f32 0x00000000#32) : FVec Ideal S512x1024 .f32) bitsLt_bf16_f32

theorem pay4_pay (x0 : Vec Ideal S512x512 .i32) (x1 x2 : FVec Ideal S1024x512 .bf16) (x3 : FVec Ideal S512x1024 .bf16) : k0_pay4 x0 x1 x2 x3 = pay (unp x0) x1 x2 x3 := rfl

/-- The computed block, entry by entry. -/
theorem pay_e (x0 : FVec Ideal S512x1024 .bf16) (x1 x2 : Vec Ideal S1x1024x512 .f32) (x3 : Vec Ideal S1x512x1024 .f32) (r : Fin 512) (j : Fin 1024) :
    pay x0 (k0_pay1 x1) (k0_pay2 x2) (k0_pay3 x3) (ix2 r j)
      = ∑ d : Fin 512, ((∑ k : Fin 1024, x0 (ix2 r k) * x1 (ix3 0 k d)) * Cert.Kernel3Ideal.Merge.sg (∑ k : Fin 1024, x0 (ix2 r k) * x1 (ix3 0 k d)) * (∑ k : Fin 1024, x0 (ix2 r k) * x2 (ix3 0 k d))) * x3 (ix3 0 d j) := by
  pointwise [pay, k0_pay1, k0_pay2, k0_pay3]
  rfl

theorem pay4_e (x0 : Vec Ideal S512x512 .i32) (x1 x2 : Vec Ideal S1x1024x512 .f32) (x3 : Vec Ideal S1x512x1024 .f32) (r : Fin 512) (j : Fin 1024) (y : Fin 1024 → Ideal .bf16)
    (hy : ∀ k : Fin 1024, half (k.val / 512) (x0 (ix2 r ⟨k.val % 512, by omega⟩)) = y k) :
    k0_pay4 x0 (k0_pay1 x1) (k0_pay2 x2) (k0_pay3 x3) (ix2 r j)
      = ∑ d : Fin 512, ((∑ k : Fin 1024, y k * x1 (ix3 0 k d)) * Cert.Kernel3Ideal.Merge.sg (∑ k : Fin 1024, y k * x1 (ix3 0 k d)) * (∑ k : Fin 1024, y k * x2 (ix3 0 k d))) * x3 (ix3 0 d j) := by
  have hu : ∀ k, unp x0 (ix2 r k) = y k := fun k => (unp_e x0 r k).trans (hy k)
  rw [pay4_pay, pay_e]
  simp only [hu]

theorem pay5_e (r : Fin 512) (j : Fin 1024) : (k0_pay5 : FVec Ideal S512x1024 .bf16) (ix2 r j) = 0 := by
  pointwise [k0_pay5]

variable (pf : pre0.Contents (Elt Ideal)) (ok : ok0 pf) (m : (ℓ : Loc nD τ sig) → Buf (Elt Ideal) ℓ) (ρ : Dev nD → PrngReg) (c : Dev nD)

theorem crd_val (t : Fin (cfgA pf ok).N) : (crd pf ok t 0).val = t.val := coords_val t

theorem lt160 (t : Fin (cfgA pf ok).N) : t.val < 160 := t.isLt

theorem ix4_0 (t : Fin (cfgA pf ok).N) : ((cfgA pf ok).win (4 : Fin 5)).index t (0 : Fin 2) = t.val := by
  have h := lt160 pf ok t
  show (BitVec.ofNat 32 (crd pf ok t 0).val).toNat = t.val
  rw [crd_val, BitVec.toNat_ofNat, Nat.mod_eq_of_lt (by omega)]

theorem inj4 (t t' : Fin (cfgA pf ok).N) (h : ((cfgA pf ok).win (4 : Fin 5)).index t = ((cfgA pf ok).win (4 : Fin 5)).index t') : t = t' := by
  have h0 := congrFun h (0 : Fin 2)
  rw [ix4_0, ix4_0] at h0
  exact Fin.ext h0

theorem flush4 (t : Fin (cfgA pf ok).N) : ((cfgA pf ok).win (4 : Fin 5)).flush t = true := by
  unfold Pipeline.Window.flush
  rw [Bool.and_eq_true, Bool.or_eq_true]
  refine ⟨rfl, ?_⟩
  by_cases h : t.val + 1 < (cfgA pf ok).N
  · exact .inr (decide_eq_true ⟨h, fun e => by have := congrArg Fin.val (inj4 pf ok _ _ e); simp at this⟩)
  · exact .inl (decide_eq_true (Nat.le_antisymm t.isLt (Nat.not_lt.1 h)))

theorem flushed4 (t : Fin (cfgA pf ok).N) : (dats pf ok m ρ 0 c).flushed (4 : Fin 5) t = outs pf ok m ρ c t := by
  show (dats pf ok m ρ 0 c).after (4 : Fin 5) t = _
  rw [after0_4]

theorem blocks4 (t : Fin (cfgA pf ok).N) : (((cfgA pf ok).win (4 : Fin 5)).blk t).view.read (Elt Ideal) ((dats pf ok m ρ 0 c).arrAt (4 : Fin 5) (cfgA pf ok).N) = (dats pf ok m ρ 0 c).flushed (4 : Fin 5) t :=
  (dats pf ok m ρ 0 c).read_blk_arrAt_eq_flushed (4 : Fin 5) (fun t t' _ _ hne => ((cfgA pf ok).win (4 : Fin 5)).disjoint_blk fun h => hne (inj4 pf ok t t' h)) (cfgA pf ok).N t t.isLt (flush4 pf ok t)

/-- The point of a block. -/
def pt (t : Fin 160) : Fin (cfgA pf ok).N := ⟨t.val, t.isLt⟩

theorem arr_out (t : Fin 160) (r : Fin 512) (j : Fin 1024) :
    ((dats pf ok m ρ 0 c).arrAt (4 : Fin 5) (cfgA pf ok).N : FVec Ideal S81920x1024 .bf16) (ix2 (row t r) j) = outs pf ok m ρ c (pt pf ok t) (ix2 r j) := by
  have hb := congrFun (blocks4 pf ok m ρ c (pt pf ok t)) (ix2 r j : S512x1024.Idx)
  rw [flushed4] at hb
  generalize (dats pf ok m ρ 0 c).arrAt (4 : Fin 5) (cfgA pf ok).N = A at hb ⊢
  generalize outs pf ok m ρ c (pt pf ok t) = o at hb ⊢
  rw [View.read_apply] at hb
  refine Eq.trans ?_ hb
  refine congrArg A (funext fun a => Fin.ext ?_)
  match a with
  | ⟨0, _⟩ => show t.val * 512 + r.val = ((cfgA pf ok).win (4 : Fin 5)).index (pt pf ok t) (0 : Fin 2) * 512 + 1 * r.val; rw [ix4_0]; show _ = t.val * 512 + _; omega
  | ⟨1, _⟩ => show j.val = 0 * 1024 + 1 * j.val; omega

/-! ## The blocks a point reads -/

theorem eAt_pt (t : Fin 160) : eAt (F := Ideal) (pf 0) (crd pf ok (pt pf ok t)) = (pf 0 : S160.Idx → BitVec 32) (ix1 t) := by
  refine (eAt_eq (F := Ideal) (pf 0) (pt pf ok t)).trans (congrArg (pf 0 : S160.Idx → BitVec 32) (funext fun a => ?_))
  match a with
  | ⟨0, _⟩ => rfl

theorem b1_e (t : Fin 160) (h : ((pf 0 : S160.Idx → BitVec 32) (ix1 t)).toNat < 32) (k : Fin 1024) (d : Fin 512) :
    xb1 pf ok m ρ c (pt pf ok t) (ix3 0 k d) = m ((c : Thread nD τ).loc main_arg3) (ix3 (ex ((pf 0 : S160.Idx → BitVec 32) (ix1 t))) k d) := by
  unfold xb1 iblk
  rw [View.read_apply]
  show m ((c : Thread nD τ).loc main_arg3) _ = _
  refine congrArg _ (funext fun a => Fin.ext ?_)
  match a with
  | ⟨0, _⟩ =>
    show (eAt (F := Ideal) (pf 0) (crd pf ok (pt pf ok t))).toNat * 1 + 1 * 0 = min ((pf 0 : S160.Idx → BitVec 32) (ix1 t)).toNat 31
    rw [eAt_pt]; omega
  | ⟨1, _⟩ => show 0 * 1024 + 1 * k.val = k.val; omega
  | ⟨2, _⟩ => show 0 * 512 + 1 * d.val = d.val; omega

theorem b2_e (t : Fin 160) (h : ((pf 0 : S160.Idx → BitVec 32) (ix1 t)).toNat < 32) (k : Fin 1024) (d : Fin 512) :
    xb2 pf ok m ρ c (pt pf ok t) (ix3 0 k d) = m ((c : Thread nD τ).loc main_arg4) (ix3 (ex ((pf 0 : S160.Idx → BitVec 32) (ix1 t))) k d) := by
  unfold xb2 iblk
  rw [View.read_apply]
  show m ((c : Thread nD τ).loc main_arg4) _ = _
  refine congrArg _ (funext fun a => Fin.ext ?_)
  match a with
  | ⟨0, _⟩ =>
    show (eAt (F := Ideal) (pf 0) (crd pf ok (pt pf ok t))).toNat * 1 + 1 * 0 = min ((pf 0 : S160.Idx → BitVec 32) (ix1 t)).toNat 31
    rw [eAt_pt]; omega
  | ⟨1, _⟩ => show 0 * 1024 + 1 * k.val = k.val; omega
  | ⟨2, _⟩ => show 0 * 512 + 1 * d.val = d.val; omega

theorem b3_e (t : Fin 160) (h : ((pf 0 : S160.Idx → BitVec 32) (ix1 t)).toNat < 32) (d : Fin 512) (j : Fin 1024) :
    xb3 pf ok m ρ c (pt pf ok t) (ix3 0 d j) = m ((c : Thread nD τ).loc main_arg5) (ix3 (ex ((pf 0 : S160.Idx → BitVec 32) (ix1 t))) d j) := by
  unfold xb3 iblk
  rw [View.read_apply]
  show m ((c : Thread nD τ).loc main_arg5) _ = _
  refine congrArg _ (funext fun a => Fin.ext ?_)
  match a with
  | ⟨0, _⟩ =>
    show (eAt (F := Ideal) (pf 0) (crd pf ok (pt pf ok t))).toNat * 1 + 1 * 0 = min ((pf 0 : S160.Idx → BitVec 32) (ix1 t)).toNat 31
    rw [eAt_pt]; omega
  | ⟨1, _⟩ => show 0 * 512 + 1 * d.val = d.val; omega
  | ⟨2, _⟩ => show 0 * 1024 + 1 * j.val = j.val; omega

theorem min_word (n : ℕ) (w : BitVec 32) (hw : w.toNat ≤ 160) (hn : n < w.toNat) : (Scalar.minsi (BitVec.ofNat 32 n) (Scalar.subi w 1#32)).toNat = n := by
  have e : (w - 1#32).toNat = w.toNat - 1 := by rw [BitVec.toNat_sub]; simp; omega
  have hv : (BitVec.ofNat 32 n).toNat = n := by rw [BitVec.toNat_ofNat]; omega
  show (if (BitVec.ofNat 32 n).slt (w - 1#32) then BitVec.ofNat 32 n else w - 1#32).toNat = n
  by_cases h : (BitVec.ofNat 32 n).slt (w - 1#32) = true
  · rw [if_pos h, hv]
  · rw [if_neg h, e]
    rw [BitVec.slt_iff_toInt_lt, BitVec.toInt_eq_toNat_of_lt (by omega), BitVec.toInt_eq_toNat_of_lt (by omega), hv, e] at h
    omega

theorem b0_e (t : Fin 160) (hw : (nUsed (F := Ideal) (pf 1)).toNat ≤ 160) (h : t.val < (nUsed (F := Ideal) (pf 1)).toNat) (r k : Fin 512) :
    xb0 pf ok m ρ c (pt pf ok t) (ix2 r k) = m ((c : Thread nD τ).loc main_arg2) (ix2 (row t r) k) := by
  unfold xb0 iblk
  rw [View.read_apply]
  show m ((c : Thread nD τ).loc main_arg2) _ = _
  refine congrArg _ (funext fun a => Fin.ext ?_)
  match a with
  | ⟨0, _⟩ =>
    show (Scalar.minsi (BitVec.ofNat 32 (crd pf ok (pt pf ok t) 0).val) (Scalar.subi (nUsed (F := Ideal) (pf 1)) 1#32)).toNat * 512 + 1 * r.val = t.val * 512 + r.val
    rw [show (crd pf ok (pt pf ok t) 0).val = t.val from coords_val _, min_word _ _ hw h]; omega
  | ⟨1, _⟩ => show 0 * 512 + 1 * k.val = k.val; omega

end Cert.Kernel4Ideal.Exp

end
-- ==== Proof.ExpertsClaims.lean ====
module

public import proofs.«01_k».proof.Defs
public import proofs.«01_k».proof.Proof.Gen.Kernel4
public import proofs.«01_k».proof.Proof.Gen.Pre_ranged
public import proofs.«01_k».proof.Proof.Gen.Reference4Ideal
public import proofs.«01_k».proof.Proof.ExpertsBlocks
public import Idealize.ShloMosaic.Lib.ReduceAll

@[expose] public section

set_option maxRecDepth 16384

noncomputable section

/-! # The experts' claims

The precondition puts both tables in range, so that every block lies inside its array; then the kernel's result is the
reference's, entry by entry. -/

namespace Cert.Kernel4Ideal.Exp

open Cert.Kernel4Ideal Cert.Kernel4Ideal.Gen Idealize.ShloMosaic Idealize.ShloMosaic.TcCoe Idealize.SL.Sem
open Cert.Reference4Ideal.Exp (row ex refOut refOut_e hid ent half used_word)

/-! ## The precondition -/

/-- A word from 0 up to a small bound, signed, is below it unsigned. -/
theorem word_range (w k : BitVec 32) (hk : k.toNat < 2 ^ 31) (h0 : Scalar.cmpi .sge w 0#32 = 1#1) (h1 : Scalar.cmpi .slt w k = 1#1) : w.toNat < k.toNat := by
  have e0 : BitVec.ofBool ((0#32).sle w) = 1#1 := h0
  have e1 : BitVec.ofBool (w.slt k) = 1#1 := h1
  have f0 : (0#32).sle w = true := by cases hb : (0#32).sle w <;> simp_all
  have f1 : w.slt k = true := by cases hb : w.slt k <;> simp_all
  rw [BitVec.sle_iff_toInt_le] at f0
  rw [BitVec.slt_iff_toInt_lt, BitVec.toInt_eq_toNat_of_lt (x := k) (by omega)] at f1
  have hz : (0#32).toInt = 0 := rfl
  rw [hz] at f0
  rw [BitVec.toInt_eq_toNat_cond] at f0 f1
  split at f0 <;> split at f1 <;> omega

/-- A word from 1 to 160, signed, is so unsigned. -/
theorem word_count (w : BitVec 32) (h0 : Scalar.cmpi .sge w 1#32 = 1#1) (h1 : Scalar.cmpi .sle w 160#32 = 1#1) : 1 ≤ w.toNat ∧ w.toNat ≤ 160 := by
  have e0 : BitVec.ofBool ((1#32).sle w) = 1#1 := h0
  have e1 : BitVec.ofBool (w.sle 160#32) = 1#1 := h1
  have f0 : (1#32).sle w = true := by cases hb : (1#32).sle w <;> simp_all
  have f1 : w.sle 160#32 = true := by cases hb : w.sle 160#32 <;> simp_all
  rw [BitVec.sle_iff_toInt_le] at f0 f1
  have hz : (1#32).toInt = 1 := rfl
  have hk : (160#32).toInt = 160 := rfl
  rw [hz] at f0; rw [hk] at f1
  rw [BitVec.toInt_eq_toNat_cond] at f0 f1
  split at f0 <;> split at f1 <;> omega

/-- The precondition, read: the experts are below 32, and 1 to 160 blocks are in use. -/
theorem range_of_pre {F : FTy → Type} [FloatOps F] (a0 : IVec S160 32) (a1 : IVec S1 32) (a2 : IVec S81920x512 32) (a3 a4 : FVec F S32x1024x512 .f32) (a5 : FVec F S32x512x1024 .f32)
    (h : Cert.Pre_ranged.fn (F := F) a0 a1 a2 a3 a4 a5 = fun _ => 1#1) :
    (∀ t, (a0 t).toNat < 32) ∧ 1 ≤ (a1 (ix1 0)).toNat ∧ (a1 (ix1 0)).toNat ≤ 160 := by
  have hs : Subsingleton Cert.Pre_ranged.S_.Idx := ⟨fun a b => funext fun k => k.elim0⟩
  have h0 := congrFun h Idealize.ShloMosaic.ix0
  unfold Cert.Pre_ranged.fn at h0
  obtain ⟨h012, h3⟩ := IntOp.andi_eq_one.1 h0
  obtain ⟨h01, h2⟩ := IntOp.andi_eq_one.1 h012
  obtain ⟨h0, h1⟩ := IntOp.andi_eq_one.1 h01
  have e : shapeCast Cert.Pre_ranged.S_ a1 Cert.Pre_ranged.Facts.shapeCasts_S1_S_ Idealize.ShloMosaic.ix0 = a1 (ix1 0) := by pointwise
  refine ⟨fun i => word_range _ 32#32 (by decide) (Host.reduce_andi_all _ _ _ _ _ h0 i) (Host.reduce_andi_all _ _ _ _ _ h1 i), word_count _ ?_ ?_⟩
  · rw [← e]; exact h2
  · rw [← e]; exact h3

/-! ## The run under it -/

section Run

variable {F : FTy → Type} [FloatOps F] (m : (ℓ : Loc nD τ sig) → Buf (Elt F) ℓ) (ρ : Dev nD → PrngReg)

/-- The two tables. -/
def tbls : pre0.Contents (Elt F) := fun j => m (((0 : Dev nD) : Thread nD τ).loc (pre0.ref j))

theorem tbls_at (c : Dev nD) (j : Fin 2) : m ((c : Thread nD τ).loc (pre0.ref j)) = tbls m j := by
  have h : c = 0 := Subsingleton.elim c 0
  subst h; rfl

/-- The tables are in range on every device. -/
def InRange : Prop := ∀ c : Dev nD, Cert.Pre_ranged.fn (F := F) (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) = fun _ => 1#1

theorem in_range (h : InRange m) : (∀ t : S160.Idx, ((tbls m 0 : S160.Idx → BitVec 32) t).toNat < 32)
    ∧ 1 ≤ ((tbls m 1 : S1.Idx → BitVec 32) (ix1 0)).toNat ∧ ((tbls m 1 : S1.Idx → BitVec 32) (ix1 0)).toNat ≤ 160 :=
  range_of_pre _ _ _ _ _ _ (h 0)

theorem one_eq : one0 = (ix1 0 : S1.Idx) := funext fun a => match a with | ⟨0, _⟩ => rfl

theorem ok_m (h : InRange m) : ok0 (tbls m) :=
  ok_of (tbls m) (in_range m h).1 (one_eq ▸ (in_range m h).2)

/-- The arguments and every counter end as they were. -/
theorem frame (h : InRange m) : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => (h.1 c).2, h.2⟩) (run_blocks (tbls m) (ok_m m h) m ρ (tbls_at m))

end Run

/-! ## The kernel as written -/

/-- The table holding the kernel's body is the idealized program's, label by label; -/
theorem defs₀_eq : Cert.Kernel4.defs₀ (F := Bits) = Cert.Kernel4Ideal.defs₀ (F := Bits) := by
  unfold Cert.Kernel4.defs₀ Cert.Kernel4Ideal.defs₀
  refine congrArg _ (funext fun l => ?_)
  match l with
  | 0 => rfl

/-- so is the table with the call's pipeline beside it; -/
theorem defs_eq : Cert.Kernel4.defs (F := Bits) = Cert.Kernel4Ideal.defs (F := Bits) :=
  congrArg (Pipeline.defs (Cert.Kernel4Ideal.pcfgs (F := Bits))) defs₀_eq

set_option maxHeartbeats 2000000 in
/-- and so is the launch. -/
theorem main_eq : Cert.Kernel4.main (F := Bits) = Cert.Kernel4Ideal.main (F := Bits) := by
  unfold Cert.Kernel4.main Cert.Kernel4Ideal.main
  rfl

/-! ## The result -/

section Result

variable (m : (ℓ : Loc nD τ sig) → Buf (Elt Ideal) ℓ) (ρ : Dev nD → PrngReg) (c : Dev nD)

/-- The kernel's result is the reference's function of the arguments. -/
theorem same (h : InRange m) : ((dats (tbls m) (ok_m m h) m ρ 0 c).arrAt (4 : Fin 5) (cfgA (tbls m) (ok_m m h)).N : FVec Ideal S81920x1024 .bf16)
    = refOut (tbls m 0) (tbls m 1) (m ((c : Thread nD τ).loc main_arg2)) (m ((c : Thread nD τ).loc main_arg3)) (m ((c : Thread nD τ).loc main_arg4)) (m ((c : Thread nD τ).loc main_arg5)) := by
  obtain ⟨hE, hn1, hn⟩ := in_range m h
  generalize hok : ok_m m h = ok
  clear hok
  funext i
  obtain ⟨t, r, j, rfl⟩ : ∃ (t : Fin 160) (r : Fin 512) (j : Fin 1024), i = ix2 (row t r) j := by
    have h0 : (i 0).val < 81920 := (i 0).isLt
    refine ⟨⟨(i 0).val / 512, by omega⟩, ⟨(i 0).val % 512, by omega⟩, i 1, funext fun a => Fin.ext ?_⟩
    match a with
    | ⟨0, _⟩ => show (i 0).val = (i 0).val / 512 * 512 + (i 0).val % 512; omega
    | ⟨1, _⟩ => rfl
  have hN : nUsed (F := Ideal) (tbls m 1) = (tbls m 1 : S1.Idx → BitVec 32) (ix1 0) := (nUsed_eq (F := Ideal) (tbls m 1)).trans (congrArg (tbls m 1 : S1.Idx → BitVec 32) one_eq)
  have hc : Iff (k0_cond2 (crd (tbls m) ok (pt (tbls m) ok t)) (nUsed (F := Ideal) (tbls m 1)) = 1#1) (t.val < ((tbls m 1 : S1.Idx → BitVec 32) (ix1 0)).toNat) := by
    refine (cond2_iff _ _).trans ?_
    rw [show (crd (tbls m) ok (pt (tbls m) ok t) 0).val = t.val from coords_val _]
    refine Iff.trans ?_ (used_word t.val _ t.isLt hn)
    rw [← hN]
  refine (arr_out (tbls m) ok m ρ c t r j).trans (Eq.trans ?_ (refOut_e (tbls m 0) (tbls m 1) _ _ _ _ hE hn t r j).symm)
  unfold outs outv
  by_cases hu : t.val < ((tbls m 1 : S1.Idx → BitVec 32) (ix1 0)).toNat
  · have hu' : t.val < (nUsed (F := Ideal) (tbls m 1)).toNat := lt_of_lt_of_eq hu (congrArg BitVec.toNat hN.symm)
    have hn' : (nUsed (F := Ideal) (tbls m 1)).toNat ≤ 160 := le_of_eq_of_le (congrArg BitVec.toNat hN) hn
    rw [if_pos hu, if_pos (hc.2 hu), pay4_e (xb0 (tbls m) ok m ρ c (pt (tbls m) ok t)) _ _ _ r j (ent (m ((c : Thread nD τ).loc main_arg2)) (row t r))
      (fun k => congrArg (half (k.val / 512)) (b0_e (tbls m) ok m ρ c t hn' hu' r _))]
    simp only [b1_e (tbls m) ok m ρ c t (hE _), b2_e (tbls m) ok m ρ c t (hE _), b3_e (tbls m) ok m ρ c t (hE _)]
    rfl
  · rw [if_neg hu, if_neg (fun e => hu (hc.1 e)), pay5_e]

end Result

end Cert.Kernel4Ideal.Exp

end
-- ==== Proof.MergeRef.lean ====
module

public import proofs.«01_k».proof.Proof.Gen.Reference3Ideal.Run
public import proofs.«01_k».proof.Proof.MergeBlocks

@[expose] public section

set_option maxRecDepth 16384

noncomputable section

/-! # The reference's merge, entry by entry -/

namespace Cert.Reference3Ideal.Merge

open Cert.Reference3Ideal Cert.Reference3Ideal.Gen Idealize.ShloMosaic Idealize.ShloMosaic.TcCoe Idealize.SL.Sem

variable (R : FVec Ideal S8x4096x1024 .bf16) (H : FVec Ideal S4096x4096 .bf16) (P : FVec Ideal S8x4096x6656 .bf16) (X : FVec Ideal S8x4096x1024 .f32) (gt sh sc : FVec Ideal S8x1x1024 .f32) (g : FVec Ideal S1024 .f32)
  (Wr : FVec Ideal S1024x1024 .f32) (Wh : FVec Ideal S512x1024 .f32) (Wo : FVec Ideal S1024x1024 .f32)

/-- The logistic function of a gate. -/
def refGate (G : FVec Ideal S8x4096x1024 .f32) : FVec Ideal S8x4096x1024 .f32 :=
  Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf G)))

/-- The two gates' columns of the projection. -/
def refCols : FVec Ideal S8x4096x2048 .f32 := extf .f32 (extractStridedSlice S8x4096x2048 ![0, 0, 4608] P slices_S8x4096x6656_S8x4096x2048_0_0_4608) bitsLt_bf16_f32

/-- The second branch's outputs, batch row first. -/
def refHy : FVec Ideal S8x4096x512 .f32 :=
  transpose S8x4096x512 [1, 0, 2] (shapeCast _ (extf .f32 H bitsLt_bf16_f32 : FVec Ideal S4096x4096 .f32) shapeCasts_S4096x4096_S4096x8x512) transposes_S4096x8x512_S8x4096x512_1_0_2

/-- The reference's gated sum of the branches. -/
def refMix : FVec Ideal S8x4096x1024 .f32 :=
  addf (mulf (refGate (extractStridedSlice S8x4096x1024 ![0, 0, 0] (refCols P) slices_S8x4096x2048_S8x4096x1024_0_0_0)) (Host.dotGeneral dot_S8x4096x1024_S1024x1024_S8x4096x1024_2_0_01_1_n_n none (extf .f32 R bitsLt_bf16_f32 : FVec Ideal S8x4096x1024 .f32) Wr))
    (mulf (refGate (extractStridedSlice S8x4096x1024 ![0, 0, 1024] (refCols P) slices_S8x4096x2048_S8x4096x1024_0_0_1024)) (Host.dotGeneral dot_S8x4096x512_S512x1024_S8x4096x1024_2_0_01_1_n_n none (refHy H) Wh))

/-- The reference's first result. -/
def refX1 : FVec Ideal S8x4096x1024 .f32 :=
  addf X (mulf (broadcastInDim S8x4096x1024 ![0, 1, 2] bcast_S8x1x1024_S8x4096x1024_0_1_2 gt) (Host.dotGeneral dot_S8x4096x1024_S1024x1024_S8x4096x1024_2_0_01_1_n_n none (refMix R H P Wr Wh) Wo))

/-- The reference's rows, normalised and modulated. -/
def refRows (Y : FVec Ideal S8x4096x1024 .f32) : FVec Ideal S8x4096x1024 .bf16 :=
  truncf .bf16 (addf (mulf (mulf (mulf Y (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf Y Y) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g)))
    (broadcastInDim S8x4096x1024 ![0, 1, 2] bcast_S8x1x1024_S8x4096x1024_0_1_2 (addf (broadcastInDim S8x1x1024 ![] bcast_S_S8x1x1024 (constant S_ .f32 0x3F800000#32)) sc)))
    (broadcastInDim S8x4096x1024 ![0, 1, 2] bcast_S8x1x1024_S8x4096x1024_0_1_2 sh)) bitsLt_bf16_f32

theorem gate_e (G : FVec Ideal S8x4096x1024 .f32) (b : Fin 8) (i : Fin 4096) (k : Fin 1024) : refGate G (ix3 b i k) = Kernel3Ideal.Merge.sg (G (ix3 b i k)) := by
  pointwise [refGate]
  unfold Kernel3Ideal.Merge.sg
  rw [zero_sub]

theorem hy_e (b : Fin 8) (i : Fin 4096) (d : Fin 512) : refHy H (ix3 b i d) = H (ix2 i (Kernel3Ideal.Merge.ch b d)) := by
  pointwise [refHy]
  rfl

theorem cols_e (b : Fin 8) (i : Fin 4096) (k : Fin 2048) : refCols P (ix3 b i k) = P (ix3 b i (Kernel3Ideal.Merge.col 4608 2048 (by omega) k)) := by
  pointwise [refCols]
  rfl

theorem mix_e (b : Fin 8) (i : Fin 4096) (k : Fin 1024) : refMix R H P Wr Wh (ix3 b i k) = Kernel3Ideal.Merge.mixV R H P Wr Wh b i k := by
  pointwise [refMix]
  simp only [gate_e, hy_e]
  pointwise
  simp only [cols_e]
  unfold Kernel3Ideal.Merge.mixV
  have hc : Kernel3Ideal.Merge.col 4608 2048 (by omega) ⟨1024 + k.val, by omega⟩ = Kernel3Ideal.Merge.col 5632 1024 (by omega) k :=
    Fin.ext (by show 4608 + (1024 + k.val) = 5632 + k.val; omega)
  rw [hc]
  rfl

/-- One entry of the first result. -/
theorem x1_e (b : Fin 8) (i : Fin 4096) (j : Fin 1024) : refX1 R H P X gt Wr Wh Wo (ix3 b i j) = Kernel3Ideal.Merge.x1V R H P X gt Wr Wh Wo b i j := by
  pointwise [refX1]
  simp only [mix_e]
  rfl

/-- One entry of the second. -/
theorem h2_e (b : Fin 8) (i : Fin 4096) (j : Fin 1024) : refRows sh sc g (refX1 R H P X gt Wr Wh Wo) (ix3 b i j) = Kernel3Ideal.Merge.h2V R H P X gt sh sc g Wr Wh Wo b i j := by
  have h := x1_e R H P X gt Wr Wh Wo
  generalize refX1 R H P X gt Wr Wh Wo = Y at h ⊢
  pointwise [refRows]
  simp only [h]
  rfl

/-- THE VALUE: the kernel's final residual stream are the reference's of the same arguments. -/
theorem same_x1 (m : (ℓ : Loc Kernel3Ideal.nD Kernel3Ideal.τ Kernel3Ideal.sig) → Buf (Elt Ideal) ℓ) (c : Dev Kernel3Ideal.nD) :
    ((Kernel3Ideal.Gen.dats m 0 c).arrAt 17 Kernel3Ideal.cfg0.N : FVec Ideal S8x4096x1024 .f32)
      = refX1 (m ((c : Thread Kernel3Ideal.nD Kernel3Ideal.τ).loc Kernel3Ideal.main_arg0)) (m ((c : Thread Kernel3Ideal.nD Kernel3Ideal.τ).loc Kernel3Ideal.main_arg1)) (m ((c : Thread Kernel3Ideal.nD Kernel3Ideal.τ).loc Kernel3Ideal.main_arg2)) (m ((c : Thread Kernel3Ideal.nD Kernel3Ideal.τ).loc Kernel3Ideal.main_arg3)) (m ((c : Thread Kernel3Ideal.nD Kernel3Ideal.τ).loc Kernel3Ideal.main_arg4)) (m ((c : Thread Kernel3Ideal.nD Kernel3Ideal.τ).loc Kernel3Ideal.main_arg8)) (m ((c : Thread Kernel3Ideal.nD Kernel3Ideal.τ).loc Kernel3Ideal.main_arg9)) (m ((c : Thread Kernel3Ideal.nD Kernel3Ideal.τ).loc Kernel3Ideal.main_arg10)) := by
  funext y
  obtain ⟨b, i, j, rfl⟩ : ∃ (b : Fin 8) (i : Fin 4096) (j : Fin 1024), y = ix3 b i j := ⟨y 0, y 1, y 2, by funext a; match a with | ⟨0, _⟩ => rfl | ⟨1, _⟩ => rfl | ⟨2, _⟩ => rfl⟩
  rw [x1_e]
  exact Kernel3Ideal.Merge.arr17_e m c b i j

/-- THE VALUE: the kernel's final normalised rows are the reference's of the same arguments. -/
theorem same_h2 (m : (ℓ : Loc Kernel3Ideal.nD Kernel3Ideal.τ Kernel3Ideal.sig) → Buf (Elt Ideal) ℓ) (c : Dev Kernel3Ideal.nD) :
    ((Kernel3Ideal.Gen.dats m 0 c).arrAt 18 Kernel3Ideal.cfg0.N : FVec Ideal S8x4096x1024 .bf16)
      = refRows (m ((c : Thread Kernel3Ideal.nD Kernel3Ideal.τ).loc Kernel3Ideal.main_arg5)) (m ((c : Thread Kernel3Ideal.nD Kernel3Ideal.τ).loc Kernel3Ideal.main_arg6)) (m ((c : Thread Kernel3Ideal.nD Kernel3Ideal.τ).loc Kernel3Ideal.main_arg7)) (refX1 (m ((c : Thread Kernel3Ideal.nD Kernel3Ideal.τ).loc Kernel3Ideal.main_arg0)) (m ((c : Thread Kernel3Ideal.nD Kernel3Ideal.τ).loc Kernel3Ideal.main_arg1)) (m ((c : Thread Kernel3Ideal.nD Kernel3Ideal.τ).loc Kernel3Ideal.main_arg2)) (m ((c : Thread Kernel3Ideal.nD Kernel3Ideal.τ).loc Kernel3Ideal.main_arg3)) (m ((c : Thread Kernel3Ideal.nD Kernel3Ideal.τ).loc Kernel3Ideal.main_arg4)) (m ((c : Thread Kernel3Ideal.nD Kernel3Ideal.τ).loc Kernel3Ideal.main_arg8)) (m ((c : Thread Kernel3Ideal.nD Kernel3Ideal.τ).loc Kernel3Ideal.main_arg9)) (m ((c : Thread Kernel3Ideal.nD Kernel3Ideal.τ).loc Kernel3Ideal.main_arg10))) := by
  funext y
  obtain ⟨b, i, j, rfl⟩ : ∃ (b : Fin 8) (i : Fin 4096) (j : Fin 1024), y = ix3 b i j := ⟨y 0, y 1, y 2, by funext a; match a with | ⟨0, _⟩ => rfl | ⟨1, _⟩ => rfl | ⟨2, _⟩ => rfl⟩
  rw [h2_e]
  exact Kernel3Ideal.Merge.arr18_e m c b i j

end Cert.Reference3Ideal.Merge

end
-- ==== Proof.Proj.lean ====
module

public import proofs.«01_k».proof.Proof.Gen.Kernel2Ideal.Value
public import Idealize.ShloMosaic.Lib.Pointwise

@[expose] public section

set_option maxRecDepth 16384

noncomputable section

/-! # The input projection's result, entry by entry

A grid point normalises and modulates 512 rows of one batch row and multiplies them by the weight, 512 columns at a
time. Its thirteen stores are thirteen column slices of one product. -/

namespace Cert.Kernel2Ideal.Proj

open Cert.Kernel2Ideal Cert.Kernel2Ideal.Gen Idealize.ShloMosaic Idealize.ShloMosaic.TcCoe Idealize.SL.Sem

/-! ## One column slice -/

/-- The rows times a column slice of the weight, and the slice of the bias. -/
def slice (h : FVec Ideal S512x1024 .bf16) (w : Vec Ideal S1024x512 .bf16) (b : Vec Ideal S1x512 .f32) : FVec Ideal S1x512x512 .bf16 :=
  shapeCast S1x512x512 (truncf .bf16 (addf (matmul dot_S512x1024_S1024x512_S512x512_1_0_0_1_n_n none h (shapeCast S1024x512 w shapeCasts_S1024x512_S1024x512 : FVec Ideal S1024x512 .bf16) (constant S512x512 .f32 0x00000000#32))
    (broadcastTo S512x512 (shapeCast S1x512 b shapeCasts_S1x512_S1x512) broadcasts_S1x512_S512x512)) bitsLt_bf16_f32) shapeCasts_S512x512_S1x512x512

/-- One entry of a slice. -/
theorem slice_e (h : FVec Ideal S512x1024 .bf16) (w : Vec Ideal S1024x512 .bf16) (b : Vec Ideal S1x512 .f32) (r : Fin 512) (j : Fin 512) :
    slice h w b (ix3 0 r j) = (∑ k : Fin 1024, h (ix2 r k) * w (ix2 k j)) + b (ix2 0 j) := by
  pointwise [slice]

/-- The rows times the whole weight, and the bias. -/
def whole (h : FVec Ideal S512x1024 .bf16) (w : Vec Ideal S1024x6656 .bf16) (b : Vec Ideal S1x6656 .f32) : Vec Ideal S1x512x6656 .bf16 :=
  fun y => (∑ k : Fin 1024, h (ix2 (y 1) k) * w (ix2 k (y 2))) + b (ix2 0 (y 2))

/-- A slice from column `o` on is that part of the whole. -/
theorem slice_whole (h : FVec Ideal S512x1024 .bf16) (w : Vec Ideal S1024x6656 .bf16) (b : Vec Ideal S1x6656 .f32) (o : ℕ)
    (i4 : ∀ a, (![0, o] : Fin 2 → ℕ) a + S1024x512.size a ≤ S1024x6656.size a) (i5 : ∀ a, (![0, o] : Fin 2 → ℕ) a + S1x512.size a ≤ S1x6656.size a)
    (i6 : ∀ a, (![0, 0, o] : Fin 3 → ℕ) a + S1x512x512.size a ≤ S1x512x6656.size a) (x : S1x512x512.Idx) :
    slice h (View.ld w (Rect.unit (s := S1024x6656) ![0, o] S1024x512.size i4)) (View.ld b (Rect.unit (s := S1x6656) ![0, o] S1x512.size i5)) x
      = whole h w b ((Rect.unit (s := S1x512x6656) ![0, 0, o] S1x512x512.size i6).emb x) := by
  obtain ⟨z, r, j, rfl⟩ : ∃ (z : Fin 1) (r : Fin 512) (j : Fin 512), x = ix3 z r j := ⟨x 0, x 1, x 2, by funext a; match a with | ⟨0, _⟩ => rfl | ⟨1, _⟩ => rfl | ⟨2, _⟩ => rfl⟩
  obtain rfl : z = 0 := Subsingleton.elim _ _
  rw [slice_e]
  unfold whole
  refine congrArg₂ _ (Finset.sum_congr rfl fun k _ => congrArg₂ _ (congrArg h ?_) (congrArg w ?_)) (congrArg b ?_)
  · funext a
    match a with
    | ⟨0, _⟩ => exact Fin.ext (show r.val = 0 + 1 * r.val by omega)
    | ⟨1, _⟩ => rfl
  · funext a
    match a with
    | ⟨0, _⟩ => exact Fin.ext (show 0 + 1 * k.val = k.val by omega)
    | ⟨1, _⟩ => rfl
  · funext a
    match a with
    | ⟨0, _⟩ => rfl
    | ⟨1, _⟩ => rfl

/-! ## The whole block -/

variable (x0 : Vec Ideal S1x512x1024 .f32) (x1 : Vec Ideal S1x1024 .f32) (x2 x3 : Vec Ideal S1x1x1024 .f32) (x4 : Vec Ideal S1024x6656 .bf16) (x5 : Vec Ideal S1x6656 .f32)

/-- What a point leaves in its output block: its rows, normalised and modulated, times the whole weight, and the bias. -/
theorem out_e (y : S1x512x6656.Idx) : out0_6 x0 x1 x2 x3 x4 x5 y = whole (k0_pay20 x0 x1 x2 x3 x4 x5) x4 x5 y := by
  unfold out0_6
  refine View.canon_apply_of_pieces (whole (k0_pay20 x0 x1 x2 x3 x4 x5) x4 x5) _ ?_ y (cover0_6 _ _ _ _ _ _ _ _ _ _ _ _ _ y)
  have tile := slice_whole (k0_pay20 x0 x1 x2 x3 x4 x5) x4 x5
  intro p hp
  simp only [List.mem_cons, List.not_mem_nil, or_false] at hp
  rcases hp with rfl | rfl | rfl | rfl | rfl | rfl | rfl | rfl | rfl | rfl | rfl | rfl | rfl
  exacts [tile 6144 inb_S1024x6656_S1024x512_0_6144 inb_S1x6656_S1x512_0_6144 inb_S1x512x6656_S1x512x512_0_0_6144,
    tile 5632 inb_S1024x6656_S1024x512_0_5632 inb_S1x6656_S1x512_0_5632 inb_S1x512x6656_S1x512x512_0_0_5632,
    tile 5120 inb_S1024x6656_S1024x512_0_5120 inb_S1x6656_S1x512_0_5120 inb_S1x512x6656_S1x512x512_0_0_5120,
    tile 4608 inb_S1024x6656_S1024x512_0_4608 inb_S1x6656_S1x512_0_4608 inb_S1x512x6656_S1x512x512_0_0_4608,
    tile 4096 inb_S1024x6656_S1024x512_0_4096 inb_S1x6656_S1x512_0_4096 inb_S1x512x6656_S1x512x512_0_0_4096,
    tile 3584 inb_S1024x6656_S1024x512_0_3584 inb_S1x6656_S1x512_0_3584 inb_S1x512x6656_S1x512x512_0_0_3584,
    tile 3072 inb_S1024x6656_S1024x512_0_3072 inb_S1x6656_S1x512_0_3072 inb_S1x512x6656_S1x512x512_0_0_3072,
    tile 2560 inb_S1024x6656_S1024x512_0_2560 inb_S1x6656_S1x512_0_2560 inb_S1x512x6656_S1x512x512_0_0_2560,
    tile 2048 inb_S1024x6656_S1024x512_0_2048 inb_S1x6656_S1x512_0_2048 inb_S1x512x6656_S1x512x512_0_0_2048,
    tile 1536 inb_S1024x6656_S1024x512_0_1536 inb_S1x6656_S1x512_0_1536 inb_S1x512x6656_S1x512x512_0_0_1536,
    tile 1024 inb_S1024x6656_S1024x512_0_1024 inb_S1x6656_S1x512_0_1024 inb_S1x512x6656_S1x512x512_0_0_1024,
    tile 512 inb_S1024x6656_S1024x512_0_512 inb_S1x6656_S1x512_0_512 inb_S1x512x6656_S1x512x512_0_0_512,
    tile 0 inb_S1024x6656_S1024x512_0_0 inb_S1x6656_S1x512_0_0 inb_S1x512x6656_S1x512x512_0_0_0]

/-- The rows at an entry: the row over the root of its mean square, the gain, one plus the scale, and the shift. -/
theorem rows_e (r : Fin 512) (k : Fin 1024) : k0_pay20 x0 x1 x2 x3 x4 x5 (ix2 r k)
    = x0 (ix3 0 r k) * Ideal.rsqrt (Ideal.div (∑ d : Fin 1024, x0 (ix3 0 r d) * x0 (ix3 0 r d)) (Ideal.ofBits .f32 0x44800000#32) + Ideal.ofBits .f32 0x358637BD#32)
      * x1 (ix2 0 k) * (1 + x3 (ix3 0 0 k)) + x2 (ix3 0 0 k) := by
  pointwise [k0_pay20, k0_pay2]

/-! ## The blocks of the grid points -/

variable (m : (ℓ : Loc nD τ sig) → Buf (Elt Ideal) ℓ) (c : Dev nD) (t : Fin cfg0.N)

/-- The windows' block indices: eight row blocks to each of eight batch rows; the weight, the gain and the bias whole. -/
theorem ix_0 : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)

theorem ix_1 : ∀ t : Fin cfg0.N, win0_1.index t 0 = 0 ∧ win0_1.index t 1 = 0 :=
  (by decide +kernel : ∀ t : Fin grid0.N, win0_1.index t 0 = 0 ∧ win0_1.index t 1 = 0)

theorem ix_2 : ∀ t : Fin cfg0.N, win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0)

theorem ix_3 : ∀ t : Fin cfg0.N, win0_3.index t 0 = t.val / 8 ∧ win0_3.index t 1 = 0 ∧ win0_3.index t 2 = 0 :=
  (by decide +kernel : ∀ t : Fin grid0.N, win0_3.index t 0 = t.val / 8 ∧ win0_3.index t 1 = 0 ∧ win0_3.index t 2 = 0)

theorem ix_4 : ∀ t : Fin cfg0.N, win0_4.index t 0 = 0 ∧ win0_4.index t 1 = 0 :=
  (by decide +kernel : ∀ t : Fin grid0.N, win0_4.index t 0 = 0 ∧ win0_4.index t 1 = 0)

theorem ix_5 : ∀ t : Fin cfg0.N, win0_5.index t 0 = 0 ∧ win0_5.index t 1 = 0 :=
  (by decide +kernel : ∀ t : Fin grid0.N, win0_5.index t 0 = 0 ∧ win0_5.index t 1 = 0)

theorem ix_6 : ∀ t : Fin cfg0.N, win0_6.index t 0 = t.val / 8 ∧ win0_6.index t 1 = t.val % 8 ∧ win0_6.index t 2 = 0 :=
  (by decide +kernel : ∀ t : Fin grid0.N, win0_6.index t 0 = t.val / 8 ∧ win0_6.index t 1 = t.val % 8 ∧ win0_6.index t 2 = 0)

/-- The batch row of a point. -/
def pb (t : Fin cfg0.N) : Fin 8 := ⟨t.val / 8, by have h : t.val < 64 := t.isLt; omega⟩

/-- The position of row `r` of a point's block. -/
def pr (t : Fin cfg0.N) (r : Fin 512) : Fin 4096 := ⟨t.val % 8 * 512 + r.val, by omega⟩

/-- The rows of a point. -/
theorem blk_0 (r : Fin 512) (d : Fin 1024) : (iblk m c 0 t : Vec Ideal S1x512x1024 .f32) (ix3 0 r d) = m ((c : Thread nD τ).loc main_arg0) (ix3 (pb t) (pr t r) d) := by
  have hi := ix_0 t
  unfold iblk
  rw [View.read_apply]
  show V m c main_arg0 _ = _
  rw [V_main_arg0]
  refine congrArg _ (funext fun a => Fin.ext ?_)
  match a with
  | ⟨0, _⟩ => show win0_0.index t 0 * 1 + 1 * 0 = t.val / 8; rw [hi.1]; omega
  | ⟨1, _⟩ => show win0_0.index t 1 * 512 + 1 * r.val = t.val % 8 * 512 + r.val; rw [hi.2.1]; omega
  | ⟨2, _⟩ => show win0_0.index t 2 * 1024 + 1 * d.val = d.val; rw [hi.2.2]; omega

/-- The gain at every point is the argument. -/
theorem blk_1 (d : Fin 1024) : (iblk m c 1 t : Vec Ideal S1x1024 .f32) (ix2 0 d) = m ((c : Thread nD τ).loc main_arg1) (ix1 d) := by
  have hi := ix_1 t
  have hv : (V m c main_v0 : FVec Ideal S1x1024 .f32) = shapeCast S1x1024 (m ((c : Thread nD τ).loc main_arg1)) shapeCasts_S1024_S1x1024 := by
    unfold_abbrev_sides
    after_results
    all_goals rfl
  have he : (V m c main_v0 : FVec Ideal S1x1024 .f32) (ix2 0 d) = m ((c : Thread nD τ).loc main_arg1) (ix1 d) := by
    rw [hv]
    pointwise
  rw [← he]
  unfold iblk
  rw [View.read_apply]
  show V m c main_v0 _ = _
  refine congrArg _ (funext fun a => Fin.ext ?_)
  match a with
  | ⟨0, _⟩ => show win0_1.index t 0 * 1 + 1 * 0 = 0; rw [hi.1]
  | ⟨1, _⟩ => show win0_1.index t 1 * 1024 + 1 * d.val = d.val; rw [hi.2]; omega

/-- The shift of a point is its batch row's. -/
theorem blk_2 (d : Fin 1024) : (iblk m c 2 t : Vec Ideal S1x1x1024 .f32) (ix3 0 0 d) = m ((c : Thread nD τ).loc main_arg2) (ix3 (pb t) 0 d) := by
  have hi := ix_2 t
  unfold iblk
  rw [View.read_apply]
  show V m c main_arg2 _ = _
  rw [V_main_arg2]
  refine congrArg _ (funext fun a => Fin.ext ?_)
  match a with
  | ⟨0, _⟩ => show win0_2.index t 0 * 1 + 1 * 0 = t.val / 8; rw [hi.1]; omega
  | ⟨1, _⟩ => show win0_2.index t 1 * 1 + 1 * 0 = 0; rw [hi.2.1]
  | ⟨2, _⟩ => show win0_2.index t 2 * 1024 + 1 * d.val = d.val; rw [hi.2.2]; omega

/-- The scale of a point is its batch row's. -/
theorem blk_3 (d : Fin 1024) : (iblk m c 3 t : Vec Ideal S1x1x1024 .f32) (ix3 0 0 d) = m ((c : Thread nD τ).loc main_arg3) (ix3 (pb t) 0 d) := by
  have hi := ix_3 t
  unfold iblk
  rw [View.read_apply]
  show V m c main_arg3 _ = _
  rw [V_main_arg3]
  refine congrArg _ (funext fun a => Fin.ext ?_)
  match a with
  | ⟨0, _⟩ => show win0_3.index t 0 * 1 + 1 * 0 = t.val / 8; rw [hi.1]; omega
  | ⟨1, _⟩ => show win0_3.index t 1 * 1 + 1 * 0 = 0; rw [hi.2.1]
  | ⟨2, _⟩ => show win0_3.index t 2 * 1024 + 1 * d.val = d.val; rw [hi.2.2]; omega

/-- The weight at every point is the argument. -/
theorem blk_4 (k : Fin 1024) (j : Fin 6656) : (iblk m c 4 t : Vec Ideal S1024x6656 .bf16) (ix2 k j) = m ((c : Thread nD τ).loc main_arg4) (ix2 k j) := by
  have hi := ix_4 t
  have hv : (V m c main_v2 : FVec Ideal S1024x6656 .bf16) = (truncf .bf16 (m ((c : Thread nD τ).loc main_arg4) : FVec Ideal S1024x6656 .f32) bitsLt_bf16_f32 : FVec Ideal S1024x6656 .bf16) := by
    unfold_abbrev_sides
    after_results
    all_goals rfl
  have he : (V m c main_v2 : FVec Ideal S1024x6656 .bf16) (ix2 k j) = m ((c : Thread nD τ).loc main_arg4) (ix2 k j) := by
    rw [hv]
    pointwise
  rw [← he]
  unfold iblk
  rw [View.read_apply]
  show V m c main_v2 _ = _
  refine congrArg _ (funext fun a => Fin.ext ?_)
  match a with
  | ⟨0, _⟩ => show win0_4.index t 0 * 1024 + 1 * k.val = k.val; rw [hi.1]; omega
  | ⟨1, _⟩ => show win0_4.index t 1 * 6656 + 1 * j.val = j.val; rw [hi.2]; omega

/-- The bias at every point is the argument. -/
theorem blk_5 (j : Fin 6656) : (iblk m c 5 t : Vec Ideal S1x6656 .f32) (ix2 0 j) = m ((c : Thread nD τ).loc main_arg5) (ix1 j) := by
  have hi := ix_5 t
  have hv : (V m c main_v1 : FVec Ideal S1x6656 .f32) = shapeCast S1x6656 (m ((c : Thread nD τ).loc main_arg5)) shapeCasts_S6656_S1x6656 := by
    unfold_abbrev_sides
    after_results
    all_goals rfl
  have he : (V m c main_v1 : FVec Ideal S1x6656 .f32) (ix2 0 j) = m ((c : Thread nD τ).loc main_arg5) (ix1 j) := by
    rw [hv]
    refine (shapeCast_addUnit_apply (n := 1) ![6656] _ _ _).trans (congrArg _ (funext fun a => ?_))
    match a with
    | ⟨0, _⟩ => rfl
  rw [← he]
  unfold iblk
  rw [View.read_apply]
  show V m c main_v1 _ = _
  refine congrArg _ (funext fun a => Fin.ext ?_)
  match a with
  | ⟨0, _⟩ => show win0_5.index t 0 * 1 + 1 * 0 = 0; rw [hi.1]
  | ⟨1, _⟩ => show win0_5.index t 1 * 6656 + 1 * j.val = j.val; rw [hi.2]; omega

/-! ## The final array -/

/-- The point that holds position `i` of batch row `b`. -/
def pt (b : Fin 8) (i : Fin 4096) : Fin cfg0.N := ⟨8 * b.val + i.val / 512, by show _ < 64; omega⟩

/-- The projection at an entry, from the arguments: the row over the root of its mean square, the gain, one plus the scale
    and the shift, times a column of the weight, and the bias. -/
def val (X : FVec Ideal S8x4096x1024 .f32) (g : FVec Ideal S1024 .f32) (sh sc : FVec Ideal S8x1x1024 .f32) (W : FVec Ideal S1024x6656 .f32) (B : FVec Ideal S6656 .f32)
    (b : Fin 8) (i : Fin 4096) (j : Fin 6656) : EReal :=
  (∑ k : Fin 1024, (X (ix3 b i k) * Ideal.rsqrt (Ideal.div (∑ d : Fin 1024, X (ix3 b i d) * X (ix3 b i d)) (Ideal.ofBits .f32 0x44800000#32) + Ideal.ofBits .f32 0x358637BD#32)
      * g (ix1 k) * (1 + sc (ix3 b 0 k)) + sh (ix3 b 0 k)) * W (ix2 k j)) + B (ix1 j)

/-- The kernel's final array at an entry. -/
theorem arr_e (b : Fin 8) (i : Fin 4096) (j : Fin 6656) : ((dats m 0 c).arrAt 6 cfg0.N : FVec Ideal S8x4096x6656 .bf16) (ix3 b i j)
    = val (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) b i j := by
  have hi := ix_6 (pt b i)
  have hp0 : (pt b i).val / 8 = b.val := by show (8 * b.val + i.val / 512) / 8 = b.val; omega
  have hp1 : (pt b i).val % 8 = i.val / 512 := by show (8 * b.val + i.val / 512) % 8 = i.val / 512; omega
  have hb := congrFun (Value.blocks6 m c (pt b i) (flush0_6 _)) (ix3 0 ⟨i.val % 512, by omega⟩ j : S1x512x6656.Idx)
  rw [Value.flushed6, View.read_apply] at hb
  have e : ((dats m 0 c).arrAt 6 cfg0.N : FVec Ideal S8x4096x6656 .bf16) (ix3 b i j)
      = out0_6 (iblk m c 0 (pt b i)) (iblk m c 1 (pt b i)) (iblk m c 2 (pt b i)) (iblk m c 3 (pt b i)) (iblk m c 4 (pt b i)) (iblk m c 5 (pt b i)) (ix3 0 ⟨i.val % 512, by omega⟩ j) := by
    refine Eq.trans ?_ hb
    refine congrArg ((dats m 0 c).arrAt 6 cfg0.N) (funext fun a => Fin.ext ?_)
    match a with
    | ⟨0, _⟩ => show b.val = win0_6.index (pt b i) 0 * 1 + 1 * 0; rw [hi.1, hp0]; omega
    | ⟨1, _⟩ => show i.val = win0_6.index (pt b i) 1 * 512 + 1 * (i.val % 512); rw [hi.2.1, hp1]; omega
    | ⟨2, _⟩ => show j.val = win0_6.index (pt b i) 2 * 6656 + 1 * j.val; rw [hi.2.2]; omega
  have hb0 : pb (pt b i) = b := Fin.ext hp0
  have hr0 : pr (pt b i) ⟨i.val % 512, by omega⟩ = i := Fin.ext (by show (pt b i).val % 8 * 512 + i.val % 512 = i.val; rw [hp1]; omega)
  rw [e, out_e]
  show (∑ k : Fin 1024, k0_pay20 _ _ _ _ _ _ (ix2 (⟨i.val % 512, by omega⟩ : Fin 512) k) * (iblk m c 4 (pt b i) : Vec Ideal S1024x6656 .bf16) (ix2 k j)) + (iblk m c 5 (pt b i) : Vec Ideal S1x6656 .f32) (ix2 0 j) = _
  simp only [rows_e, blk_0, blk_1, blk_2, blk_3, blk_4, blk_5, hb0, hr0]
  rfl

end Cert.Kernel2Ideal.Proj

end
-- ==== Proof.ProjRef.lean ====
module

public import proofs.«01_k».proof.Proof.Gen.Reference2Ideal.Run
public import proofs.«01_k».proof.Proof.Proj

@[expose] public section

set_option maxRecDepth 16384

noncomputable section

/-! # The reference's projection, entry by entry -/

namespace Cert.Reference2Ideal.Proj

open Cert.Reference2Ideal Cert.Reference2Ideal.Gen Idealize.ShloMosaic Idealize.ShloMosaic.TcCoe Idealize.SL.Sem

variable (X : FVec Ideal S8x4096x1024 .f32) (g : FVec Ideal S1024 .f32) (sh sc : FVec Ideal S8x1x1024 .f32) (W : FVec Ideal S1024x6656 .f32) (B : FVec Ideal S6656 .f32)

/-- The reference's rows, normalised and modulated. -/
def refRows : FVec Ideal S8x4096x1024 .f32 :=
  addf (mulf (mulf (mulf X (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf X X) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g)))
    (broadcastInDim S8x4096x1024 ![0, 1, 2] bcast_S8x1x1024_S8x4096x1024_0_1_2 (addf (broadcastInDim S8x1x1024 ![] bcast_S_S8x1x1024 (constant S_ .f32 0x3F800000#32)) sc)))
    (broadcastInDim S8x4096x1024 ![0, 1, 2] bcast_S8x1x1024_S8x4096x1024_0_1_2 sh)

/-- The reference's result. -/
def refOut : FVec Ideal S8x4096x6656 .bf16 :=
  truncf .bf16 (addf (Host.dotGeneral dot_S8x4096x1024_S1024x6656_S8x4096x6656_2_0_01_1_n_n none (refRows X g sh sc) W) (broadcastInDim S8x4096x6656 ![0, 1, 2] bcast_S1x1x6656_S8x4096x6656_0_1_2 (broadcastInDim S1x1x6656 ![2] bcast_S6656_S1x1x6656_2 B))) bitsLt_bf16_f32

theorem rows_e (b : Fin 8) (i : Fin 4096) (k : Fin 1024) : refRows X g sh sc (ix3 b i k)
    = X (ix3 b i k) * Ideal.rsqrt (Ideal.div (∑ d : Fin 1024, X (ix3 b i d) * X (ix3 b i d)) (Ideal.ofBits .f32 0x44800000#32) + Ideal.ofBits .f32 0x358637BD#32)
      * g (ix1 k) * (1 + sc (ix3 b 0 k)) + sh (ix3 b 0 k) := by
  pointwise [refRows]

/-- One entry of the reference's result. -/
theorem out_e (b : Fin 8) (i : Fin 4096) (j : Fin 6656) : refOut X g sh sc W B (ix3 b i j) = Kernel2Ideal.Proj.val X g sh sc W B b i j := by
  pointwise [refOut]
  simp only [rows_e]
  rfl

/-- THE VALUE: the kernel's final array is the reference's result of the same arguments. -/
theorem same (m : (ℓ : Loc Kernel2Ideal.nD Kernel2Ideal.τ Kernel2Ideal.sig) → Buf (Elt Ideal) ℓ) (c : Dev Kernel2Ideal.nD) :
    ((Kernel2Ideal.Gen.dats m 0 c).arrAt 6 Kernel2Ideal.cfg0.N : FVec Ideal S8x4096x6656 .bf16)
      = refOut (m ((c : Thread Kernel2Ideal.nD Kernel2Ideal.τ).loc Kernel2Ideal.main_arg0)) (m ((c : Thread Kernel2Ideal.nD Kernel2Ideal.τ).loc Kernel2Ideal.main_arg1))
          (m ((c : Thread Kernel2Ideal.nD Kernel2Ideal.τ).loc Kernel2Ideal.main_arg2)) (m ((c : Thread Kernel2Ideal.nD Kernel2Ideal.τ).loc Kernel2Ideal.main_arg3))
          (m ((c : Thread Kernel2Ideal.nD Kernel2Ideal.τ).loc Kernel2Ideal.main_arg4)) (m ((c : Thread Kernel2Ideal.nD Kernel2Ideal.τ).loc Kernel2Ideal.main_arg5)) := by
  funext y
  obtain ⟨b, i, j, rfl⟩ : ∃ (b : Fin 8) (i : Fin 4096) (j : Fin 6656), y = ix3 b i j := ⟨y 0, y 1, y 2, by funext a; match a with | ⟨0, _⟩ => rfl | ⟨1, _⟩ => rfl | ⟨2, _⟩ => rfl⟩
  rw [out_e]
  exact Kernel2Ideal.Proj.arr_e m c b i j

end Cert.Reference2Ideal.Proj

end
-- ==== Proof.Trips.lean ====
module

public import proofs.«01_k».proof.Proof.Gen.KernelIdeal.Loops
public import Idealize.ShloMosaic.Lib.Pointwise
public import Idealize.ShloMosaic.Lib.Pipeline.FrameBody
public import Idealize.ShloMosaic.Lib.Ring
public import Idealize.ShloMosaic.Lib.Tactic
public import Idealize.ShloMosaic.Lib.VecWindow
public import Idealize.ShloMosaic.Lib.WritesUnit

@[expose] public section

set_option maxRecDepth 16384

noncomputable section

namespace Cert.KernelIdeal.Ret

open Cert.KernelIdeal Cert.KernelIdeal.Gen Idealize.ShloMosaic Idealize.ShloMosaic.TcCoe Idealize.SL.Sem

variable {F : FTy → Type} [FloatOps F]

/-! ## Blocks of 256 rows -/

/-- Rows `256 c` to `256 c + 255` of a `[1, 4096, 128]` array. -/
def blkA {e : EltTy} (x : Vec F S1x4096x128 e) (c : Fin 16) : Vec F S1x256x128 e :=
  fun j => x (ix3 0 ⟨256 * c.val + (j 1).val, by have h : (j 1).val < 256 := (j 1).isLt; omega⟩ (j 2))

/-- Rows `256 c` to `256 c + 255` of a `[1, 4096, 256]` array. -/
def blkB {e : EltTy} (x : Vec F S1x4096x256 e) (c : Fin 16) : Vec F S1x256x256 e :=
  fun j => x (ix3 0 ⟨256 * c.val + (j 1).val, by have h : (j 1).val < 256 := (j 1).isLt; omega⟩ (j 2))

/-- Rows `256 c` to `256 c + 255` of a `[4096, 128]` array. -/
def blkC {e : EltTy} (x : Vec F S4096x128 e) (c : Fin 16) : Vec F S256x128 e :=
  fun j => x (ix2 ⟨256 * c.val + (j 0).val, by have h : (j 0).val < 256 := (j 0).isLt; omega⟩ (j 1))

/-- Rows `256 c` to `256 c + 255` of a `[4096, 256]` array. -/
def blkD {e : EltTy} (x : Vec F S4096x256 e) (c : Fin 16) : Vec F S256x256 e :=
  fun j => x (ix2 ⟨256 * c.val + (j 0).val, by have h : (j 0).val < 256 := (j 0).isLt; omega⟩ (j 1))

/-- A trip of the first loop as a chunk number. -/
def c1 (k : Fin k0_t1_loop.trips) : Fin 16 := ⟨k.val, Nat.lt_of_lt_of_le k.isLt k0_t1_abs.2.1⟩

/-- The chunk that a trip of the second loop treats: they go from the last to the first. -/
def c2 (k : Fin k0_t2_loop.trips) : Fin 16 := ⟨15 - k.val, by omega⟩

theorem off3_eq : ∀ k : Fin k0_t1_loop.trips, k0_off3 k = ![256 * k.val, 0] := by decide +kernel
theorem off4_eq : ∀ k : Fin k0_t1_loop.trips, k0_off4 k = ![0, 256 * k.val, 0] := by decide +kernel
theorem off5_eq : ∀ k : Fin k0_t1_loop.trips, k0_off5 k = ![0, 256 * k.val, 0] := by decide +kernel
theorem off6_eq : ∀ k : Fin k0_t1_loop.trips, k0_off6 k = ![256 * k.val, 0] := by decide +kernel
theorem off7_eq : ∀ k : Fin k0_t2_loop.trips, k0_off7 k = ![0, 256 * (15 - k.val), 0] := by decide +kernel
theorem off8_eq : ∀ k : Fin k0_t2_loop.trips, k0_off8 k = ![256 * (15 - k.val), 0] := by decide +kernel
theorem off9_eq : ∀ k : Fin k0_t2_loop.trips, k0_off9 k = ![256 * (15 - k.val), 0] := by decide +kernel

variable {κ : Kind} {sp : Space}

/-- A load of 256 rows of a `[1, 4096, 128]` buffer reads that block. -/
theorem ldA {e : EltTy} (v : View sig κ sp S1x4096x128 e) (f : v.ty.Contents (Elt F)) {off : Fin 3 → ℕ} (c : Fin 16)
    (h : off = ![0, 256 * c.val, 0]) (inb : ∀ a, off a + S1x256x128.size a ≤ S1x4096x128.size a) :
    v.readAt (Elt F) (Rect.unit (s := S1x4096x128) off S1x256x128.size inb).toLoadRect f = blkA (v.read (Elt F) f) c := by
  subst h
  funext y
  refine congrArg (v.read (Elt F) f) (funext fun a => Fin.ext ?_)
  match a with
  | ⟨0, _⟩ => show 0 + 1 * (y 0).val = 0; have h : (y 0).val < 1 := (y 0).isLt; omega
  | ⟨1, _⟩ => show 256 * c.val + 1 * (y 1).val = 256 * c.val + (y 1).val; omega
  | ⟨2, _⟩ => show 0 + 1 * (y 2).val = (y 2).val; omega

/-- A load of 256 rows of a `[1, 4096, 256]` buffer reads that block. -/
theorem ldB {e : EltTy} (v : View sig κ sp S1x4096x256 e) (f : v.ty.Contents (Elt F)) {off : Fin 3 → ℕ} (c : Fin 16)
    (h : off = ![0, 256 * c.val, 0]) (inb : ∀ a, off a + S1x256x256.size a ≤ S1x4096x256.size a) :
    v.readAt (Elt F) (Rect.unit (s := S1x4096x256) off S1x256x256.size inb).toLoadRect f = blkB (v.read (Elt F) f) c := by
  subst h
  funext y
  refine congrArg (v.read (Elt F) f) (funext fun a => Fin.ext ?_)
  match a with
  | ⟨0, _⟩ => show 0 + 1 * (y 0).val = 0; have h : (y 0).val < 1 := (y 0).isLt; omega
  | ⟨1, _⟩ => show 256 * c.val + 1 * (y 1).val = 256 * c.val + (y 1).val; omega
  | ⟨2, _⟩ => show 0 + 1 * (y 2).val = (y 2).val; omega

/-- A load of 256 rows of a `[4096, 128]` buffer reads that block. -/
theorem ldC {e : EltTy} (v : View sig κ sp S4096x128 e) (f : v.ty.Contents (Elt F)) {off : Fin 2 → ℕ} (c : Fin 16)
    (h : off = ![256 * c.val, 0]) (inb : ∀ a, off a + S256x128.size a ≤ S4096x128.size a) :
    v.readAt (Elt F) (Rect.unit (s := S4096x128) off S256x128.size inb).toLoadRect f = blkC (v.read (Elt F) f) c := by
  subst h
  funext y
  refine congrArg (v.read (Elt F) f) (funext fun a => Fin.ext ?_)
  match a with
  | ⟨0, _⟩ => show 256 * c.val + 1 * (y 0).val = 256 * c.val + (y 0).val; omega
  | ⟨1, _⟩ => show 0 + 1 * (y 1).val = (y 1).val; omega

/-- A load of 256 rows of a `[4096, 256]` buffer reads that block. -/
theorem ldD {e : EltTy} (v : View sig κ sp S4096x256 e) (f : v.ty.Contents (Elt F)) {off : Fin 2 → ℕ} (c : Fin 16)
    (h : off = ![256 * c.val, 0]) (inb : ∀ a, off a + S256x256.size a ≤ S4096x256.size a) :
    v.readAt (Elt F) (Rect.unit (s := S4096x256) off S256x256.size inb).toLoadRect f = blkD (v.read (Elt F) f) c := by
  subst h
  funext y
  refine congrArg (v.read (Elt F) f) (funext fun a => Fin.ext ?_)
  match a with
  | ⟨0, _⟩ => show 256 * c.val + 1 * (y 0).val = 256 * c.val + (y 0).val; omega
  | ⟨1, _⟩ => show 0 + 1 * (y 1).val = (y 1).val; omega

/-- A load of the whole `[128, 256]` buffer reads its contents. -/
theorem ldW {e : EltTy} (v : View sig κ sp S128x256 e) (f : v.ty.Contents (Elt F))
    (inb : ∀ a, (![0, 0] : Fin 2 → ℕ) a + S128x256.size a ≤ S128x256.size a) :
    v.readAt (Elt F) (Rect.unit (s := S128x256) ![0, 0] S128x256.size inb).toLoadRect f = v.read (Elt F) f :=
  View.readAt_full v f inb

/-- After a store of 256 rows, that block of a `[4096, 128]` buffer is the payload, … -/
theorem stC_same {e : EltTy} (v : View sig κ sp S4096x128 e) (f : v.ty.Contents (Elt F)) {off : Fin 2 → ℕ} (c : Fin 16)
    (h : off = ![256 * c.val, 0]) (inb : ∀ a, off a + S256x128.size a ≤ S4096x128.size a) (w : Vec F S256x128 e)
    (L : List (View.Piece (Elt F) S4096x128 e)) :
    blkC (v.read (Elt F) (v.writes (Elt F) f (⟨Rect.unit (s := S4096x128) off S256x128.size inb, w⟩ :: L))) c = w := by
  funext y
  exact View.read_writes_cons_unit_of_mem v f inb w L _ y h fun a => by
    match a with
    | ⟨0, _⟩ => rfl
    | ⟨1, _⟩ => show (y 1).val = 0 + (y 1).val; omega

/-- … and another block is as the earlier stores left it. -/
theorem stC_other {e : EltTy} (v : View sig κ sp S4096x128 e) (f : v.ty.Contents (Elt F)) {off : Fin 2 → ℕ} (c d : Fin 16)
    (h : off = ![256 * c.val, 0]) (inb : ∀ a, off a + S256x128.size a ≤ S4096x128.size a) (w : Vec F S256x128 e)
    (L : List (View.Piece (Elt F) S4096x128 e)) (hcd : d ≠ c) :
    blkC (v.read (Elt F) (v.writes (Elt F) f (⟨Rect.unit (s := S4096x128) off S256x128.size inb, w⟩ :: L))) d
      = blkC (v.read (Elt F) (v.writes (Elt F) f L)) d := by
  funext y
  refine View.read_writes_cons_unit_of_not_mem v f inb w L _ h 0 ?_
  have hy : (y 0).val < 256 := (y 0).isLt
  have hne : d.val ≠ c.val := fun hh => hcd (Fin.ext hh)
  show 256 * d.val + (y 0).val < 256 * c.val ∨ 256 * c.val + 256 ≤ 256 * d.val + (y 0).val
  omega

/-- After a store of 256 rows, that block of a `[4096, 256]` buffer is the payload, … -/
theorem stD_same {e : EltTy} (v : View sig κ sp S4096x256 e) (f : v.ty.Contents (Elt F)) {off : Fin 2 → ℕ} (c : Fin 16)
    (h : off = ![256 * c.val, 0]) (inb : ∀ a, off a + S256x256.size a ≤ S4096x256.size a) (w : Vec F S256x256 e)
    (L : List (View.Piece (Elt F) S4096x256 e)) :
    blkD (v.read (Elt F) (v.writes (Elt F) f (⟨Rect.unit (s := S4096x256) off S256x256.size inb, w⟩ :: L))) c = w := by
  funext y
  exact View.read_writes_cons_unit_of_mem v f inb w L _ y h fun a => by
    match a with
    | ⟨0, _⟩ => rfl
    | ⟨1, _⟩ => show (y 1).val = 0 + (y 1).val; omega

/-- … and another block is as the earlier stores left it. -/
theorem stD_other {e : EltTy} (v : View sig κ sp S4096x256 e) (f : v.ty.Contents (Elt F)) {off : Fin 2 → ℕ} (c d : Fin 16)
    (h : off = ![256 * c.val, 0]) (inb : ∀ a, off a + S256x256.size a ≤ S4096x256.size a) (w : Vec F S256x256 e)
    (L : List (View.Piece (Elt F) S4096x256 e)) (hcd : d ≠ c) :
    blkD (v.read (Elt F) (v.writes (Elt F) f (⟨Rect.unit (s := S4096x256) off S256x256.size inb, w⟩ :: L))) d
      = blkD (v.read (Elt F) (v.writes (Elt F) f L)) d := by
  funext y
  refine View.read_writes_cons_unit_of_not_mem v f inb w L _ h 0 ?_
  have hy : (y 0).val < 256 := (y 0).isLt
  have hne : d.val ≠ c.val := fun hh => hcd (Fin.ext hh)
  show 256 * d.val + (y 0).val < 256 * c.val ∨ 256 * c.val + 256 ≤ 256 * d.val + (y 0).val
  omega

/-- After a store of 256 rows, that block of a `[1, 4096, 256]` buffer is the payload, … -/
theorem stB_same {e : EltTy} (v : View sig κ sp S1x4096x256 e) (f : v.ty.Contents (Elt F)) {off : Fin 3 → ℕ} (c : Fin 16)
    (h : off = ![0, 256 * c.val, 0]) (inb : ∀ a, off a + S1x256x256.size a ≤ S1x4096x256.size a) (w : Vec F S1x256x256 e)
    (L : List (View.Piece (Elt F) S1x4096x256 e)) :
    blkB (v.read (Elt F) (v.writes (Elt F) f (⟨Rect.unit (s := S1x4096x256) off S1x256x256.size inb, w⟩ :: L))) c = w := by
  funext y
  exact View.read_writes_cons_unit_of_mem v f inb w L _ y h fun a => by
    match a with
    | ⟨0, _⟩ => show 0 = 0 + (y 0).val; have h : (y 0).val < 1 := (y 0).isLt; omega
    | ⟨1, _⟩ => rfl
    | ⟨2, _⟩ => show (y 2).val = 0 + (y 2).val; omega

/-- … and another block is as the earlier stores left it. -/
theorem stB_other {e : EltTy} (v : View sig κ sp S1x4096x256 e) (f : v.ty.Contents (Elt F)) {off : Fin 3 → ℕ} (c d : Fin 16)
    (h : off = ![0, 256 * c.val, 0]) (inb : ∀ a, off a + S1x256x256.size a ≤ S1x4096x256.size a) (w : Vec F S1x256x256 e)
    (L : List (View.Piece (Elt F) S1x4096x256 e)) (hcd : d ≠ c) :
    blkB (v.read (Elt F) (v.writes (Elt F) f (⟨Rect.unit (s := S1x4096x256) off S1x256x256.size inb, w⟩ :: L))) d
      = blkB (v.read (Elt F) (v.writes (Elt F) f L)) d := by
  funext y
  refine View.read_writes_cons_unit_of_not_mem v f inb w L _ h 1 ?_
  have hy : (y 1).val < 256 := (y 1).isLt
  have hne : d.val ≠ c.val := fun hh => hcd (Fin.ext hh)
  show 256 * d.val + (y 1).val < 256 * c.val ∨ 256 * c.val + 256 ≤ 256 * d.val + (y 1).val
  omega

/-- After a store of the whole `[128, 256]` buffer its contents are the payload. -/
theorem stW {e : EltTy} (v : View sig κ sp S128x256 e) (f : v.ty.Contents (Elt F))
    (inb : ∀ a, (![0, 0] : Fin 2 → ℕ) a + S128x256.size a ≤ S128x256.size a) (w : Vec F S128x256 e)
    (L : List (View.Piece (Elt F) S128x256 e)) :
    v.read (Elt F) (v.writes (Elt F) f (⟨Rect.unit (s := S128x256) ![0, 0] S128x256.size inb, w⟩ :: L)) = w :=
  View.read_writes_full v f inb w L

/-! ## What a trip computes, as functions of the arrays -/

/-- The rotated queries of chunk `c`. -/
def qrot (q : Vec F S1x4096x128 .bf16) (co si : Vec F S4096x128 .f32) (c : Fin 16) : FVec F S256x128 .f32 :=
  k0_pay10 (blkC co c) (blkC si c) (blkA q c)

/-- The rotated and scaled keys of chunk `c`. -/
def krot (kk : Vec F S1x4096x128 .bf16) (co si : Vec F S4096x128 .f32) (c : Fin 16) : FVec F S256x128 .f32 :=
  k0_pay12 (k0_pay8 (blkC si c)) (k0_pay9 (blkA kk c)) (k0_pay11 (blkC co c) (blkA kk c)) (iota .tc S256x128 32 [1] iota_S256x128_d1_w32)

/-- The part of chunk `c`'s output that comes from the chunk itself. -/
def intra (v51 : FVec F S256x256 .f32) (q kk : Vec F S1x4096x128 .bf16) (v : Vec F S1x4096x256 .bf16) (co si : Vec F S4096x128 .f32) (c : Fin 16) :
    FVec F S256x256 .f32 :=
  k0_pay17 v51 (k0_pay8 (blkC si c)) (k0_pay9 (blkA kk c)) (qrot q co si c) (k0_pay11 (blkC co c) (blkA kk c))
    (iota .tc S256x128 32 [1] iota_S256x128_d1_w32) (blkB v c)

/-- The forward state before chunk `n`, from the state `s0` before chunk 0. -/
def sfw (v70 : FVec F S256x128 .f32) (v76 : FVec F S1x256 .f32) (kk : Vec F S1x4096x128 .bf16) (v : Vec F S1x4096x256 .bf16)
    (co si : Vec F S4096x128 .f32) (s0 : Vec F S128x256 .f32) : ℕ → Vec F S128x256 .f32
  | 0 => s0
  | n + 1 => if h : n < 16 then k0_pay4 v70 v76 (krot kk co si ⟨n, h⟩) (k0_pay16 (blkB v ⟨n, h⟩)) (sfw v70 v76 kk v co si s0 n)
      else sfw v70 v76 kk v co si s0 n

/-- What the first loop leaves as chunk `c`'s output: its own part and the part from the state before it. -/
def ofw (v51 v60 : FVec F S256x256 .f32) (v70 : FVec F S256x128 .f32) (v76 : FVec F S1x256 .f32) (q kk : Vec F S1x4096x128 .bf16)
    (v : Vec F S1x4096x256 .bf16) (co si : Vec F S4096x128 .f32) (s0 : Vec F S128x256 .f32) (c : Fin 16) : FVec F S256x256 .f32 :=
  k0_pay3 v60 (k0_pay13 (qrot q co si c)) (intra v51 q kk v co si c) (sfw v70 v76 kk v co si s0 c.val)

/-- The backward state before the second loop's trip `n`, from the state `s0` before trip 0; trip `n` treats chunk `15 - n`. -/
def sbw (v73 : FVec F S256x128 .f32) (v79 : FVec F S1x256 .f32) (v : Vec F S1x4096x256 .bf16) (kr : Fin 16 → Vec F S256x128 .f32)
    (s0 : Vec F S128x256 .f32) : ℕ → Vec F S128x256 .f32
  | 0 => s0
  | n + 1 => k0_pay6 v73 v79 (k0_pay18 (blkB v ⟨15 - n, by omega⟩)) (sbw v73 v79 v kr s0 n) (kr ⟨15 - n, by omega⟩)

/-- The block of the result that the second loop's trip `n` stores. -/
def outb (v65 : FVec F S256x256 .f32) (v73 : FVec F S256x128 .f32) (v79 : FVec F S1x256 .f32) (v g : Vec F S1x4096x256 .bf16)
    (qr : Fin 16 → Vec F S256x128 .bf16) (kr : Fin 16 → Vec F S256x128 .f32) (oa : Fin 16 → Vec F S256x256 .f32)
    (s0 : Vec F S128x256 .f32) (n : ℕ) : FVec F S1x256x256 .bf16 :=
  k0_pay5 (k0_pay19 v65 (oa ⟨15 - n, by omega⟩) (qr ⟨15 - n, by omega⟩) (sbw v73 v79 v kr s0 n) (blkB g ⟨15 - n, by omega⟩))

/-! ## The first loop -/

/-- The keys that a trip stores and the keys that it uses are the same function of what it loads. -/
theorem pay15_eq (a b x : FVec F S256x128 .f32) (e : IVec S256x128 32) :
    k0_pay15 a b x e = k0_pay12 a b x e := by
  unfold k0_pay15
  exact shapeCast_self _ _

/-- The pieces one trip of the first loop stores. -/
theorem trip1 (𝒱 : Variants) (c : Dev nD) (bd : Option 𝒱.V) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x128 .bf16) (harg6 : arg6.IsWhole) (arg7 : Memref sig .tc .vmem S1x256x256 .bf16) (harg7 : arg7.IsWhole) (arg8 : Memref sig .tc .vmem S4096x128 .f32) (harg8 : arg8.IsWhole) (arg9 : Memref sig .tc .vmem S4096x128 .f32) (harg9 : arg9.IsWhole) (arg10 : Memref sig .tc .vmem S8x256 .f32) (harg10 : arg10.IsWhole) (arg11 : Memref sig .tc .vmem S1x4096x256 .bf16) (harg11 : arg11.IsWhole) (arg12 : Memref sig .tc .vmem S4096x128 .bf16) (harg12 : arg12.IsWhole) (arg13 : Memref sig .tc .vmem S4096x128 .f32) (harg13 : arg13.IsWhole) (arg14 : Memref sig .tc .vmem S4096x256 .f32) (harg14 : arg14.IsWhole) (arg15 : Memref sig .tc .vmem S128x256 .f32) (harg15 : arg15.IsWhole) (arg16 : Memref sig .tc .vmem S128x256 .f32) (harg16 : arg16.IsWhole) (v51 : FVec F S256x256 .f32) (v60 : FVec F S256x256 .f32) (v70 : FVec F S256x128 .f32) (v76 : FVec F S1x256 .f32) (X_arg2 : BufTy.Contents (Elt F) arg2.view.ty) (X_arg3 : BufTy.Contents (Elt F) arg3.view.ty) (X_arg4 : BufTy.Contents (Elt F) arg4.view.ty) (X_arg8 : BufTy.Contents (Elt F) arg8.view.ty) (X_arg9 : BufTy.Contents (Elt F) arg9.view.ty) (k : Fin k0_t1_loop.trips) (f12 : BufTy.Contents (Elt F) arg12.view.ty) (f13 : BufTy.Contents (Elt F) arg13.view.ty) (f14 : BufTy.Contents (Elt F) arg14.view.ty) (f15 : BufTy.Contents (Elt F) arg15.view.ty) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v51 v60 v70 v76 X_arg2 X_arg3 X_arg4 X_arg8 X_arg9 k f12 f13 f14 f15
      = ([⟨Rect.unit (s := S4096x128) (k0_off3 k) S256x128.size (k0_off3_inb k), k0_pay14 (qrot (arg2.view.read (Elt F) X_arg2) (arg8.view.read (Elt F) X_arg8) (arg9.view.read (Elt F) X_arg9) (c1 k))⟩],
         [⟨Rect.unit (s := S4096x128) (k0_off3 k) S256x128.size (k0_off3_inb k), krot (arg3.view.read (Elt F) X_arg3) (arg8.view.read (Elt F) X_arg8) (arg9.view.read (Elt F) X_arg9) (c1 k)⟩],
         [⟨Rect.unit (s := S4096x256) (k0_off6 k) S256x256.size (k0_off6_inb k), k0_pay3 v60 (k0_pay13 (qrot (arg2.view.read (Elt F) X_arg2) (arg8.view.read (Elt F) X_arg8) (arg9.view.read (Elt F) X_arg9) (c1 k)))
            (intra v51 (arg2.view.read (Elt F) X_arg2) (arg3.view.read (Elt F) X_arg3) (arg4.view.read (Elt F) X_arg4) (arg8.view.read (Elt F) X_arg8) (arg9.view.read (Elt F) X_arg9) (c1 k)) (arg15.view.read (Elt F) f15)⟩],
         [⟨Rect.unit (s := S128x256) ![0, 0] S128x256.size inb_S128x256_S128x256_0_0, k0_pay4 v70 v76 (krot (arg3.view.read (Elt F) X_arg3) (arg8.view.read (Elt F) X_arg8) (arg9.view.read (Elt F) X_arg9) (c1 k))
            (k0_pay16 (blkB (arg4.view.read (Elt F) X_arg4) (c1 k))) (arg15.view.read (Elt F) f15)⟩]) := by
  unfold tripL_k0_t1 trip_k0_t1
  dsimp only
  unfold trip_k0_t1.sl.r_7 trip_k0_t1.sl.r_6 trip_k0_t1.sl.r_5 trip_k0_t1.sl.r_4
  unfold trip_k0_t1.sl.r_3 trip_k0_t1.sl.r_2 trip_k0_t1.sl.r_1 trip_k0_t1.sl.r
  have e2 := ldA arg2.view X_arg2 (c1 k) (off4_eq k) (k0_off4_inb k)
  have e3 := ldA arg3.view X_arg3 (c1 k) (off4_eq k) (k0_off4_inb k)
  have e4 := ldB arg4.view X_arg4 (c1 k) (off5_eq k) (k0_off5_inb k)
  have e8 := ldC arg8.view X_arg8 (c1 k) (off3_eq k) (k0_off3_inb k)
  have e9 := ldC arg9.view X_arg9 (c1 k) (off3_eq k) (k0_off3_inb k)
  have e15 := ldW arg15.view f15 inb_S128x256_S128x256_0_0
  rw [e2, e3, e4, e8, e9, e15]
  unfold intra qrot krot trip_k0_t1.sl.v153
  rw [pay15_eq]

/-- AFTER `n` TRIPS OF THE FIRST LOOP: the state buffer holds the forward state before chunk `n`, and the blocks of the chunks before
    `n` hold the rotated queries, the rotated keys, and the forward outputs. -/
theorem loop1 (𝒱 : Variants) (c : Dev nD) (bd : Option 𝒱.V) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x128 .bf16) (harg6 : arg6.IsWhole) (arg7 : Memref sig .tc .vmem S1x256x256 .bf16) (harg7 : arg7.IsWhole) (arg8 : Memref sig .tc .vmem S4096x128 .f32) (harg8 : arg8.IsWhole) (arg9 : Memref sig .tc .vmem S4096x128 .f32) (harg9 : arg9.IsWhole) (arg10 : Memref sig .tc .vmem S8x256 .f32) (harg10 : arg10.IsWhole) (arg11 : Memref sig .tc .vmem S1x4096x256 .bf16) (harg11 : arg11.IsWhole) (arg12 : Memref sig .tc .vmem S4096x128 .bf16) (harg12 : arg12.IsWhole) (arg13 : Memref sig .tc .vmem S4096x128 .f32) (harg13 : arg13.IsWhole) (arg14 : Memref sig .tc .vmem S4096x256 .f32) (harg14 : arg14.IsWhole) (arg15 : Memref sig .tc .vmem S128x256 .f32) (harg15 : arg15.IsWhole) (arg16 : Memref sig .tc .vmem S128x256 .f32) (harg16 : arg16.IsWhole) (v51 : FVec F S256x256 .f32) (v60 : FVec F S256x256 .f32) (v70 : FVec F S256x128 .f32) (v76 : FVec F S1x256 .f32) (X_arg2 : BufTy.Contents (Elt F) arg2.view.ty) (X_arg3 : BufTy.Contents (Elt F) arg3.view.ty) (X_arg4 : BufTy.Contents (Elt F) arg4.view.ty) (X_arg8 : BufTy.Contents (Elt F) arg8.view.ty) (X_arg9 : BufTy.Contents (Elt F) arg9.view.ty) (G12 : BufTy.Contents (Elt F) arg12.view.ty) (G13 : BufTy.Contents (Elt F) arg13.view.ty) (G14 : BufTy.Contents (Elt F) arg14.view.ty) (G15 : BufTy.Contents (Elt F) arg15.view.ty) (n : ℕ) (hn : n ≤ k0_t1_loop.trips) :
    arg15.view.read (Elt F) (arg15.view.writes (Elt F) G15 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v51 v60 v70 v76 X_arg2 X_arg3 X_arg4 X_arg8 X_arg9 G12 G13 G14 G15 n).2.2.2)
        = sfw v70 v76 (arg3.view.read (Elt F) X_arg3) (arg4.view.read (Elt F) X_arg4) (arg8.view.read (Elt F) X_arg8) (arg9.view.read (Elt F) X_arg9) (arg15.view.read (Elt F) G15) n
    ∧ (∀ d : Fin 16, d.val < n → blkC (arg12.view.read (Elt F) (arg12.view.writes (Elt F) G12 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v51 v60 v70 v76 X_arg2 X_arg3 X_arg4 X_arg8 X_arg9 G12 G13 G14 G15 n).1)) d
        = k0_pay14 (qrot (arg2.view.read (Elt F) X_arg2) (arg8.view.read (Elt F) X_arg8) (arg9.view.read (Elt F) X_arg9) d))
    ∧ (∀ d : Fin 16, d.val < n → blkC (arg13.view.read (Elt F) (arg13.view.writes (Elt F) G13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v51 v60 v70 v76 X_arg2 X_arg3 X_arg4 X_arg8 X_arg9 G12 G13 G14 G15 n).2.1)) d
        = krot (arg3.view.read (Elt F) X_arg3) (arg8.view.read (Elt F) X_arg8) (arg9.view.read (Elt F) X_arg9) d)
    ∧ (∀ d : Fin 16, d.val < n → blkD (arg14.view.read (Elt F) (arg14.view.writes (Elt F) G14 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v51 v60 v70 v76 X_arg2 X_arg3 X_arg4 X_arg8 X_arg9 G12 G13 G14 G15 n).2.2.1)) d
        = ofw v51 v60 v70 v76 (arg2.view.read (Elt F) X_arg2) (arg3.view.read (Elt F) X_arg3) (arg4.view.read (Elt F) X_arg4) (arg8.view.read (Elt F) X_arg8) (arg9.view.read (Elt F) X_arg9) (arg15.view.read (Elt F) G15) d) := by
  induction n with
  | zero => exact ⟨rfl, fun d h => absurd h (Nat.not_lt_zero _), fun d h => absurd h (Nat.not_lt_zero _), fun d h => absurd h (Nat.not_lt_zero _)⟩
  | succ n ih =>
    obtain ⟨i15, i12, i13, i14⟩ := ih (Nat.le_of_succ_le hn)
    have hk : n < k0_t1_loop.trips := hn
    have h16 : n < 16 := Nat.lt_of_lt_of_le hk k0_t1_abs.2.1
    obtain ⟨k, rfl⟩ : ∃ k : Fin k0_t1_loop.trips, n = k.val := ⟨⟨n, hk⟩, rfl⟩
    rw [pb_k0_t1_succ, trip1]
    simp only [List.cons_append, List.nil_append]
    rw [i15]
    refine ⟨?_, ?_, ?_, ?_⟩
    · rw [stW]
      show _ = (if h : k.val < 16 then _ else _)
      rw [dif_pos h16]
      rfl
    · intro d hd
      by_cases hcn : d = c1 k
      · subst hcn
        exact stC_same _ _ _ (off3_eq _) _ _ _
      · exact (stC_other _ _ (c1 k) d (off3_eq k) (k0_off3_inb k) _ _ hcn).trans
          (i12 d (lt_of_le_of_ne (Nat.lt_succ_iff.mp hd) fun h => hcn (Fin.ext h)))
    · intro d hd
      by_cases hcn : d = c1 k
      · subst hcn
        exact stC_same _ _ _ (off3_eq _) _ _ _
      · exact (stC_other _ _ (c1 k) d (off3_eq k) (k0_off3_inb k) _ _ hcn).trans
          (i13 d (lt_of_le_of_ne (Nat.lt_succ_iff.mp hd) fun h => hcn (Fin.ext h)))
    · intro d hd
      by_cases hcn : d = c1 k
      · subst hcn
        exact stD_same _ _ _ (off6_eq _) _ _ _
      · exact (stD_other _ _ (c1 k) d (off6_eq k) (k0_off6_inb k) _ _ hcn).trans
          (i14 d (lt_of_le_of_ne (Nat.lt_succ_iff.mp hd) fun h => hcn (Fin.ext h)))

/-! ## The second loop -/

/-- The pieces one trip of the second loop stores. -/
theorem trip2 (𝒱 : Variants) (c : Dev nD) (bd : Option 𝒱.V) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x128 .bf16) (harg6 : arg6.IsWhole) (arg7 : Memref sig .tc .vmem S1x256x256 .bf16) (harg7 : arg7.IsWhole) (arg8 : Memref sig .tc .vmem S4096x128 .f32) (harg8 : arg8.IsWhole) (arg9 : Memref sig .tc .vmem S4096x128 .f32) (harg9 : arg9.IsWhole) (arg10 : Memref sig .tc .vmem S8x256 .f32) (harg10 : arg10.IsWhole) (arg11 : Memref sig .tc .vmem S1x4096x256 .bf16) (harg11 : arg11.IsWhole) (arg12 : Memref sig .tc .vmem S4096x128 .bf16) (harg12 : arg12.IsWhole) (arg13 : Memref sig .tc .vmem S4096x128 .f32) (harg13 : arg13.IsWhole) (arg14 : Memref sig .tc .vmem S4096x256 .f32) (harg14 : arg14.IsWhole) (arg15 : Memref sig .tc .vmem S128x256 .f32) (harg15 : arg15.IsWhole) (arg16 : Memref sig .tc .vmem S128x256 .f32) (harg16 : arg16.IsWhole) (v65 : FVec F S256x256 .f32) (v73 : FVec F S256x128 .f32) (v79 : FVec F S1x256 .f32) (X_arg4 : BufTy.Contents (Elt F) arg4.view.ty) (X_arg5 : BufTy.Contents (Elt F) arg5.view.ty) (X_arg12 : BufTy.Contents (Elt F) arg12.view.ty) (X_arg13 : BufTy.Contents (Elt F) arg13.view.ty) (X_arg14 : BufTy.Contents (Elt F) arg14.view.ty) (k : Fin k0_t2_loop.trips) (f11 : BufTy.Contents (Elt F) arg11.view.ty) (f16 : BufTy.Contents (Elt F) arg16.view.ty) :
    tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v65 v73 v79 X_arg4 X_arg5 X_arg12 X_arg13 X_arg14 k f11 f16
      = ([⟨Rect.unit (s := S1x4096x256) (k0_off7 k) S1x256x256.size (k0_off7_inb k), k0_pay5 (k0_pay19 v65 (blkD (arg14.view.read (Elt F) X_arg14) (c2 k)) (blkC (arg12.view.read (Elt F) X_arg12) (c2 k)) (arg16.view.read (Elt F) f16)
            (blkB (arg5.view.read (Elt F) X_arg5) (c2 k)))⟩],
         [⟨Rect.unit (s := S128x256) ![0, 0] S128x256.size inb_S128x256_S128x256_0_0, k0_pay6 v73 v79 (k0_pay18 (blkB (arg4.view.read (Elt F) X_arg4) (c2 k))) (arg16.view.read (Elt F) f16) (blkC (arg13.view.read (Elt F) X_arg13) (c2 k))⟩]) := by
  unfold tripL_k0_t2 trip_k0_t2
  dsimp only
  unfold trip_k0_t2.sl.r_1 trip_k0_t2.sl.r
  have e4 := ldB arg4.view X_arg4 (c2 k) (off7_eq k) (k0_off7_inb k)
  have e5 := ldB arg5.view X_arg5 (c2 k) (off7_eq k) (k0_off7_inb k)
  have e12 := ldC arg12.view X_arg12 (c2 k) (off9_eq k) (k0_off9_inb k)
  have e13 := ldC arg13.view X_arg13 (c2 k) (off9_eq k) (k0_off9_inb k)
  have e14 := ldD arg14.view X_arg14 (c2 k) (off8_eq k) (k0_off8_inb k)
  have e16 := ldW arg16.view f16 inb_S128x256_S128x256_0_0
  rw [e4, e5, e12, e13, e14, e16]

/-- AFTER `n` TRIPS OF THE SECOND LOOP: the state buffer holds the backward state, and the blocks of the last `n` chunks hold the results. -/
theorem loop2 (𝒱 : Variants) (c : Dev nD) (bd : Option 𝒱.V) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x128 .bf16) (harg6 : arg6.IsWhole) (arg7 : Memref sig .tc .vmem S1x256x256 .bf16) (harg7 : arg7.IsWhole) (arg8 : Memref sig .tc .vmem S4096x128 .f32) (harg8 : arg8.IsWhole) (arg9 : Memref sig .tc .vmem S4096x128 .f32) (harg9 : arg9.IsWhole) (arg10 : Memref sig .tc .vmem S8x256 .f32) (harg10 : arg10.IsWhole) (arg11 : Memref sig .tc .vmem S1x4096x256 .bf16) (harg11 : arg11.IsWhole) (arg12 : Memref sig .tc .vmem S4096x128 .bf16) (harg12 : arg12.IsWhole) (arg13 : Memref sig .tc .vmem S4096x128 .f32) (harg13 : arg13.IsWhole) (arg14 : Memref sig .tc .vmem S4096x256 .f32) (harg14 : arg14.IsWhole) (arg15 : Memref sig .tc .vmem S128x256 .f32) (harg15 : arg15.IsWhole) (arg16 : Memref sig .tc .vmem S128x256 .f32) (harg16 : arg16.IsWhole) (v65 : FVec F S256x256 .f32) (v73 : FVec F S256x128 .f32) (v79 : FVec F S1x256 .f32) (X_arg4 : BufTy.Contents (Elt F) arg4.view.ty) (X_arg5 : BufTy.Contents (Elt F) arg5.view.ty) (X_arg12 : BufTy.Contents (Elt F) arg12.view.ty) (X_arg13 : BufTy.Contents (Elt F) arg13.view.ty) (X_arg14 : BufTy.Contents (Elt F) arg14.view.ty) (G11 : BufTy.Contents (Elt F) arg11.view.ty) (G16 : BufTy.Contents (Elt F) arg16.view.ty)
    (qr : Fin 16 → Vec F S256x128 .bf16) (kr : Fin 16 → Vec F S256x128 .f32) (oa : Fin 16 → Vec F S256x256 .f32)
    (h12 : ∀ d, blkC (arg12.view.read (Elt F) X_arg12) d = qr d) (h13 : ∀ d, blkC (arg13.view.read (Elt F) X_arg13) d = kr d) (h14 : ∀ d, blkD (arg14.view.read (Elt F) X_arg14) d = oa d)
    (n : ℕ) (hn : n ≤ k0_t2_loop.trips) :
    arg16.view.read (Elt F) (arg16.view.writes (Elt F) G16 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v65 v73 v79 X_arg4 X_arg5 X_arg12 X_arg13 X_arg14 G11 G16 n).2)
        = sbw v73 v79 (arg4.view.read (Elt F) X_arg4) kr (arg16.view.read (Elt F) G16) n
    ∧ (∀ d : Fin 16, 15 - d.val < n → blkB (arg11.view.read (Elt F) (arg11.view.writes (Elt F) G11 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v65 v73 v79 X_arg4 X_arg5 X_arg12 X_arg13 X_arg14 G11 G16 n).1)) d
        = outb v65 v73 v79 (arg4.view.read (Elt F) X_arg4) (arg5.view.read (Elt F) X_arg5) qr kr oa (arg16.view.read (Elt F) G16) (15 - d.val)) := by
  induction n with
  | zero => exact ⟨rfl, fun d h => absurd h (Nat.not_lt_zero _)⟩
  | succ n ih =>
    obtain ⟨i16, i11⟩ := ih (Nat.le_of_succ_le hn)
    have hk : n < k0_t2_loop.trips := hn
    have h16 : n < 16 := Nat.lt_of_lt_of_le hk k0_t2_abs.2.1
    obtain ⟨k, rfl⟩ : ∃ k : Fin k0_t2_loop.trips, n = k.val := ⟨⟨n, hk⟩, rfl⟩
    rw [pb_k0_t2_succ, trip2]
    simp only [List.cons_append, List.nil_append]
    rw [i16, h12, h13, h14]
    refine ⟨?_, ?_⟩
    · rw [stW]
      rfl
    · intro d hd
      by_cases hcn : d = c2 k
      · subst hcn
        rw [stB_same _ _ _ (off7_eq _)]
        have h15 : 15 - (c2 k).val = k.val := by show 15 - (15 - k.val) = k.val; omega
        rw [h15]
        rfl
      · refine (stB_other _ _ (c2 k) d (off7_eq k) (k0_off7_inb k) _ _ hcn).trans (i11 d ?_)
        have : d.val ≠ 15 - k.val := fun h => hcn (Fin.ext h)
        have := d.isLt
        omega

end Cert.KernelIdeal.Ret

end
-- ==== Proof.Run.lean ====
module

public import proofs.«01_k».proof.Proof.Trips
public import proofs.«01_k».proof.Proof.Gen.KernelIdeal.Frame.Runs
public import Idealize.ShloMosaic.Lib.Claim

@[expose] public section

set_option maxRecDepth 16384

noncomputable section

namespace Cert.KernelIdeal.Ret

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The block of the result, as a function of the blocks a grid point reads -/

/-- Row `r` of the `[8, 256]` array of decay logits. -/
def lrow (x8 : Vec F S8x256 .f32) (r : Fin 8) : Vec F S1x256 .f32 := fun j => x8 (ix2 r (j 1))

/-- The head a grid point treats. -/
def hd (i : grid0.Coords) : Fin 4 := ⟨(i 1).val, (i 1).isLt⟩

/-- The row of the forward decay of head `h`. -/
def rf (h : Fin 4) : Fin 8 := ⟨h.val, by omega⟩

/-- The row of the backward decay of head `h`. -/
def rb (h : Fin 4) : Fin 8 := ⟨4 + h.val, by omega⟩

/-- The forward state before the first chunk, from the context's keys and values. -/
def s0f (h : Fin 4) (x4 : Vec F S1x256x128 .bf16) (x5 : Vec F S1x256x256 .bf16) (x8 : Vec F S8x256 .f32) : FVec F S128x256 .f32 :=
  k0_pay1 (k0_pay22 (lrow x8 (rf h))) (k0_pay39 x4) (k0_pay40 x5) (k0_pay41 (F := F))

/-- The backward state after the last chunk, from the context's keys and values. -/
def s0b (h : Fin 4) (x4 : Vec F S1x256x128 .bf16) (x5 : Vec F S1x256x256 .bf16) (x8 : Vec F S8x256 .f32) : FVec F S128x256 .f32 :=
  k0_pay2 (k0_pay23 (lrow x8 (rb h))) (k0_pay38 (F := F)) (k0_pay39 x4) (k0_pay40 x5)

/-- The decays inside a chunk, both directions. -/
def dec (h : Fin 4) (x8 : Vec F S8x256 .f32) : FVec F S256x256 .f32 :=
  k0_pay29 (k0_pay21 (lrow x8 (rb h))) (k0_pay25 (lrow x8 (rf h))) k0_pay26 (k0_pay27 (F := F)) (k0_pay28 (F := F))

/-- The forward outputs of chunk `c`. -/
def fwo (h : Fin 4) (x0 x1 : Vec F S1x4096x128 .bf16) (x2 : Vec F S1x4096x256 .bf16) (x4 : Vec F S1x256x128 .bf16) (x5 : Vec F S1x256x256 .bf16) (x6 x7 : Vec F S4096x128 .f32) (x8 : Vec F S8x256 .f32) (c : Fin 16) : FVec F S256x256 .f32 :=
  ofw (dec h x8) (k0_pay32 (k0_pay20 (lrow x8 (rf h)))) (k0_pay34 (k0_pay22 (lrow x8 (rf h)))) (k0_pay36 (k0_pay20 (lrow x8 (rf h)))) x0 x1 x2 x6 x7 (s0f h x4 x5 x8) c

/-- The block of the result stored by trip `n` of the second loop. -/
def oblk (h : Fin 4) (x0 : Vec F S1x4096x128 .bf16) (x1 : Vec F S1x4096x128 .bf16) (x2 : Vec F S1x4096x256 .bf16) (x3 : Vec F S1x4096x256 .bf16) (x4 : Vec F S1x256x128 .bf16) (x5 : Vec F S1x256x256 .bf16) (x6 : Vec F S4096x128 .f32) (x7 : Vec F S4096x128 .f32) (x8 : Vec F S8x256 .f32) (n : ℕ) : FVec F S1x256x256 .bf16 :=
  outb (k0_pay33 (k0_pay21 (lrow x8 (rb h)))) (k0_pay35 (k0_pay23 (lrow x8 (rb h)))) (k0_pay37 (k0_pay21 (lrow x8 (rb h)))) x2 x3
    (fun c => k0_pay14 (qrot x0 x6 x7 c)) (krot x1 x6 x7) (fwo h x0 x1 x2 x4 x5 x6 x7 x8) (s0b h x4 x5 x8) n

/-- The chunk of a row. -/
def chk (r : Fin 4096) : Fin 16 := ⟨r.val / 256, by omega⟩

/-- A row's place in its chunk. -/
def plc (r : Fin 4096) : Fin 256 := ⟨r.val % 256, by omega⟩

/-- The array of 4096 rows whose chunk `c` is the block of trip `15 - c`. -/
def asm (w : ℕ → Vec F S1x256x256 .bf16) : Vec F S1x4096x256 .bf16 :=
  fun j => w (15 - (chk (j 1)).val) (ix3 0 (plc (j 1)) (j 2))

/-- The block of the result that a grid point of head `h` writes. -/
def outv (h : Fin 4) (x0 : Vec F S1x4096x128 .bf16) (x1 : Vec F S1x4096x128 .bf16) (x2 : Vec F S1x4096x256 .bf16) (x3 : Vec F S1x4096x256 .bf16) (x4 : Vec F S1x256x128 .bf16) (x5 : Vec F S1x256x256 .bf16) (x6 : Vec F S4096x128 .f32) (x7 : Vec F S4096x128 .f32) (x8 : Vec F S8x256 .f32) : Vec F S1x4096x256 .bf16 :=
  asm (oblk h x0 x1 x2 x3 x4 x5 x6 x7 x8)

/-- An array of 4096 rows from its blocks. -/
theorem eq_of_blkB (x : Vec F S1x4096x256 .bf16) (w : ℕ → Vec F S1x256x256 .bf16) (h : ∀ d : Fin 16, blkB x d = w (15 - d.val)) :
    x = asm w := by
  funext j
  have e := congrFun (h (chk (j 1))) (ix3 0 (plc (j 1)) (j 2))
  refine Eq.trans (congrArg x (funext fun a => Fin.ext ?_)) e
  match a with
  | ⟨0, _⟩ => show (j 0).val = 0; have h : (j 0).val < 1 := (j 0).isLt; omega
  | ⟨1, _⟩ => show (j 1).val = 256 * ((j 1).val / 256) + (j 1).val % 256; omega
  | ⟨2, _⟩ => rfl

/-- THE TWO LOOPS TOGETHER: what the second loop leaves in the result's buffer. -/
theorem both (𝒱 : Variants) (c : Dev nD) (bd : Option 𝒱.V) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x128 .bf16) (harg6 : arg6.IsWhole) (arg7 : Memref sig .tc .vmem S1x256x256 .bf16) (harg7 : arg7.IsWhole) (arg8 : Memref sig .tc .vmem S4096x128 .f32) (harg8 : arg8.IsWhole) (arg9 : Memref sig .tc .vmem S4096x128 .f32) (harg9 : arg9.IsWhole) (arg10 : Memref sig .tc .vmem S8x256 .f32) (harg10 : arg10.IsWhole) (arg11 : Memref sig .tc .vmem S1x4096x256 .bf16) (harg11 : arg11.IsWhole) (arg12 : Memref sig .tc .vmem S4096x128 .bf16) (harg12 : arg12.IsWhole) (arg13 : Memref sig .tc .vmem S4096x128 .f32) (harg13 : arg13.IsWhole) (arg14 : Memref sig .tc .vmem S4096x256 .f32) (harg14 : arg14.IsWhole) (arg15 : Memref sig .tc .vmem S128x256 .f32) (harg15 : arg15.IsWhole) (arg16 : Memref sig .tc .vmem S128x256 .f32) (harg16 : arg16.IsWhole) (x0 : Vec F S1x4096x128 .bf16) (x1 : Vec F S1x4096x128 .bf16) (x2 : Vec F S1x4096x256 .bf16) (x3 : Vec F S1x4096x256 .bf16) (x6 : Vec F S4096x128 .f32) (x7 : Vec F S4096x128 .f32)
    (v51 v60 v65 : FVec F S256x256 .f32) (v70 v73 : FVec F S256x128 .f32) (v76 v79 : FVec F S1x256 .f32)
    (f9 : BufTy.Contents (Elt F) arg11.view.ty) (fs0 : BufTy.Contents (Elt F) arg12.view.ty) (fs1 : BufTy.Contents (Elt F) arg13.view.ty) (fs2 : BufTy.Contents (Elt F) arg14.view.ty)
    (G15 : BufTy.Contents (Elt F) arg15.view.ty) (G16 : BufTy.Contents (Elt F) arg16.view.ty) (n1 n2 : ℕ) (hn1 : n1 = k0_t1_loop.trips) (hn2 : n2 = k0_t2_loop.trips) :
    arg11.view.read (Elt F) (arg11.view.writes (Elt F) f9 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v65 v73 v79 (harg4.unread x2) (harg5.unread x3) (arg12.view.writes (Elt F) fs0 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v51 v60 v70 v76 (harg2.unread x0) (harg3.unread x1) (harg4.unread x2) (harg8.unread x6) (harg9.unread x7) fs0 fs1 fs2 G15 n1).1) (arg13.view.writes (Elt F) fs1 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v51 v60 v70 v76 (harg2.unread x0) (harg3.unread x1) (harg4.unread x2) (harg8.unread x6) (harg9.unread x7) fs0 fs1 fs2 G15 n1).2.1) (arg14.view.writes (Elt F) fs2 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v51 v60 v70 v76 (harg2.unread x0) (harg3.unread x1) (harg4.unread x2) (harg8.unread x6) (harg9.unread x7) fs0 fs1 fs2 G15 n1).2.2.1) f9 G16 n2).1)
      = asm (outb v65 v73 v79 x2 x3 (fun c => k0_pay14 (qrot x0 x6 x7 c)) (krot x1 x6 x7)
          (ofw v51 v60 v70 v76 x0 x1 x2 x6 x7 (arg15.view.read (Elt F) G15)) (arg16.view.read (Elt F) G16)) := by
  have t1 : k0_t1_loop.trips = 16 := by decide
  have t2 : k0_t2_loop.trips = 16 := by decide
  refine eq_of_blkB _ _ fun d => ?_
  obtain ⟨-, l12, l13, l14⟩ := loop1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v51 v60 v70 v76 (harg2.unread x0) (harg3.unread x1) (harg4.unread x2) (harg8.unread x6) (harg9.unread x7) fs0 fs1 fs2 G15 n1 (le_of_eq hn1)
  rw [harg2.read_unread, harg8.read_unread, harg9.read_unread] at l12
  rw [harg3.read_unread, harg8.read_unread, harg9.read_unread] at l13
  rw [harg2.read_unread, harg3.read_unread, harg4.read_unread, harg8.read_unread, harg9.read_unread] at l14
  obtain ⟨-, l11⟩ := loop2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v65 v73 v79 (harg4.unread x2) (harg5.unread x3) (arg12.view.writes (Elt F) fs0 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v51 v60 v70 v76 (harg2.unread x0) (harg3.unread x1) (harg4.unread x2) (harg8.unread x6) (harg9.unread x7) fs0 fs1 fs2 G15 n1).1) (arg13.view.writes (Elt F) fs1 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v51 v60 v70 v76 (harg2.unread x0) (harg3.unread x1) (harg4.unread x2) (harg8.unread x6) (harg9.unread x7) fs0 fs1 fs2 G15 n1).2.1) (arg14.view.writes (Elt F) fs2 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v51 v60 v70 v76 (harg2.unread x0) (harg3.unread x1) (harg4.unread x2) (harg8.unread x6) (harg9.unread x7) fs0 fs1 fs2 G15 n1).2.2.1) f9 G16
    (fun c => k0_pay14 (qrot x0 x6 x7 c)) (krot x1 x6 x7) (ofw v51 v60 v70 v76 x0 x1 x2 x6 x7 (arg15.view.read (Elt F) G15))
    (fun d => l12 d (by rw [hn1, t1]; exact d.isLt)) (fun d => l13 d (by rw [hn1, t1]; exact d.isLt)) (fun d => l14 d (by rw [hn1, t1]; exact d.isLt)) n2 (le_of_eq hn2)
  rw [harg4.read_unread, harg5.read_unread] at l11
  exact l11 d (by rw [hn2, t2]; omega)

theorem off1_eq : ∀ i : grid0.Coords, k0_off1 i = ![(hd i).val, 0] := by decide +kernel
theorem off2_eq : ∀ i : grid0.Coords, k0_off2 i = ![4 + (hd i).val, 0] := by decide +kernel

/-- A load of one row of the `[8, 256]` buffer reads that row. -/
theorem ldL {κ : Kind} {sp : Space} (v : View sig κ sp S8x256 .f32) (f : v.ty.Contents (Elt F)) {off : Fin 2 → ℕ} (r : Fin 8)
    (h : off = ![r.val, 0]) (inb : ∀ a, off a + S1x256.size a ≤ S8x256.size a) :
    v.readAt (Elt F) (Rect.unit (s := S8x256) off S1x256.size inb).toLoadRect f = lrow (v.read (Elt F) f) r := by
  subst h
  funext y
  refine congrArg (v.read (Elt F) f) (funext fun a => Fin.ext ?_)
  match a with
  | ⟨0, _⟩ => show r.val + 1 * (y 0).val = r.val; have h : (y 0).val < 1 := (y 0).isLt; omega
  | ⟨1, _⟩ => show 0 + 1 * (y 1).val = (y 1).val; omega

-- (the run's proof term is large: checking it walks past the default budget)
set_option maxHeartbeats 1000000 in
/-- THE BODY AT A GRID POINT: on whole staging buffers holding `x0 … x8`, it ends with the result's buffer at `outv` of them and the
    inputs' buffers as they were. -/
theorem body_run (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x128 .bf16) (harg6 : arg6.IsWhole) (arg7 : Memref sig .tc .vmem S1x256x256 .bf16) (harg7 : arg7.IsWhole) (arg8 : Memref sig .tc .vmem S4096x128 .f32) (harg8 : arg8.IsWhole) (arg9 : Memref sig .tc .vmem S4096x128 .f32) (harg9 : arg9.IsWhole) (arg10 : Memref sig .tc .vmem S8x256 .f32) (harg10 : arg10.IsWhole) (arg11 : Memref sig .tc .vmem S1x4096x256 .bf16) (harg11 : arg11.IsWhole) (arg12 : Memref sig .tc .vmem S4096x128 .bf16) (harg12 : arg12.IsWhole) (arg13 : Memref sig .tc .vmem S4096x128 .f32) (harg13 : arg13.IsWhole) (arg14 : Memref sig .tc .vmem S4096x256 .f32) (harg14 : arg14.IsWhole) (arg15 : Memref sig .tc .vmem S128x256 .f32) (harg15 : arg15.IsWhole) (arg16 : Memref sig .tc .vmem S128x256 .f32) (harg16 : arg16.IsWhole)
    (x0 : Vec F S1x4096x128 .bf16) (x1 : Vec F S1x4096x128 .bf16) (x2 : Vec F S1x4096x256 .bf16) (x3 : Vec F S1x4096x256 .bf16) (x4 : Vec F S1x256x128 .bf16) (x5 : Vec F S1x256x256 .bf16) (x6 : Vec F S4096x128 .f32) (x7 : Vec F S4096x128 .f32) (x8 : Vec F S8x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (outv (hd i) x0 x1 x2 x3 x4 x5 x6 x7 x8) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_retention i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_retention_eq_skeleton]; unfold cc0_retention_skel
    simp only [k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; swap; · iexact H9
      ipureintro
      refine (both (F := F) _ _ _ _ _ _ _ _ _ _ _ _ _ _ _ _ _ _ _ _ _ _ _ _ _ _ _ _ _ _ _ _ _ _ _ _ _ _ _ _ _ _ _ _ _ _ _ _ _ _ _ _ _ _ _ rfl rfl).trans ?_
      have e1 := ldL arg10.view (harg10.unread x8) (rf (hd i)) (off1_eq i) (k0_off1_inb i)
      have e2 := ldL arg10.view (harg10.unread x8) (rb (hd i)) (off2_eq i) (k0_off2_inb i)
      have e6 := View.readAt_full arg6.view (harg6.unread x4) inb_S1x256x128_S1x256x128_0_0_0
      have e7 := View.readAt_full arg7.view (harg7.unread x5) inb_S1x256x256_S1x256x256_0_0_0
      rw [harg10.read_unread] at e1 e2
      rw [harg6.read_unread] at e6
      rw [harg7.read_unread] at e7
      unfold body_run.sl.HS3_1 body_run.sl.HS4_1
      rw [stW, stW]
      (try unfold body_run.sl.r_20); (try unfold body_run.sl.r_19); (try unfold body_run.sl.r_18); (try unfold body_run.sl.r_17); (try unfold body_run.sl.r_16); (try unfold body_run.sl.r_15); (try unfold body_run.sl.r_14); (try unfold body_run.sl.r_13); (try unfold body_run.sl.r_12); (try unfold body_run.sl.r_11); (try unfold body_run.sl.r_10); (try unfold body_run.sl.r_9); (try unfold body_run.sl.r_8); (try unfold body_run.sl.r_7); (try unfold body_run.sl.r_6); (try unfold body_run.sl.r_5); (try unfold body_run.sl.r_4); (try unfold body_run.sl.r_3); (try unfold body_run.sl.r_2); (try unfold body_run.sl.r_1);
      try unfold body_run.sl.r
      rw [e1, e2, e6, e7]
      rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Ret

end
-- ==== Proof.Value.lean ====
module

public import proofs.«01_k».proof.Proof.Run
public import Idealize.ShloMosaic.Lib.Pipeline.Value
public import proofs.«01_k».proof.Proof.Gen.KernelIdeal.Frame.Runs
public import Idealize.ShloMosaic.Lib.Claim

@[expose] public section

set_option maxRecDepth 16384

noncomputable section

namespace Cert.KernelIdeal.Ret

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold after each point -/

/-- What the result's staging buffer holds after the body at point `t`: `outv` of the point's head and input blocks. -/
def outsAt0 (c : Dev nD) (t : Fin cfg0.N) : Vec F S1x4096x256 .bf16 :=
  outv (hd (grid0.coords t)) (iblk m c 0 t) (iblk m c 1 t) (iblk m c 2 t) (iblk m c 3 t) (iblk m c 4 t) (iblk m c 5 t) (iblk m c 6 t) (iblk m c 7 t) (iblk m c 8 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t)
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  unfold outsAt0
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_run c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-! ## Blockwise: what each point writes back, and the final array block by block -/

/-- WHAT POINT `t` WRITES BACK to output window 9's array: the run's contents for that window after the body (`Gen.outsAt0`), read through the window's block. -/
theorem flushed9 (c : Dev nD) (t : Fin cfg0.N) :
    (dats m 0 c).flushed 9 t = (cfg0.win 9).cut (grid0.coords t) (outsAt0 m c t) := by
  show (cfg0.win 9).cut (grid0.coords t) ((dats m 0 c).after 9 t) = _
  rw [after0_9]

/-- The index map sends distinct grid points to distinct block indices (decided over the 32 points). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S8x4096x1024.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v36) = (dats m 0 c).arrAt 9 cfg0.N :=
  (h c).1 9

/-- After the frame run, argument `main_arg0` is as launched: input window 3 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 3).trans (((dats m 0 c).arrAt_in 3 rfl _).trans ((A_eq m c 3).trans (V_main_arg0 m c)))

/-- After the frame run, argument `main_arg1` is as launched: input window 5 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 5).trans (((dats m 0 c).arrAt_in 5 rfl _).trans ((A_eq m c 5).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v36) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post9 m r h c,
      kept_main_arg0 m r h c,
      kept_main_arg1 m r h c,
      kept_main_arg2 m r h c⟩)
    (run_main m ρ)

end Cert.KernelIdeal.Ret

end
-- ==== Proof.Reals.lean ====
module

public import Idealize.ShloMosaic.PureOps.Ideal
public import Idealize.ShloMosaic.PureOps.Ideal.Laws
public import Idealize.ShloMosaic.Lib.IdealHost
public import Idealize.ShloMosaic.Lib.Pointwise

@[expose] public section

noncomputable section

/-! # Extended reals that are reals

What the operations of the ideal instance do to numbers that are real, on words and literals too. -/

namespace Cert.Rl

open Idealize.ShloMosaic

/-- A sum of reals, taken in the extended reals, is the real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The logarithm of the sigmoid of a real. -/
def lam (x : ℝ) : ℝ := min x 0 - Real.log (1 + Real.exp (-|x|))

theorem coe_min (x y : ℝ) : min (x : EReal) (y : EReal) = ((min x y : ℝ) : EReal) :=
  (EReal.coe_strictMono.monotone.map_min).symm

theorem coe_max (x y : ℝ) : max (x : EReal) (y : EReal) = ((max x y : ℝ) : EReal) :=
  (EReal.coe_strictMono.monotone.map_max).symm

theorem coe_abs (x : ℝ) : max (x : EReal) (-(x : EReal)) = ((|x| : ℝ) : EReal) := by
  rw [← EReal.coe_neg, coe_max]; rfl

/-- The logarithm of a positive real is real. -/
theorem log_coe {x : ℝ} (h : 0 < x) : Ideal.log (x : EReal) = ((Real.log x : ℝ) : EReal) := by
  show (if x ≤ 0 then ⊥ else (Real.log x : EReal)) = _
  rw [if_neg (not_le.mpr h)]

/-- The kernel's form of the log-sigmoid. -/
theorem logsig_k (x : ℝ) : min (x : EReal) 0 - Ideal.log (1 + Ideal.exp (0 - max (x : EReal) (-(x : EReal)))) = ((lam x : ℝ) : EReal) := by
  rw [coe_abs, zero_sub, ← EReal.coe_neg, Ideal.exp_coe, ← EReal.coe_one, ← EReal.coe_add, log_coe (by positivity), ← EReal.coe_zero, coe_min, ← EReal.coe_sub]
  rfl

/-- The reference's form of the log-sigmoid, `-(max(-x, 0) + log1p(exp(-|-x|)))`. -/
theorem logsig_r (x : ℝ) : -(max (-(x : EReal)) 0 + Ideal.log1p (Ideal.exp (-(max (-(x : EReal)) (-(-(x : EReal))))))) = ((lam x : ℝ) : EReal) := by
  rw [← EReal.coe_neg x, coe_abs, ← EReal.coe_neg, Ideal.exp_coe, Ideal.log1p, ← EReal.coe_one, ← EReal.coe_add, log_coe (by positivity), ← EReal.coe_zero, coe_max,
    ← EReal.coe_add, ← EReal.coe_neg, abs_neg]
  congr 1
  unfold lam
  have : max (-x) 0 = -min x 0 := by rw [← max_neg_neg, neg_zero]
  rw [this]; ring

theorem lit_256 : Ideal.ofBits .f32 0x43800000#32 = ((256 : ℝ) : EReal) := by
  simp [Ideal.ofBits, Ideal.ieee, -EReal.coe_mul]; norm_num

theorem lit_255 : Ideal.ofBits .f32 0x437F0000#32 = ((255 : ℝ) : EReal) := by
  simp [Ideal.ofBits, Ideal.ieee, -EReal.coe_mul]; norm_num

/-- A 32-bit literal whose exponent is not all ones is real. -/
theorem lit_real (b : BitVec 32) (h : (b.extractLsb' 23 8).toNat ≠ 255) : ∃ s : ℝ, Ideal.ofBits .f32 b = (s : EReal) := by
  show ∃ s : ℝ, Ideal.ieee 8 23 b = (s : EReal)
  unfold Ideal.ieee
  dsimp only
  rw [if_neg (by simpa using h)]
  split_ifs
  all_goals exact ⟨_, rfl⟩

/-- The word of a small natural is that natural. -/
theorem toInt_small {n : ℕ} (h : n < 65536) : (BitVec.ofNat 32 n).toInt = (n : ℤ) := by
  rw [BitVec.toInt_eq_toNat_of_lt (by rw [BitVec.toNat_ofNat]; omega), BitVec.toNat_ofNat]; omega

/-- The difference of two small words is the difference of the naturals. -/
theorem toInt_diff {i j : ℕ} (hi : i < 65536) (hj : j < 65536) : (IntOp.subi (BitVec.ofNat 32 i) (BitVec.ofNat 32 j)).toInt = (i : ℤ) - (j : ℤ) := by
  show (BitVec.ofNat 32 i - BitVec.ofNat 32 j).toInt = _
  rw [BitVec.toInt_sub, toInt_small hi, toInt_small hj]
  apply Int.bmod_eq_of_le <;> omega

/-! ## The rotation of queries and keys -/

/-- The angle of frequency `f` at grid coordinate `p`. -/
def ang (p f : ℕ) : EReal :=
  ((p : ℝ) : EReal) * Ideal.pow (Ideal.ofBits .f32 0x461C4000#32) (Ideal.div (-((f : ℝ) : EReal)) (Ideal.ofBits .f32 0x42000000#32))

theorem lit_32 : Ideal.ofBits .f32 0x42000000#32 = ((32 : ℝ) : EReal) := by
  simp [Ideal.ofBits, Ideal.ieee, -EReal.coe_mul]; norm_num

/-- An angle is real. -/
theorem ang_real (p f : ℕ) : ∃ a : ℝ, ang p f = (a : EReal) := by
  obtain ⟨b, hb⟩ := lit_real 0x461C4000#32 (by decide)
  unfold ang
  rw [hb, lit_32, ← EReal.coe_neg, Ideal.div_coe (by norm_num), ← EReal.coe_mul]
  exact ⟨(p : ℝ) * Real.rpow b (-(f : ℝ) * (1 / 32)), by rw [EReal.coe_mul]; rfl⟩

/-- The cosine and the sine of an angle are real. -/
theorem cos_real (p f : ℕ) : ∃ a : ℝ, Ideal.cos (ang p f) = (a : EReal) := by
  obtain ⟨a, ha⟩ := ang_real p f
  exact ⟨Real.cos a, by rw [ha]; rfl⟩

theorem sin_real (p f : ℕ) : ∃ a : ℝ, Ideal.sin (ang p f) = (a : EReal) := by
  obtain ⟨a, ha⟩ := ang_real p f
  exact ⟨Real.sin a, by rw [ha]; rfl⟩

/-- A vector of 128 lanes rotated for position `t` of the grid of 64 columns: the first half by the row's angles, the
    second half by the column's, lane `f` with lane `f + 32` of its half. -/
def rope (x : Fin 128 → EReal) (t : ℕ) (d : Fin 128) : EReal :=
  if h0 : d.val < 64 then
    (if h1 : d.val < 32 then x ⟨d.val, by omega⟩ * Ideal.cos (ang (t / 64) d.val) - x ⟨32 + d.val, by omega⟩ * Ideal.sin (ang (t / 64) d.val)
      else x ⟨d.val - 32, by omega⟩ * Ideal.sin (ang (t / 64) (d.val - 32)) + x ⟨32 + (d.val - 32), by omega⟩ * Ideal.cos (ang (t / 64) (d.val - 32)))
  else
    (if h1 : d.val - 64 < 32 then x ⟨64 + (d.val - 64), by omega⟩ * Ideal.cos (ang (t % 64) (d.val - 64)) - x ⟨64 + (32 + (d.val - 64)), by omega⟩ * Ideal.sin (ang (t % 64) (d.val - 64))
      else x ⟨64 + (d.val - 64 - 32), by omega⟩ * Ideal.sin (ang (t % 64) (d.val - 64 - 32)) + x ⟨64 + (32 + (d.val - 64 - 32)), by omega⟩ * Ideal.cos (ang (t % 64) (d.val - 64 - 32)))

/-- A rotated real vector is real. -/
theorem rope_real (x : Fin 128 → EReal) (hx : ∀ d, ∃ r : ℝ, x d = (r : EReal)) (t : ℕ) (d : Fin 128) : ∃ r : ℝ, rope x t d = (r : EReal) := by
  have key : ∀ (a b : Fin 128) (p f : ℕ), (∃ r : ℝ, x a * Ideal.cos (ang p f) - x b * Ideal.sin (ang p f) = (r : EReal))
      ∧ (∃ r : ℝ, x a * Ideal.sin (ang p f) + x b * Ideal.cos (ang p f) = (r : EReal)) := by
    intro a b p f
    obtain ⟨u, hu⟩ := hx a
    obtain ⟨w, hw⟩ := hx b
    obtain ⟨c, hc⟩ := cos_real p f
    obtain ⟨s, hs⟩ := sin_real p f
    rw [hu, hw, hc, hs]
    exact ⟨⟨u * c - w * s, by rw [EReal.coe_sub, EReal.coe_mul, EReal.coe_mul]⟩, ⟨u * s + w * c, by rw [EReal.coe_add, EReal.coe_mul, EReal.coe_mul]⟩⟩
  unfold rope
  split_ifs
  · exact (key _ _ _ _).1
  · exact (key _ _ _ _).2
  · exact (key _ _ _ _).1
  · exact (key _ _ _ _).2

end Cert.Rl

end
-- ==== Proof.Closed.lean ====
module

public import Mathlib.Analysis.SpecialFunctions.Exp
public import Mathlib.Algebra.BigOperators.Intervals

@[expose] public section

noncomputable section

/-! # The recurrence over chunks of 256 and its closed form

Facts of real numbers only: nothing here speaks of a program. -/

namespace Cert.Closed

open Finset

/-- A state carried forward over chunks, each step decaying the old state by 256 steps and adding the chunk's
    terms decayed to the chunk's end, is after `n` chunks the decayed sum of all earlier terms and the decayed start. -/
theorem forward (L : ℝ) (k v S : ℕ → ℝ) (N : ℕ)
    (hS : ∀ n < N, S (n + 1) = S n * Real.exp (L * 256) + ∑ r ∈ range 256, k (256 * n + r) * Real.exp (L * (255 - (r : ℝ))) * v (256 * n + r)) :
    ∀ n ≤ N, S n = ∑ j ∈ range (256 * n), k j * Real.exp (L * (256 * (n : ℝ) - 1 - (j : ℝ))) * v j + Real.exp (L * (256 * (n : ℝ))) * S 0 := by
  intro n
  induction n with
  | zero => intro _; simp
  | succ n ih =>
    intro hn
    rw [hS n (by omega), ih (by omega), show 256 * (n + 1) = 256 * n + 256 by ring, sum_range_add, add_mul, sum_mul]
    have e1 : ∀ j : ℕ, k j * Real.exp (L * (256 * (n : ℝ) - 1 - (j : ℝ))) * v j * Real.exp (L * 256)
        = k j * Real.exp (L * (256 * ((n + 1 : ℕ) : ℝ) - 1 - (j : ℝ))) * v j := by
      intro j
      rw [show L * (256 * ((n + 1 : ℕ) : ℝ) - 1 - (j : ℝ)) = L * (256 * (n : ℝ) - 1 - (j : ℝ)) + L * 256 by push_cast; ring, Real.exp_add]
      ring
    have e2 : ∀ r : ℕ, k (256 * n + r) * Real.exp (L * (255 - (r : ℝ))) * v (256 * n + r)
        = k (256 * n + r) * Real.exp (L * (256 * ((n + 1 : ℕ) : ℝ) - 1 - ((256 * n + r : ℕ) : ℝ))) * v (256 * n + r) := by
      intro r
      rw [show L * (256 * ((n + 1 : ℕ) : ℝ) - 1 - ((256 * n + r : ℕ) : ℝ)) = L * (255 - (r : ℝ)) by push_cast; ring]
    rw [sum_congr rfl (fun j _ => e1 j), sum_congr rfl (fun r _ => e2 r),
      show L * (256 * ((n + 1 : ℕ) : ℝ)) = L * (256 * (n : ℝ)) + L * 256 by push_cast; ring, Real.exp_add]
    ring

/-- A state carried backward over sixteen chunks is after `n` of them the decayed sum of the last `256 n` terms and
    the decayed start. -/
theorem backward (M : ℝ) (k v T : ℕ → ℝ)
    (hT : ∀ n < 16, T (n + 1) = T n * Real.exp (M * 256) + ∑ r ∈ range 256, k (256 * (15 - n) + r) * Real.exp (M * (r : ℝ)) * v (256 * (15 - n) + r)) :
    ∀ n ≤ 16, T n = ∑ j ∈ range (256 * n), k (256 * (16 - n) + j) * Real.exp (M * (j : ℝ)) * v (256 * (16 - n) + j) + Real.exp (M * (256 * (n : ℝ))) * T 0 := by
  intro n
  induction n with
  | zero => intro _; simp
  | succ n ih =>
    intro hn
    rw [hT n (by omega), ih (by omega), show 256 * (n + 1) = 256 + 256 * n by ring, sum_range_add, add_mul, sum_mul]
    have e1 : ∀ j : ℕ, k (256 * (16 - n) + j) * Real.exp (M * (j : ℝ)) * v (256 * (16 - n) + j) * Real.exp (M * 256)
        = k (256 * (16 - (n + 1)) + (256 + j)) * Real.exp (M * ((256 + j : ℕ) : ℝ)) * v (256 * (16 - (n + 1)) + (256 + j)) := by
      intro j
      rw [show 256 * (16 - (n + 1)) + (256 + j) = 256 * (16 - n) + j by omega,
        show M * ((256 + j : ℕ) : ℝ) = M * (j : ℝ) + M * 256 by push_cast; ring, Real.exp_add]
      ring
    have e3 : 15 - n = 16 - (n + 1) := by omega
    rw [sum_congr rfl (fun j _ => e1 j), e3,
      show M * (256 * ((n + 1 : ℕ) : ℝ)) = M * (256 * (n : ℝ)) + M * 256 by push_cast; ring, Real.exp_add]
    ring

/-- What the chunked form adds up at position `256 c + r`: the scores inside the chunk under both decays, the state
    carried forward to the chunk and the state carried backward to it; it is the decayed sum over all 4096 positions
    in both directions, and both starting states' decayed shares. -/
theorem position (L M : ℝ) (s v : ℕ → ℝ) (z y : ℝ) (c r : ℕ) (hc : c < 16) (hr : r < 256) :
    (∑ j ∈ range 256, s (256 * c + j) * ((if j ≤ r then Real.exp (L * ((r : ℝ) - (j : ℝ))) else 0)
          + (if r < j then Real.exp (M * ((j : ℝ) - (r : ℝ))) else 0)) * v (256 * c + j)
        + (∑ j ∈ range (256 * c), s j * Real.exp (L * (256 * (c : ℝ) - 1 - (j : ℝ))) * v j + Real.exp (L * (256 * (c : ℝ))) * z)
          * Real.exp (L * ((r : ℝ) + 1)))
      + (∑ j ∈ range (256 * (15 - c)), s (256 * (16 - (15 - c)) + j) * Real.exp (M * (j : ℝ)) * v (256 * (16 - (15 - c)) + j)
          + Real.exp (M * (256 * ((15 - c : ℕ) : ℝ))) * y) * Real.exp (M * (256 - (r : ℝ)))
    = (∑ j ∈ range 4096, s j * (if j ≤ 256 * c + r then Real.exp (L * (((256 * c + r : ℕ) : ℝ) - (j : ℝ))) else 0) * v j
        + z * Real.exp (L * (((256 * c + r : ℕ) : ℝ) + 1)))
      + (∑ j ∈ range 4096, s j * (if 256 * c + r < j then Real.exp (M * ((j : ℝ) - ((256 * c + r : ℕ) : ℝ))) else 0) * v j
        + y * Real.exp (M * (4096 - ((256 * c + r : ℕ) : ℝ)))) := by
  have hsplit : ∀ f : ℕ → ℝ, ∑ j ∈ range 4096, f j = ∑ j ∈ range (256 * c), f j + ∑ j ∈ range 256, f (256 * c + j)
      + ∑ j ∈ range (256 * (15 - c)), f (256 * (16 - (15 - c)) + j) := by
    intro f
    have e : 256 * (16 - (15 - c)) = 256 * c + 256 := by omega
    rw [e, ← sum_range_add, ← sum_range_add, show 256 * c + 256 + 256 * (15 - c) = 4096 by omega]
  rw [hsplit, hsplit]
  have a1 : ∀ j ∈ range (256 * c), s j * (if j ≤ 256 * c + r then Real.exp (L * (((256 * c + r : ℕ) : ℝ) - (j : ℝ))) else 0) * v j
      = s j * Real.exp (L * (256 * (c : ℝ) - 1 - (j : ℝ))) * v j * Real.exp (L * ((r : ℝ) + 1)) := by
    intro j hj
    rw [mem_range] at hj
    rw [if_pos (by omega), show L * (((256 * c + r : ℕ) : ℝ) - (j : ℝ)) = L * (256 * (c : ℝ) - 1 - (j : ℝ)) + L * ((r : ℝ) + 1) by push_cast; ring, Real.exp_add]
    ring
  have a2 : ∀ j ∈ range (256 * c), s j * (if 256 * c + r < j then Real.exp (M * ((j : ℝ) - ((256 * c + r : ℕ) : ℝ))) else 0) * v j = 0 := by
    intro j hj
    rw [mem_range] at hj
    rw [if_neg (by omega)]; ring
  have b1 : ∀ j ∈ range (256 * (15 - c)), s (256 * (16 - (15 - c)) + j) * (if 256 * (16 - (15 - c)) + j ≤ 256 * c + r then
      Real.exp (L * (((256 * c + r : ℕ) : ℝ) - ((256 * (16 - (15 - c)) + j : ℕ) : ℝ))) else 0) * v (256 * (16 - (15 - c)) + j) = 0 := by
    intro j hj
    rw [if_neg (by omega)]; ring
  have b2 : ∀ j ∈ range (256 * (15 - c)), s (256 * (16 - (15 - c)) + j) * (if 256 * c + r < 256 * (16 - (15 - c)) + j then
      Real.exp (M * (((256 * (16 - (15 - c)) + j : ℕ) : ℝ) - ((256 * c + r : ℕ) : ℝ))) else 0) * v (256 * (16 - (15 - c)) + j)
      = s (256 * (16 - (15 - c)) + j) * Real.exp (M * (j : ℝ)) * v (256 * (16 - (15 - c)) + j) * Real.exp (M * (256 - (r : ℝ))) := by
    intro j hj
    have e : 256 * (16 - (15 - c)) = 256 * c + 256 := by omega
    rw [e]
    rw [if_pos (by omega), show M * (((256 * c + 256 + j : ℕ) : ℝ) - ((256 * c + r : ℕ) : ℝ)) = M * (j : ℝ) + M * (256 - (r : ℝ)) by push_cast; ring, Real.exp_add]
    ring
  have m1 : ∀ j ∈ range 256, s (256 * c + j) * ((if j ≤ r then Real.exp (L * ((r : ℝ) - (j : ℝ))) else 0)
        + (if r < j then Real.exp (M * ((j : ℝ) - (r : ℝ))) else 0)) * v (256 * c + j)
      = s (256 * c + j) * (if 256 * c + j ≤ 256 * c + r then Real.exp (L * (((256 * c + r : ℕ) : ℝ) - ((256 * c + j : ℕ) : ℝ))) else 0) * v (256 * c + j)
        + s (256 * c + j) * (if 256 * c + r < 256 * c + j then Real.exp (M * (((256 * c + j : ℕ) : ℝ) - ((256 * c + r : ℕ) : ℝ))) else 0) * v (256 * c + j) := by
    intro j hj
    have h1 : ((256 * c + r : ℕ) : ℝ) - ((256 * c + j : ℕ) : ℝ) = (r : ℝ) - (j : ℝ) := by push_cast; ring
    have h2 : ((256 * c + j : ℕ) : ℝ) - ((256 * c + r : ℕ) : ℝ) = (j : ℝ) - (r : ℝ) := by push_cast; ring
    rw [h1, h2]
    simp only [Nat.add_le_add_iff_left, Nat.add_lt_add_iff_left]
    ring
  have z1 : Real.exp (L * (((256 * c + r : ℕ) : ℝ) + 1)) = Real.exp (L * (256 * (c : ℝ))) * Real.exp (L * ((r : ℝ) + 1)) := by
    rw [← Real.exp_add]; congr 1; push_cast; ring
  have z2 : Real.exp (M * (4096 - ((256 * c + r : ℕ) : ℝ))) = Real.exp (M * (256 * ((15 - c : ℕ) : ℝ))) * Real.exp (M * (256 - (r : ℝ))) := by
    rw [← Real.exp_add]; congr 1; rw [Nat.cast_sub (by omega)]; push_cast; ring
  rw [sum_congr rfl a1, sum_congr rfl a2, sum_congr rfl b1, sum_congr rfl b2, sum_congr rfl m1, sum_const_zero, sum_const_zero,
    sum_add_distrib, z1, z2, ← sum_mul, ← sum_mul]
  ring

end Cert.Closed

end
-- ==== Proof.Elem.lean ====
module

public import proofs.«01_k».proof.Proof.Run
public import proofs.«01_k».proof.Proof.Reals
public import proofs.«01_k».proof.Proof.Closed
public import Idealize.ShloMosaic.Lib.Pointwise

@[expose] public section

set_option maxRecDepth 16384

noncomputable section

/-! # The kernel's block, entry by entry, as real numbers

With real queries, keys, values, context and decay logits, each state and output of the chunked kernel is the
real number that the recurrence gives. -/

namespace Cert.KernelIdeal.Ret

open Cert.KernelIdeal Cert.KernelIdeal.Gen Idealize.ShloMosaic Idealize.ShloMosaic.TcCoe Idealize.SL.Sem Cert.Rl

/-! ## The decays -/

variable (lg : Fin 8 → ℝ) (x8 : Vec Ideal S8x256 .f32) (hx8 : ∀ (r : Fin 8) (j : Fin 256), x8 (ix2 r j) = ((lg r : ℝ) : EReal))

/-- The ideal conversion of a word to a float is its integer. -/
theorem sitofp_eq (b : BitVec 32) : FloatOps.sitofp (F := Ideal) .f32 b = ((b.toInt : ℝ) : EReal) := rfl

theorem absf_eq (x : EReal) : FloatOps.absf (F := Ideal) (φ := .f32) x = max x (-x) := rfl

include hx8

theorem pay32_e (r : Fin 8) (i j : Fin 256) : k0_pay32 (k0_pay20 (lrow x8 r)) (ix2 i j) = ((Real.exp (lam (lg r) * ((i.val : ℝ) + 1)) : ℝ) : EReal) := by
  unfold lrow
  pointwise [k0_pay32, k0_pay31, k0_pay20]
  rw [hx8, absf_eq, logsig_k, sitofp_eq, toInt_small (by omega)]
  rw [← EReal.coe_one, ← EReal.coe_add, ← EReal.coe_mul, Ideal.exp_coe]
  simp only [Int.cast_natCast]

theorem pay33_e (r : Fin 8) (i j : Fin 256) : k0_pay33 (k0_pay21 (lrow x8 r)) (ix2 i j) = ((Real.exp (lam (lg r) * (256 - (i.val : ℝ))) : ℝ) : EReal) := by
  unfold lrow
  pointwise [k0_pay33, k0_pay31, k0_pay21]
  rw [hx8, absf_eq, logsig_k, sitofp_eq, toInt_small (by omega), lit_256]
  rw [← EReal.coe_sub, ← EReal.coe_mul, Ideal.exp_coe]
  simp only [Int.cast_natCast]

theorem pay34_e (r : Fin 8) (i : Fin 256) (j : Fin 128) : k0_pay34 (k0_pay22 (lrow x8 r)) (ix2 i j) = ((Real.exp (lam (lg r) * (255 - (i.val : ℝ))) : ℝ) : EReal) := by
  unfold lrow
  pointwise [k0_pay34, k0_pay30, k0_pay22, k0_pay20]
  rw [hx8, absf_eq, logsig_k, sitofp_eq, toInt_small (by omega), lit_255]
  rw [← EReal.coe_sub, ← EReal.coe_mul, Ideal.exp_coe]
  simp only [Int.cast_natCast]

theorem pay35_e (r : Fin 8) (i : Fin 256) (j : Fin 128) : k0_pay35 (k0_pay23 (lrow x8 r)) (ix2 i j) = ((Real.exp (lam (lg r) * (i.val : ℝ)) : ℝ) : EReal) := by
  unfold lrow
  pointwise [k0_pay35, k0_pay30, k0_pay23, k0_pay21]
  rw [hx8, absf_eq, logsig_k, sitofp_eq, toInt_small (by omega)]
  rw [← EReal.coe_mul, Ideal.exp_coe]
  simp only [Int.cast_natCast]

theorem pay36_e (r : Fin 8) (j : Fin 256) : k0_pay36 (k0_pay20 (lrow x8 r)) (ix2 0 j) = ((Real.exp (lam (lg r) * 256) : ℝ) : EReal) := by
  unfold lrow
  pointwise [k0_pay36, k0_pay20]
  rw [hx8, absf_eq, logsig_k, lit_256, ← EReal.coe_mul, Ideal.exp_coe]

theorem pay37_e (r : Fin 8) (j : Fin 256) : k0_pay37 (k0_pay21 (lrow x8 r)) (ix2 0 j) = ((Real.exp (lam (lg r) * 256) : ℝ) : EReal) := by
  unfold lrow
  pointwise [k0_pay37, k0_pay21]
  rw [hx8, absf_eq, logsig_k, lit_256, ← EReal.coe_mul, Ideal.exp_coe]

omit hx8 in
theorem sge_word (i j : Fin 256) : IntOp.cmpi CmpIPredicate.sge (BitVec.ofNat 32 i.val) (BitVec.ofNat 32 j.val) = BitVec.ofBool (decide (j.val ≤ i.val)) := by
  show BitVec.ofBool ((BitVec.ofNat 32 j.val).sle (BitVec.ofNat 32 i.val)) = _
  rw [BitVec.sle_eq_decide, toInt_small (by omega), toInt_small (by omega)]
  congr 1; simp

omit hx8 in
theorem sgt_word (i j : Fin 256) : IntOp.cmpi CmpIPredicate.sgt (BitVec.ofNat 32 j.val) (BitVec.ofNat 32 i.val) = BitVec.ofBool (decide (i.val < j.val)) := by
  show BitVec.ofBool ((BitVec.ofNat 32 i.val).slt (BitVec.ofNat 32 j.val)) = _
  rw [BitVec.slt_eq_decide, toInt_small (by omega), toInt_small (by omega)]
  congr 1; simp

omit hx8 in
/-- A selection by a decided truth value. -/
theorem select_ofBool {α : Type} (p : Prop) [Decidable p] (a b : α) : Scalar.select (BitVec.ofBool (decide p)) a b = if p then a else b := by
  by_cases h : p <;> simp [h, Scalar.select]

/-- The decays inside a chunk. -/
theorem dec_e (h : Fin 4) (i j : Fin 256) : dec h x8 (ix2 i j)
    = (((if j.val ≤ i.val then Real.exp (lam (lg (rf h)) * ((i.val : ℝ) - (j.val : ℝ))) else 0)
        + (if i.val < j.val then Real.exp (lam (lg (rb h)) * ((j.val : ℝ) - (i.val : ℝ))) else 0) : ℝ) : EReal) := by
  unfold dec lrow
  pointwise [k0_pay29, k0_pay21, k0_pay25, k0_pay26, k0_pay27, k0_pay28, k0_pay24, k0_pay20]
  rw [hx8, hx8, absf_eq, absf_eq, logsig_k, logsig_k, sitofp_eq, toInt_diff (by omega) (by omega), sge_word, sgt_word, select_ofBool, select_ofBool,
    zero_sub, ← EReal.coe_neg, ← EReal.coe_zero, coe_max, coe_max, ← EReal.coe_mul, ← EReal.coe_mul, Ideal.exp_coe, Ideal.exp_coe, EReal.coe_add]
  refine congrArg₂ _ ?_ ?_
  · split_ifs with hc
    · have hc' : (j.val : ℝ) ≤ (i.val : ℝ) := by exact_mod_cast hc
      push_cast
      rw [max_eq_left (by linarith)]
    · rfl
  · split_ifs with hc
    · have hc' : (i.val : ℝ) < (j.val : ℝ) := by exact_mod_cast hc
      push_cast
      rw [max_eq_left (by linarith), neg_sub]
    · rfl

/-! ## The states and the outputs -/

variable (h : Fin 4) (x0 x1 : Vec Ideal S1x4096x128 .bf16) (x2 x3 : Vec Ideal S1x4096x256 .bf16) (x4 : Vec Ideal S1x256x128 .bf16)
  (x5 : Vec Ideal S1x256x256 .bf16) (x6 x7 : Vec Ideal S4096x128 .f32)
  (Q K : ℕ → Fin 128 → ℝ) (W : ℕ → Fin 256 → ℝ) (KC : Fin 256 → Fin 128 → ℝ) (WC : Fin 256 → Fin 256 → ℝ)
  (hQ : ∀ (c : Fin 16) (r : Fin 256) (d : Fin 128), qrot x0 x6 x7 c (ix2 r d) = ((Q (256 * c.val + r.val) d : ℝ) : EReal))
  (hK : ∀ (c : Fin 16) (r : Fin 256) (d : Fin 128), krot x1 x6 x7 c (ix2 r d) = ((K (256 * c.val + r.val) d : ℝ) : EReal))
  (hW : ∀ (c : Fin 16) (r : Fin 256) (e : Fin 256), blkB x2 c (ix3 0 r e) = ((W (256 * c.val + r.val) e : ℝ) : EReal))
  (hKC : ∀ (r : Fin 256) (d : Fin 128), x4 (ix3 0 r d) * Ideal.ofBits .f32 0x3DB504F3#32 = ((KC r d : ℝ) : EReal))
  (hWC : ∀ (r : Fin 256) (e : Fin 256), x5 (ix3 0 r e) = ((WC r e : ℝ) : EReal))

/-- The context's contribution to the forward state. -/
def ctxF (L : ℝ) (d : Fin 128) (e : Fin 256) : ℝ := ∑ r : Fin 256, KC r d * Real.exp (L * (255 - (r.val : ℝ))) * WC r e

/-- The context's contribution to the backward state. -/
def ctxB (M : ℝ) (d : Fin 128) (e : Fin 256) : ℝ := ∑ r : Fin 256, KC r d * Real.exp (M * (r.val : ℝ)) * WC r e

/-- The forward state over the reals. -/
def stF (L : ℝ) (d : Fin 128) (e : Fin 256) : ℕ → ℝ
  | 0 => ctxF KC WC L d e
  | n + 1 => stF L d e n * Real.exp (L * 256) + ∑ r ∈ Finset.range 256, K (256 * n + r) d * Real.exp (L * (255 - (r : ℝ))) * W (256 * n + r) e

/-- The backward state over the reals. -/
def stB (M : ℝ) (d : Fin 128) (e : Fin 256) : ℕ → ℝ
  | 0 => ctxB KC WC M d e
  | n + 1 => stB M d e n * Real.exp (M * 256) + ∑ r ∈ Finset.range 256, K (256 * (15 - n) + r) d * Real.exp (M * (r : ℝ)) * W (256 * (15 - n) + r) e

omit hx8 in
theorem stF_succ (L : ℝ) (d : Fin 128) (e : Fin 256) (n : ℕ) : stF K W KC WC L d e (n + 1)
    = stF K W KC WC L d e n * Real.exp (L * 256) + ∑ r ∈ Finset.range 256, K (256 * n + r) d * Real.exp (L * (255 - (r : ℝ))) * W (256 * n + r) e := rfl

omit hx8 in
theorem stB_succ (M : ℝ) (d : Fin 128) (e : Fin 256) (n : ℕ) : stB K W KC WC M d e (n + 1)
    = stB K W KC WC M d e n * Real.exp (M * 256) + ∑ r ∈ Finset.range 256, K (256 * (15 - n) + r) d * Real.exp (M * (r : ℝ)) * W (256 * (15 - n) + r) e := rfl

include hKC hWC in
theorem s0f_e (d : Fin 128) (e : Fin 256) : s0f h x4 x5 x8 (ix2 d e) = ((ctxF KC WC (lam (lg (rf h))) d e : ℝ) : EReal) := by
  unfold s0f lrow
  pointwise [k0_pay1, k0_pay22, k0_pay20, k0_pay39, k0_pay40, k0_pay41, k0_pay38]
  unfold ctxF
  rw [← coe_sum]
  refine Finset.sum_congr rfl fun r _ => ?_
  rw [hx8, absf_eq, logsig_k, sitofp_eq, toInt_small (by omega), lit_255, hKC, hWC, ← EReal.coe_sub, ← EReal.coe_mul, Ideal.exp_coe, ← EReal.coe_mul, ← EReal.coe_mul]
  simp only [Int.cast_natCast]

include hKC hWC in
theorem s0b_e (d : Fin 128) (e : Fin 256) : s0b h x4 x5 x8 (ix2 d e) = ((ctxB KC WC (lam (lg (rb h))) d e : ℝ) : EReal) := by
  unfold s0b lrow
  pointwise [k0_pay2, k0_pay23, k0_pay21, k0_pay39, k0_pay40, k0_pay38]
  unfold ctxB
  rw [← coe_sum]
  refine Finset.sum_congr rfl fun r _ => ?_
  rw [hx8, absf_eq, logsig_k, sitofp_eq, toInt_small (by omega), hKC, hWC, ← EReal.coe_mul, Ideal.exp_coe, ← EReal.coe_mul, ← EReal.coe_mul]
  simp only [Int.cast_natCast]

omit hx8 in
theorem pay4_e (v70 v178 : FVec Ideal S256x128 .f32) (v76 : FVec Ideal S1x256 .f32) (y : Vec Ideal S1x256x256 .bf16) (v205 : Vec Ideal S128x256 .f32) (d : Fin 128) (e : Fin 256) :
    k0_pay4 v70 v76 v178 (k0_pay16 y) v205 (ix2 d e) = v205 (ix2 d e) * v76 (ix2 0 e) + ∑ r : Fin 256, v178 (ix2 r d) * v70 (ix2 r d) * y (ix3 0 r e) := by
  pointwise [k0_pay4, k0_pay16]

omit hx8 in
theorem pay6_e (v73 : FVec Ideal S256x128 .f32) (v79 : FVec Ideal S1x256 .f32) (y : Vec Ideal S1x256x256 .bf16) (v154 : Vec Ideal S128x256 .f32) (v158 : Vec Ideal S256x128 .f32) (d : Fin 128) (e : Fin 256) :
    k0_pay6 v73 v79 (k0_pay18 y) v154 v158 (ix2 d e) = v154 (ix2 d e) * v79 (ix2 0 e) + ∑ r : Fin 256, v158 (ix2 r d) * v73 (ix2 r d) * y (ix3 0 r e) := by
  pointwise [k0_pay6, k0_pay18]

omit hx8 in
theorem pay3_e (v60 : FVec Ideal S256x256 .f32) (v151 : FVec Ideal S256x128 .f32) (v195 : FVec Ideal S256x256 .f32) (v196 : Vec Ideal S128x256 .f32) (i e : Fin 256) :
    k0_pay3 v60 (k0_pay13 v151) v195 v196 (ix2 i e) = v195 (ix2 i e) + (∑ d : Fin 128, v151 (ix2 i d) * v196 (ix2 d e)) * v60 (ix2 i e) := by
  pointwise [k0_pay3, k0_pay13]

omit hx8 in
theorem pay17_e (v51 : FVec Ideal S256x256 .f32) (v118 v126 v151 v152 : FVec Ideal S256x128 .f32) (v153 : IVec S256x128 32) (y : Vec Ideal S1x256x256 .bf16) (i e : Fin 256) :
    k0_pay17 v51 v118 v126 v151 v152 v153 y (ix2 i e)
      = ∑ j : Fin 256, (∑ d : Fin 128, v151 (ix2 i d) * k0_pay12 v118 v126 v152 v153 (ix2 j d)) * v51 (ix2 i j) * y (ix3 0 j e) := by
  pointwise [k0_pay17, k0_pay13, k0_pay16]

omit hx8 in
/-- The result's block before the cast: normalised output times the gate, for the output `o`. -/
theorem pay19_e (v65 : FVec Ideal S256x256 .f32) (v118 : Vec Ideal S256x256 .f32) (v151 : FVec Ideal S256x128 .f32) (v121 : Vec Ideal S128x256 .f32) (g : Vec Ideal S1x256x256 .bf16)
    (i e : Fin 256) (o : Fin 256 → EReal)
    (ho : ∀ e, v118 (ix2 i e) + (∑ d : Fin 128, v151 (ix2 i d) * v121 (ix2 d e)) * v65 (ix2 i e) = o e) :
    k0_pay5 (k0_pay19 v65 v118 (k0_pay14 v151) v121 g) (ix3 0 i e)
      = g (ix3 0 i e) * Ideal.div 1 (1 + Ideal.exp (0 - g (ix3 0 i e)))
        * (o e * Ideal.rsqrt (Ideal.div (∑ e' : Fin 256, o e' * o e') (Ideal.ofBits .f32 0x43800000#32) + Ideal.ofBits .f32 0x358637BD#32)) := by
  have e14 : ∀ x, k0_pay14 v151 x = v151 x := fun x => by
    idx_vars x
    pointwise [k0_pay14, k0_pay13]
  pointwise [k0_pay5, k0_pay19]
  simp only [e14, ho]

include hK hW hKC hWC in
/-- The kernel's forward state is the real one. -/
theorem sfw_e (d : Fin 128) (e : Fin 256) : ∀ n, n ≤ 16 →
    sfw (k0_pay34 (k0_pay22 (lrow x8 (rf h)))) (k0_pay36 (k0_pay20 (lrow x8 (rf h)))) x1 x2 x6 x7 (s0f h x4 x5 x8) n (ix2 d e)
      = ((stF K W KC WC (lam (lg (rf h))) d e n : ℝ) : EReal) := by
  intro n
  induction n with
  | zero => intro _; exact s0f_e lg x8 hx8 h x4 x5 KC WC hKC hWC d e
  | succ n ih =>
    intro hn
    have hn' : n < 16 := by omega
    have hs : ∀ r : Fin 256, krot x1 x6 x7 ⟨n, hn'⟩ (ix2 r d) * k0_pay34 (k0_pay22 (lrow x8 (rf h))) (ix2 r d) * blkB x2 ⟨n, hn'⟩ (ix3 0 r e)
        = ((K (256 * n + r.val) d * Real.exp (lam (lg (rf h)) * (255 - (r.val : ℝ))) * W (256 * n + r.val) e : ℝ) : EReal) := fun r => by
      rw [hK, pay34_e lg x8 hx8, hW, ← EReal.coe_mul, ← EReal.coe_mul]
    unfold sfw
    rw [dif_pos hn', pay4_e, ih (by omega), pay36_e lg x8 hx8, Finset.sum_congr rfl (fun r _ => hs r), coe_sum, ← EReal.coe_mul, ← EReal.coe_add]
    rw [stF_succ, Finset.sum_range]

include hK hW hKC hWC in
/-- The kernel's backward state is the real one. -/
theorem sbw_e (d : Fin 128) (e : Fin 256) : ∀ n, n ≤ 16 →
    sbw (k0_pay35 (k0_pay23 (lrow x8 (rb h)))) (k0_pay37 (k0_pay21 (lrow x8 (rb h)))) x2 (krot x1 x6 x7) (s0b h x4 x5 x8) n (ix2 d e)
      = ((stB K W KC WC (lam (lg (rb h))) d e n : ℝ) : EReal) := by
  intro n
  induction n with
  | zero => intro _; exact s0b_e lg x8 hx8 h x4 x5 KC WC hKC hWC d e
  | succ n ih =>
    intro hn
    have hs : ∀ r : Fin 256, krot x1 x6 x7 ⟨15 - n, by omega⟩ (ix2 r d) * k0_pay35 (k0_pay23 (lrow x8 (rb h))) (ix2 r d) * blkB x2 ⟨15 - n, by omega⟩ (ix3 0 r e)
        = ((K (256 * (15 - n) + r.val) d * Real.exp (lam (lg (rb h)) * (r.val : ℝ)) * W (256 * (15 - n) + r.val) e : ℝ) : EReal) := fun r => by
      rw [hK, pay35_e lg x8 hx8, hW, ← EReal.coe_mul, ← EReal.coe_mul]
    unfold sbw
    rw [pay6_e, ih (by omega), pay37_e lg x8 hx8, Finset.sum_congr rfl (fun r _ => hs r), coe_sum, ← EReal.coe_mul, ← EReal.coe_add]
    rw [stB_succ, Finset.sum_range]

/-- The score of positions `t` and `j`. -/
def sco (t j : ℕ) : ℝ := ∑ d : Fin 128, Q t d * K j d

/-- The forward output of the chunked form at position `256 c + i`. -/
def outF (L M : ℝ) (c i : ℕ) (e : Fin 256) : ℝ :=
  ∑ j ∈ Finset.range 256, sco Q K (256 * c + i) (256 * c + j) * ((if j ≤ i then Real.exp (L * ((i : ℝ) - (j : ℝ))) else 0)
      + (if i < j then Real.exp (M * ((j : ℝ) - (i : ℝ))) else 0)) * W (256 * c + j) e
    + (∑ d : Fin 128, Q (256 * c + i) d * stF K W KC WC L d e c) * Real.exp (L * ((i : ℝ) + 1))

include hQ hK hW hKC hWC in
/-- The first loop's output is the real one. -/
theorem fwo_e (c : Fin 16) (i e : Fin 256) : fwo h x0 x1 x2 x4 x5 x6 x7 x8 c (ix2 i e)
    = ((outF Q K W KC WC (lam (lg (rf h))) (lam (lg (rb h))) c.val i.val e : ℝ) : EReal) := by
  have h1 : ∀ j : Fin 256, (∑ d : Fin 128, qrot x0 x6 x7 c (ix2 i d) * krot x1 x6 x7 c (ix2 j d)) * dec h x8 (ix2 i j) * blkB x2 c (ix3 0 j e)
      = ((sco Q K (256 * c.val + i.val) (256 * c.val + j.val) * ((if j.val ≤ i.val then Real.exp (lam (lg (rf h)) * ((i.val : ℝ) - (j.val : ℝ))) else 0)
        + (if i.val < j.val then Real.exp (lam (lg (rb h)) * ((j.val : ℝ) - (i.val : ℝ))) else 0)) * W (256 * c.val + j.val) e : ℝ) : EReal) := fun j => by
    have : ∀ d : Fin 128, qrot x0 x6 x7 c (ix2 i d) * krot x1 x6 x7 c (ix2 j d) = ((Q (256 * c.val + i.val) d * K (256 * c.val + j.val) d : ℝ) : EReal) :=
      fun d => by rw [hQ, hK, ← EReal.coe_mul]
    rw [Finset.sum_congr rfl (fun d _ => this d), coe_sum, dec_e lg x8 hx8, hW, ← EReal.coe_mul, ← EReal.coe_mul]
    rfl
  have h2 : ∀ d : Fin 128, qrot x0 x6 x7 c (ix2 i d) * sfw (k0_pay34 (k0_pay22 (lrow x8 (rf h)))) (k0_pay36 (k0_pay20 (lrow x8 (rf h)))) x1 x2 x6 x7 (s0f h x4 x5 x8) c.val (ix2 d e)
      = ((Q (256 * c.val + i.val) d * stF K W KC WC (lam (lg (rf h))) d e c.val : ℝ) : EReal) := fun d => by
    rw [hQ, sfw_e lg x8 hx8 h x1 x2 x4 x5 x6 x7 K W KC WC hK hW hKC hWC d e c.val (by omega), ← EReal.coe_mul]
  unfold fwo ofw
  rw [pay3_e]
  unfold intra
  rw [pay17_e]
  refine Eq.trans (congrArg₂ _ (Finset.sum_congr rfl (fun j _ => h1 j)) (congrArg₂ _ (Finset.sum_congr rfl (fun d _ => h2 d)) (pay32_e lg x8 hx8 (rf h) i e))) ?_
  rw [coe_sum, coe_sum, ← EReal.coe_mul, ← EReal.coe_add]
  unfold outF
  rw [Finset.sum_range]

/-- What both directions give at position `t`, summed over all positions: the reference's form. -/
def outR (L M : ℝ) (t : ℕ) (e : Fin 256) : ℝ :=
  (∑ j ∈ Finset.range 4096, sco Q K t j * (if j ≤ t then Real.exp (L * ((t : ℝ) - (j : ℝ))) else 0) * W j e
      + (∑ d : Fin 128, Q t d * ctxF KC WC L d e) * Real.exp (L * ((t : ℝ) + 1)))
    + (∑ j ∈ Finset.range 4096, sco Q K t j * (if t < j then Real.exp (M * ((j : ℝ) - (t : ℝ))) else 0) * W j e
      + (∑ d : Fin 128, Q t d * ctxB KC WC M d e) * Real.exp (M * (4096 - (t : ℝ))))

omit hx8 in
/-- The chunked form adds up to the form over all positions. -/
theorem chunked (L M : ℝ) (c i : ℕ) (hc : c < 16) (hi : i < 256) (e : Fin 256) :
    outF Q K W KC WC L M c i e + (∑ d : Fin 128, Q (256 * c + i) d * stB K W KC WC M d e (15 - c)) * Real.exp (M * (256 - (i : ℝ)))
      = outR Q K W KC WC L M (256 * c + i) e := by
  have hF : ∀ d : Fin 128, stF K W KC WC L d e c = _ := fun d =>
    Closed.forward L (fun j => K j d) (fun j => W j e) (stF K W KC WC L d e) 16 (fun n _ => rfl) c (by omega)
  have hB : ∀ d : Fin 128, stB K W KC WC M d e (15 - c) = _ := fun d =>
    Closed.backward M (fun j => K j d) (fun j => W j e) (stB K W KC WC M d e) (fun n _ => rfl) (15 - c) (by omega)
  have cF : ∑ d : Fin 128, Q (256 * c + i) d * stF K W KC WC L d e c
      = ∑ j ∈ Finset.range (256 * c), sco Q K (256 * c + i) j * Real.exp (L * (256 * (c : ℝ) - 1 - (j : ℝ))) * W j e
        + Real.exp (L * (256 * (c : ℝ))) * ∑ d : Fin 128, Q (256 * c + i) d * ctxF KC WC L d e := by
    simp only [hF, mul_add, Finset.sum_add_distrib, Finset.mul_sum]
    congr 1
    · rw [Finset.sum_comm]
      refine Finset.sum_congr rfl fun j _ => ?_
      unfold sco
      rw [Finset.sum_mul, Finset.sum_mul]
      exact Finset.sum_congr rfl fun d _ => by ring
    · exact Finset.sum_congr rfl fun d _ => by show _ * (_ * ctxF KC WC L d e) = _; ring
  have cB : ∑ d : Fin 128, Q (256 * c + i) d * stB K W KC WC M d e (15 - c)
      = ∑ j ∈ Finset.range (256 * (15 - c)), sco Q K (256 * c + i) (256 * (16 - (15 - c)) + j) * Real.exp (M * (j : ℝ)) * W (256 * (16 - (15 - c)) + j) e
        + Real.exp (M * (256 * ((15 - c : ℕ) : ℝ))) * ∑ d : Fin 128, Q (256 * c + i) d * ctxB KC WC M d e := by
    simp only [hB, mul_add, Finset.sum_add_distrib, Finset.mul_sum]
    congr 1
    · rw [Finset.sum_comm]
      refine Finset.sum_congr rfl fun j _ => ?_
      unfold sco
      rw [Finset.sum_mul, Finset.sum_mul]
      exact Finset.sum_congr rfl fun d _ => by ring
    · exact Finset.sum_congr rfl fun d _ => by show _ * (_ * ctxB KC WC M d e) = _; ring
  unfold outF outR
  rw [cF, cB]
  exact Closed.position L M (fun j => sco Q K (256 * c + i) j) (fun j => W j e) _ _ c i hc hi

include hQ hK hW hKC hWC in
/-- The kernel's block at a row and a lane: the normalised and gated output of the retention over all positions. -/
theorem outv_e (t : Fin 4096) (e : Fin 256) : outv h x0 x1 x2 x3 x4 x5 x6 x7 x8 (ix3 0 t e)
    = x3 (ix3 0 t e) * Ideal.div 1 (1 + Ideal.exp (0 - x3 (ix3 0 t e)))
      * (((outR Q K W KC WC (lam (lg (rf h))) (lam (lg (rb h))) t.val e : ℝ) : EReal)
        * Ideal.rsqrt (Ideal.div (∑ e' : Fin 256, ((outR Q K W KC WC (lam (lg (rf h))) (lam (lg (rb h))) t.val e' : ℝ) : EReal)
            * ((outR Q K W KC WC (lam (lg (rf h))) (lam (lg (rb h))) t.val e' : ℝ) : EReal)) (Ideal.ofBits .f32 0x43800000#32) + Ideal.ofBits .f32 0x358637BD#32)) := by
  have ht : 256 * (chk t).val + (plc t).val = t.val := by show 256 * (t.val / 256) + t.val % 256 = t.val; omega
  have hch : (⟨15 - (15 - (chk t).val), by omega⟩ : Fin 16) = chk t := Fin.ext (by show 15 - (15 - (chk t).val) = (chk t).val; omega)
  have hg : blkB x3 (chk t) (ix3 0 (plc t) e) = x3 (ix3 0 t e) := by
    show x3 (ix3 0 ⟨256 * (chk t).val + (plc t).val, _⟩ e) = _
    congr 1
    exact congrArg (fun z => ix3 0 z e) (Fin.ext ht)
  have hu : outv h x0 x1 x2 x3 x4 x5 x6 x7 x8 (ix3 0 t e) = oblk h x0 x1 x2 x3 x4 x5 x6 x7 x8 (15 - (chk t).val) (ix3 0 (plc t) e) := rfl
  rw [hu]
  unfold oblk outb
  rw [hch]
  have := pay19_e (k0_pay33 (k0_pay21 (lrow x8 (rb h)))) (fwo h x0 x1 x2 x4 x5 x6 x7 x8 (chk t)) (qrot x0 x6 x7 (chk t))
    (sbw (k0_pay35 (k0_pay23 (lrow x8 (rb h)))) (k0_pay37 (k0_pay21 (lrow x8 (rb h)))) x2 (krot x1 x6 x7) (s0b h x4 x5 x8) (15 - (chk t).val)) (blkB x3 (chk t)) (plc t) e
    (fun e => ((outR Q K W KC WC (lam (lg (rf h))) (lam (lg (rb h))) t.val e : ℝ) : EReal)) (fun e => by
      have h2 : ∀ d : Fin 128, qrot x0 x6 x7 (chk t) (ix2 (plc t) d) * sbw (k0_pay35 (k0_pay23 (lrow x8 (rb h)))) (k0_pay37 (k0_pay21 (lrow x8 (rb h)))) x2 (krot x1 x6 x7) (s0b h x4 x5 x8) (15 - (chk t).val) (ix2 d e)
          = ((Q (256 * (chk t).val + (plc t).val) d * stB K W KC WC (lam (lg (rb h))) d e (15 - (chk t).val) : ℝ) : EReal) := fun d => by
        rw [hQ, sbw_e lg x8 hx8 h x1 x2 x4 x5 x6 x7 K W KC WC hK hW hKC hWC d e _ (by omega), ← EReal.coe_mul]
      rw [fwo_e lg x8 hx8 h x0 x1 x2 x4 x5 x6 x7 Q K W KC WC hQ hK hW hKC hWC, Finset.sum_congr rfl (fun d _ => h2 d), coe_sum, pay33_e lg x8 hx8, ← EReal.coe_mul, ← EReal.coe_add,
        chunked Q K W KC WC _ _ _ _ (chk t).isLt (plc t).isLt, ht])
  rw [hg] at this
  exact this

end Cert.KernelIdeal.Ret

end
-- ==== Proof.Blocks.lean ====
module

public import proofs.«01_k».proof.Proof.Value
public import proofs.«01_k».proof.Proof.Elem

@[expose] public section

set_option maxRecDepth 16384

noncomputable section

/-! # The blocks of the grid points, and the tables that @main makes before the launch, entry by entry -/

namespace Cert.KernelIdeal.Ret

open Cert.KernelIdeal Cert.KernelIdeal.Gen Idealize.ShloMosaic Idealize.ShloMosaic.TcCoe Idealize.SL.Sem Cert.Rl

variable (m : (ℓ : Loc nD τ sig) → Buf (Elt Ideal) ℓ)

/-- The batch row of a grid point. -/
def pb (t : Fin cfg0.N) : Fin 8 := ⟨t.val / 4, by have h : t.val < 32 := t.isLt; omega⟩

/-- The head of a grid point. -/
def ph (t : Fin cfg0.N) : Fin 4 := ⟨t.val % 4, by omega⟩

theorem hd_eq : ∀ t : Fin cfg0.N, hd (grid0.coords t) = ph t :=
  (by decide +kernel : ∀ t : Fin grid0.N, hd (grid0.coords t) = ph t)

theorem ix_0 : ∀ t : Fin cfg0.N, win0_0.index t 0 = t.val / 4 ∧ win0_0.index t 1 = 0 ∧ win0_0.index t 2 = t.val % 4 :=
  (by decide +kernel : ∀ t : Fin grid0.N, win0_0.index t 0 = t.val / 4 ∧ win0_0.index t 1 = 0 ∧ win0_0.index t 2 = t.val % 4)

theorem ix_1 : ∀ t : Fin cfg0.N, win0_1.index t 0 = t.val / 4 ∧ win0_1.index t 1 = 0 ∧ win0_1.index t 2 = 4 + t.val % 4 :=
  (by decide +kernel : ∀ t : Fin grid0.N, win0_1.index t 0 = t.val / 4 ∧ win0_1.index t 1 = 0 ∧ win0_1.index t 2 = 4 + t.val % 4)

theorem ix_2 : ∀ t : Fin cfg0.N, win0_2.index t 0 = t.val / 4 ∧ win0_2.index t 1 = 0 ∧ win0_2.index t 2 = 4 + t.val % 4 :=
  (by decide +kernel : ∀ t : Fin grid0.N, win0_2.index t 0 = t.val / 4 ∧ win0_2.index t 1 = 0 ∧ win0_2.index t 2 = 4 + t.val % 4)

theorem ix_3 : ∀ t : Fin cfg0.N, win0_3.index t 0 = t.val / 4 ∧ win0_3.index t 1 = 0 ∧ win0_3.index t 2 = 8 + t.val % 4 :=
  (by decide +kernel : ∀ t : Fin grid0.N, win0_3.index t 0 = t.val / 4 ∧ win0_3.index t 1 = 0 ∧ win0_3.index t 2 = 8 + t.val % 4)

theorem ix_4 : ∀ t : Fin cfg0.N, win0_4.index t 0 = t.val / 4 ∧ win0_4.index t 1 = 0 ∧ win0_4.index t 2 = t.val % 4 :=
  (by decide +kernel : ∀ t : Fin grid0.N, win0_4.index t 0 = t.val / 4 ∧ win0_4.index t 1 = 0 ∧ win0_4.index t 2 = t.val % 4)

theorem ix_5 : ∀ t : Fin cfg0.N, win0_5.index t 0 = t.val / 4 ∧ win0_5.index t 1 = 0 ∧ win0_5.index t 2 = 2 + t.val % 4 :=
  (by decide +kernel : ∀ t : Fin grid0.N, win0_5.index t 0 = t.val / 4 ∧ win0_5.index t 1 = 0 ∧ win0_5.index t 2 = 2 + t.val % 4)

theorem ix_6 : ∀ t : Fin cfg0.N, win0_6.index t 0 = 0 ∧ win0_6.index t 1 = 0 :=
  (by decide +kernel : ∀ t : Fin grid0.N, win0_6.index t 0 = 0 ∧ win0_6.index t 1 = 0)

theorem ix_7 : ∀ t : Fin cfg0.N, win0_7.index t 0 = 0 ∧ win0_7.index t 1 = 0 :=
  (by decide +kernel : ∀ t : Fin grid0.N, win0_7.index t 0 = 0 ∧ win0_7.index t 1 = 0)

theorem ix_8 : ∀ t : Fin cfg0.N, win0_8.index t 0 = 0 ∧ win0_8.index t 1 = 0 :=
  (by decide +kernel : ∀ t : Fin grid0.N, win0_8.index t 0 = 0 ∧ win0_8.index t 1 = 0)

theorem ix_9 : ∀ t : Fin cfg0.N, win0_9.index t 0 = t.val / 4 ∧ win0_9.index t 1 = 0 ∧ win0_9.index t 2 = t.val % 4 :=
  (by decide +kernel : ∀ t : Fin grid0.N, win0_9.index t 0 = t.val / 4 ∧ win0_9.index t 1 = 0 ∧ win0_9.index t 2 = t.val % 4)

/-- The queries of a point. -/
theorem blk_0 (c : Dev nD) (t : Fin cfg0.N) (r : Fin 4096) (d : Fin 128) : (iblk m c 0 t : Vec Ideal S1x4096x128 .bf16) (ix3 0 r d)
    = m ((c : Thread nD τ).loc main_arg0) (ix3 (pb t) r ⟨(ph t).val * 128 + d.val, by have := (ph t).isLt; omega⟩) := by
  have hi := ix_0 t
  unfold iblk
  rw [View.read_apply]
  show V m c main_arg0 _ = _
  rw [V_main_arg0]
  refine congrArg _ (funext fun a => Fin.ext ?_)
  match a with
  | ⟨0, _⟩ => show win0_0.index t 0 * 1 + 1 * 0 = t.val / 4; rw [hi.1]; omega
  | ⟨1, _⟩ => show win0_0.index t 1 * 4096 + 1 * r.val = r.val; rw [hi.2.1]; omega
  | ⟨2, _⟩ => show win0_0.index t 2 * 128 + 1 * d.val = t.val % 4 * 128 + d.val; rw [hi.2.2]; omega

/-- The keys of a point. -/
theorem blk_1 (c : Dev nD) (t : Fin cfg0.N) (r : Fin 4096) (d : Fin 128) : (iblk m c 1 t : Vec Ideal S1x4096x128 .bf16) (ix3 0 r d)
    = m ((c : Thread nD τ).loc main_arg0) (ix3 (pb t) r ⟨512 + ((ph t).val * 128 + d.val), by have := (ph t).isLt; omega⟩) := by
  have hi := ix_1 t
  unfold iblk
  rw [View.read_apply]
  show V m c main_arg0 _ = _
  rw [V_main_arg0]
  refine congrArg _ (funext fun a => Fin.ext ?_)
  match a with
  | ⟨0, _⟩ => show win0_1.index t 0 * 1 + 1 * 0 = t.val / 4; rw [hi.1]; omega
  | ⟨1, _⟩ => show win0_1.index t 1 * 4096 + 1 * r.val = r.val; rw [hi.2.1]; omega
  | ⟨2, _⟩ => show win0_1.index t 2 * 128 + 1 * d.val = 512 + (t.val % 4 * 128 + d.val); rw [hi.2.2]; omega

/-- The values of a point. -/
theorem blk_2 (c : Dev nD) (t : Fin cfg0.N) (r : Fin 4096) (e : Fin 256) : (iblk m c 2 t : Vec Ideal S1x4096x256 .bf16) (ix3 0 r e)
    = m ((c : Thread nD τ).loc main_arg0) (ix3 (pb t) r ⟨1024 + ((ph t).val * 256 + e.val), by have := (ph t).isLt; omega⟩) := by
  have hi := ix_2 t
  unfold iblk
  rw [View.read_apply]
  show V m c main_arg0 _ = _
  rw [V_main_arg0]
  refine congrArg _ (funext fun a => Fin.ext ?_)
  match a with
  | ⟨0, _⟩ => show win0_2.index t 0 * 1 + 1 * 0 = t.val / 4; rw [hi.1]; omega
  | ⟨1, _⟩ => show win0_2.index t 1 * 4096 + 1 * r.val = r.val; rw [hi.2.1]; omega
  | ⟨2, _⟩ => show win0_2.index t 2 * 256 + 1 * e.val = 1024 + (t.val % 4 * 256 + e.val); rw [hi.2.2]; omega

/-- The gates of a point. -/
theorem blk_3 (c : Dev nD) (t : Fin cfg0.N) (r : Fin 4096) (e : Fin 256) : (iblk m c 3 t : Vec Ideal S1x4096x256 .bf16) (ix3 0 r e)
    = m ((c : Thread nD τ).loc main_arg0) (ix3 (pb t) r ⟨2048 + ((ph t).val * 256 + e.val), by have := (ph t).isLt; omega⟩) := by
  have hi := ix_3 t
  unfold iblk
  rw [View.read_apply]
  show V m c main_arg0 _ = _
  rw [V_main_arg0]
  refine congrArg _ (funext fun a => Fin.ext ?_)
  match a with
  | ⟨0, _⟩ => show win0_3.index t 0 * 1 + 1 * 0 = t.val / 4; rw [hi.1]; omega
  | ⟨1, _⟩ => show win0_3.index t 1 * 4096 + 1 * r.val = r.val; rw [hi.2.1]; omega
  | ⟨2, _⟩ => show win0_3.index t 2 * 256 + 1 * e.val = 2048 + (t.val % 4 * 256 + e.val); rw [hi.2.2]; omega

/-- The context's keys of a point. -/
theorem blk_4 (c : Dev nD) (t : Fin cfg0.N) (r : Fin 256) (d : Fin 128) : (iblk m c 4 t : Vec Ideal S1x256x128 .bf16) (ix3 0 r d)
    = m ((c : Thread nD τ).loc main_arg1) (ix3 (pb t) r ⟨(ph t).val * 128 + d.val, by have := (ph t).isLt; omega⟩) := by
  have hi := ix_4 t
  unfold iblk
  rw [View.read_apply]
  show V m c main_arg1 _ = _
  rw [V_main_arg1]
  refine congrArg _ (funext fun a => Fin.ext ?_)
  match a with
  | ⟨0, _⟩ => show win0_4.index t 0 * 1 + 1 * 0 = t.val / 4; rw [hi.1]; omega
  | ⟨1, _⟩ => show win0_4.index t 1 * 256 + 1 * r.val = r.val; rw [hi.2.1]; omega
  | ⟨2, _⟩ => show win0_4.index t 2 * 128 + 1 * d.val = t.val % 4 * 128 + d.val; rw [hi.2.2]; omega

/-- The context's values of a point. -/
theorem blk_5 (c : Dev nD) (t : Fin cfg0.N) (r : Fin 256) (e : Fin 256) : (iblk m c 5 t : Vec Ideal S1x256x256 .bf16) (ix3 0 r e)
    = m ((c : Thread nD τ).loc main_arg1) (ix3 (pb t) r ⟨512 + ((ph t).val * 256 + e.val), by have := (ph t).isLt; omega⟩) := by
  have hi := ix_5 t
  unfold iblk
  rw [View.read_apply]
  show V m c main_arg1 _ = _
  rw [V_main_arg1]
  refine congrArg _ (funext fun a => Fin.ext ?_)
  match a with
  | ⟨0, _⟩ => show win0_5.index t 0 * 1 + 1 * 0 = t.val / 4; rw [hi.1]; omega
  | ⟨1, _⟩ => show win0_5.index t 1 * 256 + 1 * r.val = r.val; rw [hi.2.1]; omega
  | ⟨2, _⟩ => show win0_5.index t 2 * 256 + 1 * e.val = 512 + (t.val % 4 * 256 + e.val); rw [hi.2.2]; omega

/-- The table of cosines at every point is @main's. -/
theorem blk_6 (c : Dev nD) (t : Fin cfg0.N) (r : Fin 4096) (d : Fin 128) : (iblk m c 6 t : Vec Ideal S4096x128 .f32) (ix2 r d) = V m c main_v26 (ix2 r d) := by
  have hi := ix_6 t
  unfold iblk
  rw [View.read_apply]
  show V m c main_v26 _ = _
  refine congrArg _ (funext fun a => Fin.ext ?_)
  match a with
  | ⟨0, _⟩ => show win0_6.index t 0 * 4096 + 1 * r.val = r.val; rw [hi.1]; omega
  | ⟨1, _⟩ => show win0_6.index t 1 * 128 + 1 * d.val = d.val; rw [hi.2]; omega

/-- The table of signed sines at every point is @main's. -/
theorem blk_7 (c : Dev nD) (t : Fin cfg0.N) (r : Fin 4096) (d : Fin 128) : (iblk m c 7 t : Vec Ideal S4096x128 .f32) (ix2 r d) = V m c main_v33 (ix2 r d) := by
  have hi := ix_7 t
  unfold iblk
  rw [View.read_apply]
  show V m c main_v33 _ = _
  refine congrArg _ (funext fun a => Fin.ext ?_)
  match a with
  | ⟨0, _⟩ => show win0_7.index t 0 * 4096 + 1 * r.val = r.val; rw [hi.1]; omega
  | ⟨1, _⟩ => show win0_7.index t 1 * 128 + 1 * d.val = d.val; rw [hi.2]; omega

/-- The table of decay logits at every point is @main's. -/
theorem blk_8 (c : Dev nD) (t : Fin cfg0.N) (r : Fin 8) (j : Fin 256) : (iblk m c 8 t : Vec Ideal S8x256 .f32) (ix2 r j) = V m c main_v35 (ix2 r j) := by
  have hi := ix_8 t
  unfold iblk
  rw [View.read_apply]
  show V m c main_v35 _ = _
  refine congrArg _ (funext fun a => Fin.ext ?_)
  match a with
  | ⟨0, _⟩ => show win0_8.index t 0 * 8 + 1 * r.val = r.val; rw [hi.1]; omega
  | ⟨1, _⟩ => show win0_8.index t 1 * 256 + 1 * j.val = j.val; rw [hi.2]; omega

/-! ## The tables -/

/-- The frequencies. -/
def frq : FVec Ideal S32 .f32 :=
  Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))

/-- The angles of the rows. -/
def angR : FVec Ideal S4096x32 .f32 :=
  mulf (broadcastInDim S4096x32 ![0, 1] bcast_S4096x1_S4096x32_0_1 (broadcastInDim S4096x1 ![0] bcast_S4096_S4096x1_0 (shapeCast S4096 (broadcastInDim S64x64 ![0] bcast_S64_S64x64_0 (sitofp .f32 (iotaInDim S64 32 0))) shapeCasts_S64x64_S4096)))
    (broadcastInDim S4096x32 ![0, 1] bcast_S1x32_S4096x32_0_1 (broadcastInDim S1x32 ![1] bcast_S32_S1x32_1 frq))

/-- The angles of the columns. -/
def angC : FVec Ideal S4096x32 .f32 :=
  mulf (broadcastInDim S4096x32 ![0, 1] bcast_S4096x1_S4096x32_0_1 (broadcastInDim S4096x1 ![0] bcast_S4096_S4096x1_0 (shapeCast S4096 (broadcastInDim S64x64 ![1] bcast_S64_S64x64_1 (sitofp .f32 (iotaInDim S64 32 0))) shapeCasts_S64x64_S4096)))
    (broadcastInDim S4096x32 ![0, 1] bcast_S1x32_S4096x32_0_1 (broadcastInDim S1x32 ![1] bcast_S32_S1x32_1 frq))

theorem V26 (c : Dev nD) : (V m c main_v26 : FVec Ideal S4096x128 .f32) = concatenate S4096x128 1 [⟨S4096x32, Host.cos angR⟩, ⟨S4096x32, Host.cos angR⟩, ⟨S4096x32, Host.cos angC⟩, ⟨S4096x32, Host.cos angC⟩] concatenates_S4096x32_S4096x32_S4096x32_S4096x32_S4096x128_d1 := by
  unfold_abbrev_sides
  after_results
  all_goals rfl

theorem V33 (c : Dev nD) : (V m c main_v33 : FVec Ideal S4096x128 .f32) = concatenate S4096x128 1 [⟨S4096x32, Host.negf (Host.sin angR)⟩, ⟨S4096x32, Host.sin angR⟩, ⟨S4096x32, Host.negf (Host.sin angC)⟩, ⟨S4096x32, Host.sin angC⟩] concatenates_S4096x32_S4096x32_S4096x32_S4096x32_S4096x128_d1 := by
  unfold_abbrev_sides
  after_results
  all_goals rfl

theorem V35 (c : Dev nD) : (V m c main_v35 : FVec Ideal S8x256 .f32) = broadcastInDim S8x256 ![0, 1] bcast_S8x1_S8x256_0_1 (shapeCast S8x1 (m ((c : Thread nD τ).loc main_arg2)) shapeCasts_S2x4_S8x1) := by
  unfold_abbrev_sides
  after_results
  all_goals rfl

theorem angR_e (t : Fin 4096) (f : Fin 32) : angR (ix2 t f) = ang (t.val / 64) f.val := by
  pointwise [angR, frq]
  rw [sitofp_eq, sitofp_eq, toInt_small (by omega), toInt_small (by omega)]
  simp only [Int.cast_natCast, ang]

theorem angC_e (t : Fin 4096) (f : Fin 32) : angC (ix2 t f) = ang (t.val % 64) f.val := by
  pointwise [angC, frq]
  rw [sitofp_eq, sitofp_eq, toInt_small (by omega), toInt_small (by omega)]
  simp only [Int.cast_natCast, ang]

/-- The cosine of lane `d` at position `t`. -/
def cosT (t : ℕ) (d : Fin 128) : EReal :=
  if d.val < 32 then Ideal.cos (ang (t / 64) d.val)
  else if d.val - 32 < 32 then Ideal.cos (ang (t / 64) (d.val - 32))
  else if d.val - 32 - 32 < 32 then Ideal.cos (ang (t % 64) (d.val - 32 - 32))
  else Ideal.cos (ang (t % 64) (d.val - 32 - 32 - 32))

/-- The signed sine of lane `d` at position `t`. -/
def sinT (t : ℕ) (d : Fin 128) : EReal :=
  if d.val < 32 then -Ideal.sin (ang (t / 64) d.val)
  else if d.val - 32 < 32 then Ideal.sin (ang (t / 64) (d.val - 32))
  else if d.val - 32 - 32 < 32 then -Ideal.sin (ang (t % 64) (d.val - 32 - 32))
  else Ideal.sin (ang (t % 64) (d.val - 32 - 32 - 32))

/-- The cosines. -/
theorem cos_e (c : Dev nD) (t : Fin 4096) (d : Fin 128) : V m c main_v26 (ix2 t d) = cosT t.val d := by
  rw [V26]
  pointwise
  simp only [angR_e, angC_e, dite_eq_ite]
  rfl

/-- The signed sines. -/
theorem sin_e (c : Dev nD) (t : Fin 4096) (d : Fin 128) : V m c main_v33 (ix2 t d) = sinT t.val d := by
  rw [V33]
  pointwise
  simp only [angR_e, angC_e, dite_eq_ite]
  rfl

/-- A product with the table of cosines and a product of the partner lane with the table of signed sines add up to the rotation. -/
theorem rot_eq (x : Fin 128 → EReal) (t : ℕ) (d : Fin 128) :
    x d * cosT t d + (if d.val % 64 < 32 then x ⟨(d.val + 128 - 96) % 128, Nat.mod_lt _ (by omega)⟩ else x ⟨(d.val + 128 - 32) % 128, Nat.mod_lt _ (by omega)⟩) * sinT t d
      = rope x t d := by
  have hx : ∀ {a b : Fin 128}, a.val = b.val → x a = x b := fun h => congrArg x (Fin.ext h)
  have hd := d.isLt
  unfold cosT sinT rope
  by_cases h0 : d.val < 64
  · by_cases h1 : d.val < 32
    · have f : d.val % 64 < 32 := by omega
      simp only [h0, h1, f, if_true, dite_true, mul_neg, ← sub_eq_add_neg]
      rw [hx (a := ⟨(d.val + 128 - 96) % 128, _⟩) (b := ⟨32 + d.val, by omega⟩) (show (d.val + 128 - 96) % 128 = 32 + d.val by omega)]
    · have f : ¬ d.val % 64 < 32 := by omega
      have f1 : d.val - 32 < 32 := by omega
      simp only [h0, h1, f, f1, if_true, if_false, dite_true, dite_false]
      rw [add_comm, hx (b := ⟨32 + (d.val - 32), by omega⟩) (show d.val = 32 + (d.val - 32) by omega),
        hx (b := ⟨d.val - 32, by omega⟩) (show (d.val + 128 - 32) % 128 = d.val - 32 by omega)]
  · have f0 : ¬ d.val < 32 := by omega
    have f1 : ¬ d.val - 32 < 32 := by omega
    by_cases h1 : d.val - 64 < 32
    · have f : d.val % 64 < 32 := by omega
      have f2 : d.val - 32 - 32 < 32 := by omega
      have f3 : d.val - 32 - 32 = d.val - 64 := by omega
      simp only [h0, h1, f, f0, f1, f2, if_true, if_false, dite_true, dite_false, mul_neg, ← sub_eq_add_neg]
      rw [hx (b := ⟨64 + (d.val - 64), by omega⟩) (show d.val = 64 + (d.val - 64) by omega),
        hx (a := ⟨(d.val + 128 - 96) % 128, _⟩) (b := ⟨64 + (32 + (d.val - 64)), by omega⟩) (show (d.val + 128 - 96) % 128 = 64 + (32 + (d.val - 64)) by omega), f3]
    · have f : ¬ d.val % 64 < 32 := by omega
      have f2 : ¬ d.val - 32 - 32 < 32 := by omega
      have f3 : d.val - 32 - 32 - 32 = d.val - 64 - 32 := by omega
      simp only [h0, h1, f, f0, f1, f2, if_false, dite_false]
      rw [add_comm, hx (b := ⟨64 + (32 + (d.val - 64 - 32)), by omega⟩) (show d.val = 64 + (32 + (d.val - 64 - 32)) by omega),
        hx (b := ⟨64 + (d.val - 64 - 32), by omega⟩) (show (d.val + 128 - 32) % 128 = 64 + (d.val - 64 - 32) by omega), f3]

/-- The kernel's word for "this lane is in the first 32 of its half". -/
theorem lane_word : ∀ d : Fin 128,
    IntOp.cmpi CmpIPredicate.slt
      (Scalar.select
        (IntOp.andi
          (IntOp.xori
            (IntOp.cmpi CmpIPredicate.slt (IntOp.remsi ArithUnit.vector (BitVec.ofNat 32 d.val) (Scalar.select (Scalar.cmpi CmpIPredicate.eq 64#32 0#32) 1#32 64#32)) 0#32)
            (Scalar.cmpi CmpIPredicate.slt (Scalar.select (Scalar.cmpi CmpIPredicate.eq 64#32 0#32) 1#32 64#32) 0#32))
          (IntOp.cmpi CmpIPredicate.ne (IntOp.remsi ArithUnit.vector (BitVec.ofNat 32 d.val) (Scalar.select (Scalar.cmpi CmpIPredicate.eq 64#32 0#32) 1#32 64#32)) 0#32))
        (IntOp.addi (IntOp.remsi ArithUnit.vector (BitVec.ofNat 32 d.val) (Scalar.select (Scalar.cmpi CmpIPredicate.eq 64#32 0#32) 1#32 64#32))
          (Scalar.select (Scalar.cmpi CmpIPredicate.eq 64#32 0#32) 1#32 64#32))
        (IntOp.remsi ArithUnit.vector (BitVec.ofNat 32 d.val) (Scalar.select (Scalar.cmpi CmpIPredicate.eq 64#32 0#32) 1#32 64#32)))
      32#32 = BitVec.ofBool (decide (d.val % 64 < 32)) := by decide +kernel

/-- The rotated queries are the rotation of the queries. -/
theorem qrot_e (x0 : Vec Ideal S1x4096x128 .bf16) (x6 x7 : Vec Ideal S4096x128 .f32) (h6 : ∀ t d, x6 (ix2 t d) = cosT t.val d) (h7 : ∀ t d, x7 (ix2 t d) = sinT t.val d)
    (c : Fin 16) (r : Fin 256) (d : Fin 128) : qrot x0 x6 x7 c (ix2 r d) = rope (fun d => x0 (ix3 0 ⟨256 * c.val + r.val, by omega⟩ d)) (256 * c.val + r.val) d := by
  rw [← rot_eq]
  unfold qrot blkA blkC
  pointwise [k0_pay10, k0_pay7, k0_pay8]
  simp only [h6, h7, lane_word, select_ofBool, decide_eq_true_eq]

/-- The rotated and scaled keys are the rotation of the keys, scaled. -/
theorem krot_e (x0 : Vec Ideal S1x4096x128 .bf16) (x6 x7 : Vec Ideal S4096x128 .f32) (h6 : ∀ t d, x6 (ix2 t d) = cosT t.val d) (h7 : ∀ t d, x7 (ix2 t d) = sinT t.val d)
    (c : Fin 16) (r : Fin 256) (d : Fin 128) : krot x0 x6 x7 c (ix2 r d) = rope (fun d => x0 (ix3 0 ⟨256 * c.val + r.val, by omega⟩ d)) (256 * c.val + r.val) d * Ideal.ofBits .f32 0x3DB504F3#32 := by
  rw [← rot_eq]
  unfold krot blkA blkC
  pointwise [k0_pay12, k0_pay11, k0_pay7, k0_pay9, k0_pay8]
  simp only [h6, h7, lane_word, select_ofBool, decide_eq_true_eq]

/-- The decay logits of head `h`, forward and backward. -/
theorem logit_e (c : Dev nD) (r : Fin 8) (j : Fin 256) : V m c main_v35 (ix2 r j) = m ((c : Thread nD τ).loc main_arg2) (ix2 ⟨r.val / 4, by omega⟩ ⟨r.val % 4, by omega⟩) := by
  rw [V35]
  pointwise

end Cert.KernelIdeal.Ret

end
-- ==== Proof.RefElem.lean ====
module

public import proofs.«01_k».proof.Proof.Gen.ReferenceIdeal.Run
public import proofs.«01_k».proof.Proof.Elem
public import Idealize.ShloMosaic.Lib.Pointwise

@[expose] public section

set_option maxRecDepth 16384

noncomputable section

/-! # The reference's intermediate arrays, entry by entry -/

namespace Cert.ReferenceIdeal.Ret

open Cert.ReferenceIdeal Cert.ReferenceIdeal.Gen Cert.ReferenceIdeal.Value Idealize.ShloMosaic Idealize.ShloMosaic.TcCoe Idealize.SL.Sem Idealize.ShloMosaic.StableHlo Cert.Rl

variable (V0 : Valuation τ sig (Elt Ideal))

theorem sitofp_eq (b : BitVec 32) : FloatOps.sitofp (F := Ideal) .f32 b = ((b.toInt : ℝ) : EReal) := rfl

theorem absf_eq (x : EReal) : FloatOps.absf (F := Ideal) (φ := .f32) x = max x (-x) := rfl

/-- The angles of the rows. -/
theorem r15 (t : Fin 4096) (f : Fin 32) : res_main_v15 V0 (ix2 t f) = ang (t.val / 64) f.val := by
  pointwise [res_main_v15, res_main_v9]
  rw [sitofp_eq, sitofp_eq, toInt_small (by omega), toInt_small (by omega)]
  simp only [Int.cast_natCast, ang]

/-- The angles of the columns. -/
theorem r21 (t : Fin 4096) (f : Fin 32) : res_main_v21 V0 (ix2 t f) = ang (t.val % 64) f.val := by
  pointwise [res_main_v21, res_main_v9]
  rw [sitofp_eq, sitofp_eq, toInt_small (by omega), toInt_small (by omega)]
  simp only [Int.cast_natCast, ang]

/-- The logarithm of a decay, for a real logit. -/
theorem r31 (a : Fin 2) (h : Fin 4) (x : ℝ) (hx : V0 (Proc.devRef .tc main_arg2) (ix2 a h) = (x : EReal)) : res_main_v31 V0 (ix2 a h) = ((lam x : ℝ) : EReal) := by
  pointwise [res_main_v31, res_main_call0_v0, res_main_call0_call0_cst, res_main_call0_call0_v3]
  rw [hx, if_neg (by simp), absf_eq]
  exact logsig_r x

/-- The rotated queries. -/
theorem r112 (b : Fin 8) (h : Fin 4) (t : Fin 4096) (d : Fin 128) : res_main_v112 V0 (ix4 b h t d)
    = rope (fun d => V0 (Proc.devRef .tc main_arg0) (ix3 b t ⟨h.val * 128 + d.val, by omega⟩)) t.val d := by
  have e : ∀ d : Fin 128, res_main_v71 V0 (ix4 b h t d) = V0 (Proc.devRef .tc main_arg0) (ix3 b t ⟨h.val * 128 + d.val, by omega⟩) := fun d => by
    pointwise [res_main_v71, res_main_v23]
  pointwise [res_main_v112, fn_main_v112, fn_main_v111, fn_main_v91, res_main_v72, res_main_v73, res_main_v74, res_main_v92, res_main_v93, res_main_v94, res_main_v75, res_main_v76, res_main_v95, res_main_v96]
  simp only [e, r15, r21]
  rfl

/-- The rotated and scaled keys. -/
theorem r157 (b : Fin 8) (h : Fin 4) (t : Fin 4096) (d : Fin 128) : res_main_v157 V0 (ix4 b h t d)
    = rope (fun d => V0 (Proc.devRef .tc main_arg0) (ix3 b t ⟨512 + (h.val * 128 + d.val), by omega⟩)) t.val d * Ideal.ofBits .f32 0x3DB504F3#32 := by
  have e : ∀ d : Fin 128, res_main_v114 V0 (ix4 b h t d) = V0 (Proc.devRef .tc main_arg0) (ix3 b t ⟨512 + (h.val * 128 + d.val), by omega⟩) := fun d => by
    pointwise [res_main_v114, res_main_v23]
  pointwise [res_main_v157, fn_main_v155, fn_main_v134, fn_main_v154, res_main_v115, res_main_v116, res_main_v117, res_main_v135, res_main_v136, res_main_v137, res_main_v118, res_main_v119, res_main_v138, res_main_v139]
  simp only [e, r15, r21]
  rfl

theorem r35 (b : Fin 8) (h : Fin 4) (j : Fin 256) (d : Fin 128) (y : EReal)
    (hy : V0 (Proc.devRef .tc main_arg1) (ix3 b j ⟨h.val * 128 + d.val, by omega⟩) = y) :
    res_main_v35 V0 (ix4 b h j d) = y * Ideal.ofBits .f32 0x3DB504F3#32 := by
  pointwise [res_main_v35, res_main_v28]
  rw [hy]

theorem r37 (b : Fin 8) (h : Fin 4) (j : Fin 256) (e : Fin 256) : res_main_v37 V0 (ix4 b h j e)
    = V0 (Proc.devRef .tc main_arg1) (ix3 b j ⟨512 + (h.val * 256 + e.val), by omega⟩) := by
  pointwise [res_main_v37, res_main_v28]

theorem r159 (b : Fin 8) (h : Fin 4) (t : Fin 4096) (e : Fin 256) : res_main_v159 V0 (ix4 b h t e)
    = V0 (Proc.devRef .tc main_arg0) (ix3 b t ⟨1024 + (h.val * 256 + e.val), by omega⟩) := by
  pointwise [res_main_v159, res_main_v23]

theorem r27 (b : Fin 8) (t : Fin 4096) (j : Fin 1024) : res_main_v27 V0 (ix3 b t j)
    = V0 (Proc.devRef .tc main_arg0) (ix3 b t ⟨2048 + j.val, by omega⟩) := by
  pointwise [res_main_v27, res_main_v23]

set_option backward.isDefEq.respectTransparency false in
theorem r197 (b : Fin 8) (h : Fin 4) (t : Fin 4096) (d : Fin 128) : res_main_v197 V0 (ix4 b h t d) = res_main_v112 V0 (ix4 b h t.rev d) := by
  pointwise [res_main_v197]
  simp (config := {decide := true}) only [if_true, if_false]

/-- A position as a number of the ideal instance. -/
theorem pos_eq {n : ℕ} (h : n < 65536) : FloatOps.sitofp (F := Ideal) .f32 (BitVec.ofNat 32 n) = ((n : ℝ) : EReal) := by
  rw [sitofp_eq, toInt_small h, Int.cast_natCast]

theorem zero_eq : (id (constant (F := Ideal) S_ .f32 0#32)) ix0 = ((0 : ℝ) : EReal) := by
  show Ideal.ofBits .f32 0#32 = _
  simp [Ideal.ofBits, Ideal.ieee]

variable (Q K : ℕ → Fin 128 → ℝ) (W : ℕ → Fin 256 → ℝ) (KC : Fin 256 → Fin 128 → ℝ) (WC : Fin 256 → Fin 256 → ℝ)

theorem mask_le (L t j : ℝ) : (if (0 : EReal) ≤ (t : EReal) - (j : EReal) then Ideal.exp ((L : EReal) * max ((t : EReal) - (j : EReal)) 0) else ((0 : ℝ) : EReal))
    = ((if j ≤ t then Real.exp (L * (t - j)) else 0 : ℝ) : EReal) := by
  rw [← EReal.coe_sub]
  by_cases h : j ≤ t
  · have h0 : (0 : ℝ) ≤ t - j := sub_nonneg.mpr h
    rw [if_pos (EReal.coe_nonneg.mpr h0), if_pos h, max_eq_left (EReal.coe_nonneg.mpr h0), ← EReal.coe_mul]
    rfl
  · rw [if_neg (by rw [EReal.coe_nonneg, sub_nonneg]; exact h), if_neg h]

theorem mask_lt (L t j : ℝ) : (if (0 : EReal) < (t : EReal) - (j : EReal) then Ideal.exp ((L : EReal) * max ((t : EReal) - (j : EReal)) 0) else ((0 : ℝ) : EReal))
    = ((if j < t then Real.exp (L * (t - j)) else 0 : ℝ) : EReal) := by
  rw [← EReal.coe_sub]
  by_cases h : j < t
  · have h0 : (0 : ℝ) < t - j := sub_pos.mpr h
    rw [if_pos (EReal.coe_pos.mpr h0), if_pos h, max_eq_left (EReal.coe_nonneg.mpr h0.le), ← EReal.coe_mul]
    rfl
  · rw [if_neg (by rw [EReal.coe_pos, sub_pos]; exact h), if_neg h]

/-- The scores of one query row against every key, as a real. -/
theorem score (t j : ℕ) : ∑ d : Fin 128, ((Q t d : ℝ) : EReal) * ((K j d : ℝ) : EReal) = ((KernelIdeal.Ret.sco Q K t j : ℝ) : EReal) := by
  simp only [← EReal.coe_mul]
  exact coe_sum _ _

/-- The forward sum over the positions. -/
theorem fwd (L : ℝ) (t : ℕ) (e : Fin 256) :
    ∑ x : Fin 4096, (∑ d : Fin 128, ((Q t d : ℝ) : EReal) * ((K x.val d : ℝ) : EReal))
        * (if (0 : EReal) ≤ ((t : ℝ) : EReal) - ((x.val : ℝ) : EReal) then Ideal.exp ((L : EReal) * max (((t : ℝ) : EReal) - ((x.val : ℝ) : EReal)) 0) else ((0 : ℝ) : EReal))
        * ((W x.val e : ℝ) : EReal)
      = ((∑ j ∈ Finset.range 4096, KernelIdeal.Ret.sco Q K t j * (if j ≤ t then Real.exp (L * ((t : ℝ) - (j : ℝ))) else 0) * W j e : ℝ) : EReal) := by
  rw [Finset.sum_range, ← coe_sum]
  refine Finset.sum_congr rfl fun x _ => ?_
  rw [score, mask_le, ← EReal.coe_mul, ← EReal.coe_mul]
  simp only [Nat.cast_le]

theorem rev_cast (t : Fin 4096) : ((t.rev.val : ℕ) : ℝ) = 4095 - (t.val : ℝ) := by
  have h : t.rev.val + t.val = 4095 := by rw [Fin.val_rev]; omega
  have h2 : ((t.rev.val : ℕ) : ℝ) + ((t.val : ℕ) : ℝ) = 4095 := by exact_mod_cast h
  linarith

theorem rev_cast' (t : Fin 256) : ((t.rev.val : ℕ) : ℝ) = 255 - (t.val : ℝ) := by
  have h : t.rev.val + t.val = 255 := by rw [Fin.val_rev]; omega
  have h2 : ((t.rev.val : ℕ) : ℝ) + ((t.val : ℕ) : ℝ) = 255 := by exact_mod_cast h
  linarith

/-- The backward sum over the reversed positions. -/
theorem bwd (M : ℝ) (t : Fin 4096) (e : Fin 256) :
    ∑ x : Fin 4096, (∑ d : Fin 128, ((Q t.val d : ℝ) : EReal) * ((K x.rev.val d : ℝ) : EReal))
        * (if (0 : EReal) < ((t.rev.val : ℝ) : EReal) - ((x.val : ℝ) : EReal) then Ideal.exp ((M : EReal) * max (((t.rev.val : ℝ) : EReal) - ((x.val : ℝ) : EReal)) 0) else ((0 : ℝ) : EReal))
        * ((W x.rev.val e : ℝ) : EReal)
      = ((∑ j ∈ Finset.range 4096, KernelIdeal.Ret.sco Q K t.val j * (if t.val < j then Real.exp (M * ((j : ℝ) - (t.val : ℝ))) else 0) * W j e : ℝ) : EReal) := by
  rw [Finset.sum_range, ← coe_sum, ← Equiv.sum_comp Fin.revPerm]
  refine Finset.sum_congr rfl fun x _ => ?_
  rw [Fin.revPerm_apply, Fin.rev_rev, score, mask_lt, ← EReal.coe_mul, ← EReal.coe_mul, rev_cast, rev_cast]
  have h1 : (4095 - (x.val : ℝ) < 4095 - (t.val : ℝ)) ↔ t.val < x.val := by
    rw [sub_lt_sub_iff_left, Nat.cast_lt]
  have h2 : (4095 - (t.val : ℝ)) - (4095 - (x.val : ℝ)) = (x.val : ℝ) - (t.val : ℝ) := by ring
  rw [h2]
  simp only [h1]

/-- The forward share of the context. -/
theorem fctx (L : ℝ) (t : ℕ) (e : Fin 256) :
    (∑ d : Fin 128, ((Q t d : ℝ) : EReal) * ∑ r : Fin 256, ((KC r d : ℝ) : EReal) * Ideal.exp ((L : EReal) * (((255 : ℝ) : EReal) - ((r.val : ℝ) : EReal))) * ((WC r e : ℝ) : EReal))
        * Ideal.exp ((L : EReal) * (((t : ℝ) : EReal) + 1))
      = (((∑ d : Fin 128, Q t d * KernelIdeal.Ret.ctxF KC WC L d e) * Real.exp (L * ((t : ℝ) + 1)) : ℝ) : EReal) := by
  simp only [← EReal.coe_one, ← EReal.coe_sub, ← EReal.coe_add, ← EReal.coe_mul, Ideal.exp_coe, coe_sum]
  rfl

/-- The backward share of the context. -/
theorem bctx (M : ℝ) (t : Fin 4096) (e : Fin 256) :
    (∑ d : Fin 128, ((Q t.val d : ℝ) : EReal) * ∑ r : Fin 256, ((KC r.rev d : ℝ) : EReal) * Ideal.exp ((M : EReal) * (((255 : ℝ) : EReal) - ((r.val : ℝ) : EReal))) * ((WC r.rev e : ℝ) : EReal))
        * Ideal.exp ((M : EReal) * (((t.rev.val : ℝ) : EReal) + 1))
      = (((∑ d : Fin 128, Q t.val d * KernelIdeal.Ret.ctxB KC WC M d e) * Real.exp (M * (4096 - (t.val : ℝ))) : ℝ) : EReal) := by
  simp only [← EReal.coe_one, ← EReal.coe_sub, ← EReal.coe_add, ← EReal.coe_mul, Ideal.exp_coe, coe_sum]
  have h1 : ((t.rev.val : ℕ) : ℝ) + 1 = 4096 - (t.val : ℝ) := by rw [rev_cast]; ring
  have h2 : ∀ d : Fin 128, ∑ r : Fin 256, KC r.rev d * Real.exp (M * (255 - (r.val : ℝ))) * WC r.rev e = KernelIdeal.Ret.ctxB KC WC M d e := fun d => by
    unfold KernelIdeal.Ret.ctxB
    rw [← Equiv.sum_comp Fin.revPerm]
    refine Finset.sum_congr rfl fun r _ => ?_
    rw [Fin.revPerm_apply, Fin.rev_rev, rev_cast', sub_sub_cancel]
  rw [h1]
  simp only [h2]

set_option backward.isDefEq.respectTransparency false in
/-- The retention output over all positions, both directions: at real queries, keys and values it is the real sum. -/
theorem r238 (b : Fin 8) (h : Fin 4) (L M : ℝ)
    (hQ : ∀ t d, res_main_v112 V0 (ix4 b h t d) = ((Q t.val d : ℝ) : EReal)) (hK : ∀ t d, res_main_v157 V0 (ix4 b h t d) = ((K t.val d : ℝ) : EReal))
    (hW : ∀ t e, res_main_v159 V0 (ix4 b h t e) = ((W t.val e : ℝ) : EReal)) (hKC : ∀ r d, res_main_v35 V0 (ix4 b h r d) = ((KC r d : ℝ) : EReal))
    (hWC : ∀ r e, res_main_v37 V0 (ix4 b h r e) = ((WC r e : ℝ) : EReal)) (hL : res_main_v31 V0 (ix2 0 h) = (L : EReal)) (hM : res_main_v31 V0 (ix2 1 h) = (M : EReal))
    (t : Fin 4096) (e : Fin 256) : res_main_v238 V0 (ix4 b h t e) = ((KernelIdeal.Ret.outR Q K W KC WC L M t.val e : ℝ) : EReal) := by
  pointwise [res_main_v238, res_main_v162, res_main_v202, res_main_v167, res_main_v207, res_main_v170, res_main_v210]
  simp (config := {decide := true}) only [if_true, if_false, r197, Fin.rev_rev]
  have p1 : ∀ x : Fin 4096, FloatOps.sitofp (F := Ideal) .f32 (BitVec.ofNat 32 x.val) = ((x.val : ℝ) : EReal) := fun x => pos_eq (by omega)
  have p2 : ∀ x : Fin 256, FloatOps.sitofp (F := Ideal) .f32 (BitVec.ofNat 32 x.val) = ((x.val : ℝ) : EReal) := fun x => pos_eq (by omega)
  simp only [hQ, hK, hW, hKC, hWC, hL, hM, p1, p2, zero_eq, lit_255]
  rw [fwd, bwd, fctx, bctx, ← EReal.coe_add, ← EReal.coe_add, ← EReal.coe_add]
  rfl

/-- The reference's result. -/
def refOut : FVec Ideal S8x4096x1024 .bf16 :=
  truncf .bf16 (mulf (mulf (res_main_v27 V0) (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (res_main_v27 V0)))))) (shapeCast _ (transpose S8x4096x4x256 [0, 2, 1, 3] (mulf (res_main_v238 V0) (broadcastInDim S8x4x4096x256 ![0, 1, 2, 3] bcast_S8x4x4096x1_S8x4x4096x256_0_1_2_3 (Host.rsqrt (addf (Host.divf (broadcastInDim S8x4x4096x1 ![0, 1, 2] bcast_S8x4x4096_S8x4x4096x1_0_1_2 (Host.reduceAdd (mulf (res_main_v238 V0) (res_main_v238 V0)) (constant S_ .f32 0x00000000#32) reducesTo_S8x4x4096x256_S8x4x4096_d3 h_S_)) (broadcastInDim S8x4x4096x1 ![] bcast_S_S8x4x4096x1 (constant S_ .f32 0x43800000#32))) (broadcastInDim S8x4x4096x1 ![] bcast_S_S8x4x4096x1 (constant S_ .f32 0x358637BD#32)))))) transposes_S8x4x4096x256_S8x4096x4x256_0_2_1_3) shapeCasts_S8x4096x4x256_S8x4096x1024)) bitsLt_bf16_f32

/-- The reference's result at an entry: the gate times the head's row, normalised. -/
theorem r253 (b : Fin 8) (t : Fin 4096) (j : Fin 1024) (g : EReal) (hg : V0 (Proc.devRef .tc main_arg0) (ix3 b t ⟨2048 + j.val, by omega⟩) = g)
    (o : Fin 256 → EReal) (ho : ∀ e, res_main_v238 V0 (ix4 b ⟨j.val / 256, by omega⟩ t e) = o e) :
    refOut V0 (ix3 b t j) = g * Ideal.div 1 (1 + Ideal.exp (-g)) * (o ⟨j.val % 256, by omega⟩
      * Ideal.rsqrt (Ideal.div (∑ e, o e * o e) (Ideal.ofBits .f32 0x43800000#32) + Ideal.ofBits .f32 0x358637BD#32)) := by
  pointwise [refOut]
  simp only [r27, ho, hg]

end Cert.ReferenceIdeal.Ret

end
-- ==== Proof.Pre.lean ====
module

public import proofs.«01_k».proof.Defs
public import proofs.«01_k».proof.Proof.Reals
public import Idealize.ShloMosaic.Lib.ReduceAll
public import Idealize.ShloMosaic.Lib.Pointwise

@[expose] public section

set_option maxRecDepth 16384

noncomputable section

/-! # The precondition: every entry of the arguments is a real number -/

namespace Cert.Pre_finite

open Idealize.ShloMosaic

/-- The facts that the precondition's operations take. -/
instance preFacts : Cert.Pre_finite.Facts where
  bitsLt_bf16_f32 := by decide
  bcast_S_S8x4096x6656 := by decide
  reducesTo_S8x4096x6656_S_d0_1_2 := by decide
  h_S_ := by decide
  bcast_S_S8x256x1536 := by decide
  reducesTo_S8x256x1536_S_d0_1_2 := by decide
  bcast_S_S2x4 := by decide
  reducesTo_S2x4_S_d0_1 := by decide

/-- An extended real whose absolute value is below infinity is real. -/
theorem real_of_lt (x : EReal) (h : Ideal.cmp .olt (max x (-x)) (Ideal.ofBits .f32 0x7F800000#32) = 1#1) : ∃ r : ℝ, x = (r : EReal) := by
  have ht : Ideal.ofBits .f32 0x7F800000#32 = (⊤ : EReal) := by simp [Ideal.ofBits, Ideal.ieee]
  rw [ht] at h
  have hlt : max x (-x) < ⊤ := by
    by_contra hn
    simp [Ideal.cmp, hn] at h
  induction x using EReal.rec with
  | bot => simp at hlt
  | coe r => exact ⟨r, rfl⟩
  | top => simp at hlt

/-- Under the precondition every entry of the three arguments is real. -/
theorem real_of_pre (a0 : FVec Ideal S8x4096x6656 .bf16) (a1 : FVec Ideal S8x256x1536 .bf16) (a2 : FVec Ideal S2x4 .f32)
    (h : fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have hs : Subsingleton S_.Idx := ⟨fun a b => funext fun k => k.elim0⟩
  have h0 := congrFun h ix0
  unfold fn at h0
  obtain ⟨h01, h2⟩ := IntOp.andi_eq_one.1 h0
  obtain ⟨h0, h1⟩ := IntOp.andi_eq_one.1 h01
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i)⟩

end Cert.Pre_finite

end
-- ==== Proof.Same.lean ====
module

public import proofs.«01_k».proof.Proof.Blocks
public import proofs.«01_k».proof.Proof.RefElem
public import proofs.«01_k».proof.Proof.Pre

@[expose] public section

set_option maxRecDepth 16384

noncomputable section

/-! # The kernel's result is the reference's -/

namespace Cert.Same

open Idealize.ShloMosaic Idealize.ShloMosaic.TcCoe Idealize.SL.Sem Idealize.ShloMosaic.StableHlo Cert.Rl

/-- A real array over the positions, as a function of the natural numbers. -/
def lift {ι : Type} (f : Fin 4096 → ι → EReal) (t : ℕ) (d : ι) : ℝ := if h : t < 4096 then (f ⟨t, h⟩ d).toReal else 0

theorem lift_coe {ι : Type} (f : Fin 4096 → ι → EReal) (hf : ∀ t d, ∃ r : ℝ, f t d = (r : EReal)) (t : Fin 4096) (d : ι) : f t d = ((lift f t.val d : ℝ) : EReal) := by
  obtain ⟨r, hr⟩ := hf t d
  unfold lift
  rw [dif_pos t.isLt, hr, EReal.toReal_coe]

variable (x0 : KernelIdeal.S8x4096x6656.Idx → ℝ) (x1 : KernelIdeal.S8x256x1536.Idx → ℝ) (x2 : KernelIdeal.S2x4.Idx → ℝ)
variable (m : (ℓ : Loc KernelIdeal.nD KernelIdeal.τ KernelIdeal.sig) → Buf (Elt Ideal) ℓ) (c : Dev KernelIdeal.nD)
  (hm0 : ∀ i : KernelIdeal.S8x4096x6656.Idx, m ((c : Thread KernelIdeal.nD KernelIdeal.τ).loc KernelIdeal.main_arg0) i = ((x0 i : ℝ) : EReal))
  (hm1 : ∀ i : KernelIdeal.S8x256x1536.Idx, m ((c : Thread KernelIdeal.nD KernelIdeal.τ).loc KernelIdeal.main_arg1) i = ((x1 i : ℝ) : EReal))
  (hm2 : ∀ i : KernelIdeal.S2x4.Idx, m ((c : Thread KernelIdeal.nD KernelIdeal.τ).loc KernelIdeal.main_arg2) i = ((x2 i : ℝ) : EReal))
variable (V0 : Valuation ReferenceIdeal.τ ReferenceIdeal.sig (Elt Ideal))
  (hv0 : ∀ i : ReferenceIdeal.S8x4096x6656.Idx, V0 (Proc.devRef .tc ReferenceIdeal.main_arg0) i = ((x0 i : ℝ) : EReal))
  (hv1 : ∀ i : ReferenceIdeal.S8x256x1536.Idx, V0 (Proc.devRef .tc ReferenceIdeal.main_arg1) i = ((x1 i : ℝ) : EReal))
  (hv2 : ∀ i : ReferenceIdeal.S2x4.Idx, V0 (Proc.devRef .tc ReferenceIdeal.main_arg2) i = ((x2 i : ℝ) : EReal))

/-- The rotated queries of batch row `b` and head `h`. -/
def qf (b : Fin 8) (h : Fin 4) (t : Fin 4096) (d : Fin 128) : EReal :=
  rope (fun d => ((x0 (ix3 b t ⟨h.val * 128 + d.val, by omega⟩) : ℝ) : EReal)) t.val d

/-- The rotated and scaled keys. -/
def kf (b : Fin 8) (h : Fin 4) (t : Fin 4096) (d : Fin 128) : EReal :=
  rope (fun d => ((x0 (ix3 b t ⟨512 + (h.val * 128 + d.val), by omega⟩) : ℝ) : EReal)) t.val d * Ideal.ofBits .f32 0x3DB504F3#32

/-- The values. -/
def vf (b : Fin 8) (h : Fin 4) (t : Fin 4096) (e : Fin 256) : EReal :=
  ((x0 (ix3 b t ⟨1024 + (h.val * 256 + e.val), by omega⟩) : ℝ) : EReal)

/-- The context's scaled keys. -/
def kcf (b : Fin 8) (h : Fin 4) (r : Fin 256) (d : Fin 128) : ℝ :=
  (((x1 (ix3 b r ⟨h.val * 128 + d.val, by omega⟩) : ℝ) : EReal) * Ideal.ofBits .f32 0x3DB504F3#32).toReal

/-- The context's values. -/
def wcf (b : Fin 8) (h : Fin 4) (r : Fin 256) (e : Fin 256) : ℝ := x1 (ix3 b r ⟨512 + (h.val * 256 + e.val), by omega⟩)

/-- The decay logits, the backward ones after the forward ones. -/
def lgf (r : Fin 8) : ℝ := x2 (ix2 ⟨r.val / 4, by omega⟩ ⟨r.val % 4, by omega⟩)

theorem qf_real (b : Fin 8) (h : Fin 4) (t : Fin 4096) (d : Fin 128) : ∃ r : ℝ, qf x0 b h t d = (r : EReal) :=
  rope_real _ (fun d => ⟨_, rfl⟩) _ _

theorem kf_real (b : Fin 8) (h : Fin 4) (t : Fin 4096) (d : Fin 128) : ∃ r : ℝ, kf x0 b h t d = (r : EReal) := by
  obtain ⟨s, hs⟩ := lit_real 0x3DB504F3#32 (by decide)
  obtain ⟨r, hr⟩ := rope_real (fun d => ((x0 (ix3 b t ⟨512 + (h.val * 128 + d.val), by omega⟩) : ℝ) : EReal)) (fun d => ⟨_, rfl⟩) t.val d
  unfold kf
  rw [hr, hs, ← EReal.coe_mul]
  exact ⟨_, rfl⟩

theorem kcf_eq (b : Fin 8) (h : Fin 4) (r : Fin 256) (d : Fin 128) :
    ((x1 (ix3 b r ⟨h.val * 128 + d.val, by omega⟩) : ℝ) : EReal) * Ideal.ofBits .f32 0x3DB504F3#32 = ((kcf x1 b h r d : ℝ) : EReal) := by
  obtain ⟨s, hs⟩ := lit_real 0x3DB504F3#32 (by decide)
  unfold kcf
  rw [hs, ← EReal.coe_mul, EReal.toReal_coe]

theorem kc_mul (x4 : Vec Ideal KernelIdeal.S1x256x128 .bf16) (b : Fin 8) (h : Fin 4)
    (hx : ∀ (r : Fin 256) (d : Fin 128), x4 (ix3 0 r d) = ((x1 (ix3 b r ⟨h.val * 128 + d.val, by omega⟩) : ℝ) : EReal)) (r : Fin 256) (d : Fin 128) :
    x4 (ix3 0 r d) * Ideal.ofBits .f32 0x3DB504F3#32 = ((kcf x1 b h r d : ℝ) : EReal) := by
  rw [hx]
  exact kcf_eq x1 b h r d

/-- The output of head `h` at position `t`, before its normalisation. -/
def oR (b : Fin 8) (h : Fin 4) (t : ℕ) (e : Fin 256) : ℝ :=
  KernelIdeal.Ret.outR (lift (qf x0 b h)) (lift (kf x0 b h)) (lift (vf x0 b h)) (kcf x1 b h) (wcf x1 b h) (lam (x2 (ix2 0 h))) (lam (x2 (ix2 1 h))) t e

/-- The result at an entry. -/
def res (b : Fin 8) (h : Fin 4) (t : Fin 4096) (e : Fin 256) : EReal :=
  ((x0 (ix3 b t ⟨2048 + (h.val * 256 + e.val), by omega⟩) : ℝ) : EReal) * Ideal.div 1 (1 + Ideal.exp (-((x0 (ix3 b t ⟨2048 + (h.val * 256 + e.val), by omega⟩) : ℝ) : EReal)))
    * (((oR x0 x1 x2 b h t.val e : ℝ) : EReal)
      * Ideal.rsqrt (Ideal.div (∑ e' : Fin 256, ((oR x0 x1 x2 b h t.val e' : ℝ) : EReal) * ((oR x0 x1 x2 b h t.val e' : ℝ) : EReal)) (Ideal.ofBits .f32 0x43800000#32) + Ideal.ofBits .f32 0x358637BD#32))

include hv0 hv1 hv2 in
/-- The reference's result at an entry. -/
theorem ref_e (b : Fin 8) (h : Fin 4) (t : Fin 4096) (e : Fin 256) :
    ReferenceIdeal.Ret.refOut V0 (ix3 b t ⟨h.val * 256 + e.val, by omega⟩) = res x0 x1 x2 b h t e := by
  have ho : ∀ e', ReferenceIdeal.Value.res_main_v238 V0 (ix4 b h t e') = ((oR x0 x1 x2 b h t.val e' : ℝ) : EReal) := fun e' => by
    unfold oR
    refine ReferenceIdeal.Ret.r238 V0 _ _ _ _ _ b h _ _ (fun t d => ?_) (fun t d => ?_) (fun t d => ?_) (fun r d => ?_) (fun r d => ?_) ?_ ?_ t e'
    · rw [ReferenceIdeal.Ret.r112]
      simp only [hv0]
      exact lift_coe _ (qf_real x0 b h) t d
    · rw [ReferenceIdeal.Ret.r157]
      simp only [hv0]
      exact lift_coe _ (kf_real x0 b h) t d
    · rw [ReferenceIdeal.Ret.r159, hv0]
      exact lift_coe (vf x0 b h) (fun t d => ⟨_, rfl⟩) t d
    · rw [ReferenceIdeal.Ret.r35 V0 b h r d _ (hv1 _)]
      exact kcf_eq x1 b h r d
    · rw [ReferenceIdeal.Ret.r37, hv1]
      rfl
    · exact ReferenceIdeal.Ret.r31 V0 0 h _ (hv2 _)
    · exact ReferenceIdeal.Ret.r31 V0 1 h _ (hv2 _)
  have h1 : (h.val * 256 + e.val) / 256 = h.val := by omega
  have h2 : (h.val * 256 + e.val) % 256 = e.val := by omega
  rw [ReferenceIdeal.Ret.r253 V0 b t ⟨h.val * 256 + e.val, by omega⟩ _ (hv0 _) (fun e' => ((oR x0 x1 x2 b h t.val e' : ℝ) : EReal))
    (fun e' => by rw [← ho]; congr 1; simp only [h1])]
  simp only [h2]
  rfl

include hm0 hm1 hm2 in
/-- The kernel's block of a grid point at an entry. -/
theorem ker_e (p : Fin KernelIdeal.cfg0.N) (t : Fin 4096) (e : Fin 256) :
    KernelIdeal.Ret.outsAt0 m c p (ix3 0 t e) = res x0 x1 x2 (KernelIdeal.Ret.pb p) (KernelIdeal.Ret.ph p) t e := by
  unfold KernelIdeal.Ret.outsAt0
  rw [KernelIdeal.Ret.hd_eq]
  have h6 : ∀ (t : Fin 4096) (d : Fin 128), (KernelIdeal.Gen.iblk m c 6 p : Vec Ideal KernelIdeal.S4096x128 .f32) (ix2 t d) = KernelIdeal.Ret.cosT t.val d := fun t d => by
    rw [KernelIdeal.Ret.blk_6, KernelIdeal.Ret.cos_e]
  have h7 : ∀ (t : Fin 4096) (d : Fin 128), (KernelIdeal.Gen.iblk m c 7 p : Vec Ideal KernelIdeal.S4096x128 .f32) (ix2 t d) = KernelIdeal.Ret.sinT t.val d := fun t d => by
    rw [KernelIdeal.Ret.blk_7, KernelIdeal.Ret.sin_e]
  have h8 : ∀ (r : Fin 8) (j : Fin 256), (KernelIdeal.Gen.iblk m c 8 p : Vec Ideal KernelIdeal.S8x256 .f32) (ix2 r j) = ((lgf x2 r : ℝ) : EReal) := fun r j => by
    rw [KernelIdeal.Ret.blk_8, KernelIdeal.Ret.logit_e, hm2]
    rfl
  have hQ : ∀ (cc : Fin 16) (r : Fin 256) (d : Fin 128), KernelIdeal.Ret.qrot (F := Ideal) (KernelIdeal.Gen.iblk m c 0 p) (KernelIdeal.Gen.iblk m c 6 p) (KernelIdeal.Gen.iblk m c 7 p) cc (ix2 r d)
      = ((lift (qf x0 (KernelIdeal.Ret.pb p) (KernelIdeal.Ret.ph p)) (256 * cc.val + r.val) d : ℝ) : EReal) := fun cc r d => by
    rw [KernelIdeal.Ret.qrot_e _ _ _ h6 h7]
    simp only [KernelIdeal.Ret.blk_0, hm0]
    exact lift_coe _ (qf_real x0 _ _) ⟨256 * cc.val + r.val, by omega⟩ d
  have hK : ∀ (cc : Fin 16) (r : Fin 256) (d : Fin 128), KernelIdeal.Ret.krot (F := Ideal) (KernelIdeal.Gen.iblk m c 1 p) (KernelIdeal.Gen.iblk m c 6 p) (KernelIdeal.Gen.iblk m c 7 p) cc (ix2 r d)
      = ((lift (kf x0 (KernelIdeal.Ret.pb p) (KernelIdeal.Ret.ph p)) (256 * cc.val + r.val) d : ℝ) : EReal) := fun cc r d => by
    rw [KernelIdeal.Ret.krot_e _ _ _ h6 h7]
    simp only [KernelIdeal.Ret.blk_1, hm0]
    exact lift_coe _ (kf_real x0 _ _) ⟨256 * cc.val + r.val, by omega⟩ d
  have hW : ∀ (cc : Fin 16) (r : Fin 256) (e : Fin 256), KernelIdeal.Ret.blkB (F := Ideal) (KernelIdeal.Gen.iblk m c 2 p : Vec Ideal KernelIdeal.S1x4096x256 .bf16) cc (ix3 0 r e)
      = ((lift (vf x0 (KernelIdeal.Ret.pb p) (KernelIdeal.Ret.ph p)) (256 * cc.val + r.val) e : ℝ) : EReal) := fun cc r e => by
    show (KernelIdeal.Gen.iblk m c 2 p : Vec Ideal KernelIdeal.S1x4096x256 .bf16) (ix3 0 ⟨256 * cc.val + r.val, by omega⟩ e) = _
    rw [KernelIdeal.Ret.blk_2, hm0]
    exact lift_coe (vf x0 _ _) (fun t d => ⟨_, rfl⟩) ⟨256 * cc.val + r.val, by omega⟩ e
  have hKC := kc_mul x1 (KernelIdeal.Gen.iblk m c 4 p) (KernelIdeal.Ret.pb p) (KernelIdeal.Ret.ph p) fun r d => (KernelIdeal.Ret.blk_4 m c p r d).trans (hm1 _)
  have hWC : ∀ (r : Fin 256) (e : Fin 256), (KernelIdeal.Gen.iblk m c 5 p : Vec Ideal KernelIdeal.S1x256x256 .bf16) (ix3 0 r e)
      = ((wcf x1 (KernelIdeal.Ret.pb p) (KernelIdeal.Ret.ph p) r e : ℝ) : EReal) := fun r e => by
    rw [KernelIdeal.Ret.blk_5, hm1]
    rfl
  have hg := (KernelIdeal.Ret.blk_3 m c p t e).trans (hm0 _)
  have e0 : lgf x2 (KernelIdeal.Ret.rf (KernelIdeal.Ret.ph p)) = x2 (ix2 0 (KernelIdeal.Ret.ph p)) := by
    have hp := (KernelIdeal.Ret.ph p).isLt
    unfold lgf KernelIdeal.Ret.rf
    congr 2 <;> (apply Fin.ext; first | (show (KernelIdeal.Ret.ph p).val / 4 = 0; omega) | (show (KernelIdeal.Ret.ph p).val % 4 = (KernelIdeal.Ret.ph p).val; omega))
  have e1 : lgf x2 (KernelIdeal.Ret.rb (KernelIdeal.Ret.ph p)) = x2 (ix2 1 (KernelIdeal.Ret.ph p)) := by
    have hp := (KernelIdeal.Ret.ph p).isLt
    unfold lgf KernelIdeal.Ret.rb
    congr 2 <;> (apply Fin.ext; first | (show (4 + (KernelIdeal.Ret.ph p).val) / 4 = 1; omega) | (show (4 + (KernelIdeal.Ret.ph p).val) % 4 = (KernelIdeal.Ret.ph p).val; omega))
  rw [KernelIdeal.Ret.outv_e (lgf x2) _ h8 _ _ _ _ _ _ _ _ _ _ _ _ _ _ hQ hK hW hKC hWC t e, e0, e1, zero_sub]
  unfold res oR
  rw [hg]

/-- The grid point of batch row `b` and head `h`. -/
def pt (b : Fin 8) (h : Fin 4) : Fin KernelIdeal.cfg0.N := ⟨4 * b.val + h.val, by show _ < 32; omega⟩

theorem pb_pt (b : Fin 8) (h : Fin 4) : KernelIdeal.Ret.pb (pt b h) = b := Fin.ext (by show (4 * b.val + h.val) / 4 = b.val; omega)

theorem ph_pt (b : Fin 8) (h : Fin 4) : KernelIdeal.Ret.ph (pt b h) = h := Fin.ext (by show (4 * b.val + h.val) % 4 = h.val; omega)

theorem flush_all : ∀ t : Fin KernelIdeal.cfg0.N, (KernelIdeal.cfg0.win 9).flush t = true :=
  (by decide +kernel : ∀ t : Fin KernelIdeal.grid0.N, KernelIdeal.win0_9.flush t = true)

/-- The kernel's final array at an entry of a point's block is what that point computed. -/
theorem arr_e (b : Fin 8) (h : Fin 4) (t : Fin 4096) (e : Fin 256) :
    (KernelIdeal.Ret.dats m 0 c).arrAt 9 KernelIdeal.cfg0.N (ix3 b t ⟨h.val * 256 + e.val, by omega⟩ : KernelIdeal.S8x4096x1024.Idx) = KernelIdeal.Ret.outsAt0 m c (pt b h) (ix3 0 t e) := by
  have hi := KernelIdeal.Ret.ix_9 (pt b h)
  have hb := congrFun (KernelIdeal.Ret.blocks9 m c (pt b h) (flush_all _)) (ix3 0 t e : KernelIdeal.S1x4096x256.Idx)
  rw [KernelIdeal.Ret.flushed9, View.read_apply] at hb
  refine Eq.trans ?_ hb
  refine congrArg ((KernelIdeal.Ret.dats m 0 c).arrAt 9 KernelIdeal.cfg0.N) (funext fun a => Fin.ext ?_)
  have hp0 : (pt b h).val / 4 = b.val := by show (4 * b.val + h.val) / 4 = b.val; omega
  have hp1 : (pt b h).val % 4 = h.val := by show (4 * b.val + h.val) % 4 = h.val; omega
  match a with
  | ⟨0, _⟩ => show b.val = KernelIdeal.win0_9.index (pt b h) 0 * 1 + 1 * 0; rw [hi.1, hp0]; omega
  | ⟨1, _⟩ => show t.val = KernelIdeal.win0_9.index (pt b h) 1 * 4096 + 1 * t.val; rw [hi.2.1]; omega
  | ⟨2, _⟩ => show h.val * 256 + e.val = KernelIdeal.win0_9.index (pt b h) 2 * 256 + 1 * e.val; rw [hi.2.2, hp1]; omega

include hm0 hm1 hm2 hv0 hv1 hv2 in
/-- THE VALUE: the kernel's final array is the reference's result. -/
theorem same : ((KernelIdeal.Ret.dats m 0 c).arrAt 9 KernelIdeal.cfg0.N : FVec Ideal KernelIdeal.S8x4096x1024 .bf16) = ReferenceIdeal.Ret.refOut V0 := by
  funext j
  obtain ⟨b, t, k, rfl⟩ : ∃ (b : Fin 8) (t : Fin 4096) (k : Fin 1024), j = ix3 b t k := ⟨j 0, j 1, j 2, by funext a; match a with | ⟨0, _⟩ => rfl | ⟨1, _⟩ => rfl | ⟨2, _⟩ => rfl⟩
  have hk : k = ⟨(⟨k.val / 256, by omega⟩ : Fin 4).val * 256 + (⟨k.val % 256, by omega⟩ : Fin 256).val, by have := k.isLt; show k.val / 256 * 256 + k.val % 256 < 1024; omega⟩ :=
    Fin.ext (by show k.val = k.val / 256 * 256 + k.val % 256; omega)
  rw [hk, ref_e x0 x1 x2 V0 hv0 hv1 hv2 b, arr_e, ker_e x0 x1 x2 m c hm0 hm1 hm2, pb_pt, ph_pt]

end Cert.Same

end
-- ==== Proof.Text.lean ====
module

public import proofs.«01_k».proof.Defs
public import proofs.«01_k».proof.Proof.Gen.Kernel
public import proofs.«01_k».proof.Proof.Value

@[expose] public section

set_option maxRecDepth 16384

noncomputable section

namespace Cert.Proof

open Idealize.ShloMosaic Idealize.ShloMosaic.TcCoe Idealize.SL.Sem

/-- The body of the kernel's call is the idealized program's. -/
theorem body_eq : Cert.Kernel.cc0_retention (F := Bits) = Cert.KernelIdeal.cc0_retention (F := Bits) := rfl

/-- So is the table holding it, label by label. -/
theorem defs₀_eq : Cert.Kernel.defs₀ (F := Bits) = Cert.KernelIdeal.defs₀ (F := Bits) := by
  unfold Cert.Kernel.defs₀ Cert.KernelIdeal.defs₀
  refine congrArg _ (funext fun l => ?_)
  match l with
  | 0 => rfl

/-- And the table with the call's pipeline beside it. -/
theorem defs_eq : Cert.Kernel.defs (F := Bits) = Cert.KernelIdeal.defs (F := Bits) :=
  congrArg (Pipeline.defs (Cert.KernelIdeal.pcfgs (F := Bits))) defs₀_eq

set_option maxHeartbeats 2000000 in
/-- The two launches are the same host operations and the same region. -/
theorem main_eq : Cert.Kernel.main (F := Bits) = Cert.KernelIdeal.main (F := Bits) := by
  unfold Cert.Kernel.main Cert.KernelIdeal.main
  rfl

end Cert.Proof
end
-- ==== Proof.lean ====
module

public import proofs.«01_k».proof.Defs
public import proofs.«01_k».proof.Proof.Gen.Kernel
public import proofs.«01_k».proof.Proof.Gen.Kernel2
public import proofs.«01_k».proof.Proof.Gen.Kernel2.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal.Launch
public import proofs.«01_k».proof.Proof.Gen.Kernel4Ideal.Skeleton
public import proofs.«01_k».proof.Proof.Gen.Reference4Ideal
public import proofs.«01_k».proof.Proof.Gen.Reference4Ideal.Run
public import proofs.«01_k».proof.Proof.Gen.Pre_ranged
public import proofs.«01_k».proof.Proof.ExpertsClaims
public import proofs.«01_k».proof.Proof.MergeRef
public import proofs.«01_k».proof.Proof.Proj
public import proofs.«01_k».proof.Proof.ProjRef
public import proofs.«01_k».proof.Proof.Same
public import proofs.«01_k».proof.Proof.Text

@[expose] public section

noncomputable section

namespace Cert.Proof

open Idealize.ShloMosaic Idealize.ShloMosaic.TcCoe Idealize.SL.Sem

/-- The kernel as written leaves its arguments and every counter as they were: its text is the idealized program's, whose
    run holds over any float values. -/
theorem frame_kernel : Cert.quiescent_Kernel := by
  intro m ρ _
  rw [defs_eq, main_eq]
  exact Cert.KernelIdeal.Ret.frame (F := Bits) m ρ

/-- So does the reference: it writes none of its arguments and declares no semaphore. -/
theorem frame_reference : Cert.quiescent_ReferenceIdeal := fun m ρ _ =>
  (θ_run Cert.ReferenceIdeal.defs _ _).mono (fun r h => ⟨fun c => ⟨(h c).2.1, (h c).2.2.1, (h c).2.2.2⟩, Idealize.ShloMosaic.sem_eq_zero_of_no_sems (by decide) r.2⟩)
    (Cert.ReferenceIdeal.Value.run m ρ)

/-- On arguments whose entries are all real, the kernel and the reference end with the same result. -/
theorem value : Cert.algebraic_KernelIdeal_ReferenceIdeal_pre_finite := by
  intro m ρ m' ρ' hpre hagree
  refine ⟨fun c => (Cert.KernelIdeal.Ret.dats m 0 c).arrAt 9 Cert.KernelIdeal.cfg0.N, Cert.KernelIdeal.Ret.run_blocks m ρ, ?_⟩
  refine (θ_run Cert.ReferenceIdeal.defs _ _).mono (fun r h c => ⟨(h c).1.trans ?_, (h c).2⟩) (Cert.ReferenceIdeal.Value.run m' ρ')
  obtain ⟨h0, h1, h2⟩ := Cert.Pre_finite.real_of_pre _ _ _ (hpre c)
  choose x0 hx0 using h0
  choose x1 hx1 using h1
  choose x2 hx2 using h2
  obtain ⟨a0, a1, a2⟩ := hagree c
  exact (Cert.Same.same x0 x1 x2 m c hx0 hx1 hx2 (Idealize.ShloMosaic.StableHlo.launchContents m' c) (fun i => (congrFun a0 i).trans (hx0 i)) (fun i => (congrFun a1 i).trans (hx1 i))
    (fun i => (congrFun a2 i).trans (hx2 i))).symm

/-- The projection's reference writes none of its arguments and declares no semaphore. -/
theorem frame_reference2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run m ρ)

/-- The projection's kernel and its reference end with the same result. -/
theorem value2 : Cert.algebraic_Kernel2Ideal_Reference2Ideal := by
  intro m ρ m' ρ' _ hagree
  refine ⟨fun c => (Cert.Kernel2Ideal.Gen.dats m 0 c).arrAt 6 Cert.Kernel2Ideal.cfg0.N, Cert.Kernel2Ideal.Value.run_blocks m ρ, ?_⟩
  refine (θ_run Cert.Reference2Ideal.defs _ _).mono (fun r h c => ⟨(h c).1.trans ?_, (h c).2⟩) (Cert.Reference2Ideal.Value.run m' ρ')
  obtain ⟨a0, a1, a2, a3, a4, a5⟩ := hagree c
  refine Eq.trans ?_ (Cert.Reference2Ideal.Proj.same m c).symm
  rw [← a0, ← a1, ← a2, ← a3, ← a4, ← a5]
  rfl

/-- The merge's reference writes none of its arguments and declares no semaphore. -/
theorem frame_reference3 : Cert.quiescent_Reference3Ideal := fun m ρ _ =>
  (θ_run Cert.Reference3Ideal.defs _ _).mono (fun r h => ⟨fun c => (h c).2.2, Idealize.ShloMosaic.sem_eq_zero_of_no_sems (by decide) r.2⟩)
    (Cert.Reference3Ideal.Value.run m ρ)

/-- The merge's kernel and its reference end with the same two results. -/
theorem value3 : Cert.algebraic_Kernel3Ideal_Reference3Ideal := by
  intro m ρ m' ρ' _ hagree
  refine ⟨fun c => (Cert.Kernel3Ideal.Gen.dats m 0 c).arrAt 17 Cert.Kernel3Ideal.cfg0.N, fun c => (Cert.Kernel3Ideal.Gen.dats m 0 c).arrAt 18 Cert.Kernel3Ideal.cfg0.N,
    (θ_run Cert.Kernel3Ideal.defs _ _).mono (fun r h c => ⟨(h c).1, (h c).2.1, (h c).2.2.2.2.2⟩) (Cert.Kernel3Ideal.Value.run_blocks m ρ), ?_⟩
  refine (θ_run Cert.Reference3Ideal.defs _ _).mono (fun r h c => ⟨(h c).1.trans ?_, (h c).2.1.trans ?_, (h c).2.2⟩) (Cert.Reference3Ideal.Value.run m' ρ')
  · obtain ⟨a0, a1, a2, a3, a4, a5, a6, a7, a8, a9, a10, a11, a12, a13, a14⟩ := hagree c
    refine Eq.trans ?_ (Cert.Reference3Ideal.Merge.same_x1 m c).symm
    rw [← a0, ← a1, ← a2, ← a3, ← a4, ← a8, ← a9, ← a10]
    rfl
  · obtain ⟨a0, a1, a2, a3, a4, a5, a6, a7, a8, a9, a10, a11, a12, a13, a14⟩ := hagree c
    refine Eq.trans ?_ (Cert.Reference3Ideal.Merge.same_h2 m c).symm
    rw [← a0, ← a1, ← a2, ← a3, ← a4, ← a5, ← a6, ← a7, ← a8, ← a9, ← a10]
    rfl

/-- The experts' kernel as written, its tables in range, leaves its arguments and every counter as they were. -/
theorem frame_kernel4 : Cert.quiescent_Kernel4 := by
  intro m ρ h
  rw [Cert.Kernel4Ideal.Exp.defs_eq, Cert.Kernel4Ideal.Exp.main_eq]
  exact Cert.Kernel4Ideal.Exp.frame (F := Bits) m ρ h

/-- The experts' reference writes none of its arguments and declares no semaphore. -/
theorem frame_reference4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run m ρ)

/-- On tables in range, the experts' kernel and its reference end with the same result. -/
theorem value4 : Cert.algebraic_Kernel4Ideal_Reference4Ideal := by
  intro m ρ m' ρ' hpre hagree
  have h : Cert.Kernel4Ideal.Exp.InRange m := hpre
  refine ⟨fun c => (Cert.Kernel4Ideal.Exp.dats (Cert.Kernel4Ideal.Exp.tbls m) (Cert.Kernel4Ideal.Exp.ok_m m h) m ρ 0 c).arrAt (4 : Fin 5) (Cert.Kernel4Ideal.Exp.cfgA (Cert.Kernel4Ideal.Exp.tbls m) (Cert.Kernel4Ideal.Exp.ok_m m h)).N,
    (θ_run Cert.Kernel4Ideal.defs _ _).mono (fun r h => h.1) (Cert.Kernel4Ideal.Exp.run_blocks (Cert.Kernel4Ideal.Exp.tbls m) (Cert.Kernel4Ideal.Exp.ok_m m h) m ρ (Cert.Kernel4Ideal.Exp.tbls_at m)), ?_⟩
  refine (θ_run Cert.Reference4Ideal.defs _ _).mono (fun r h' c => ⟨(h' c).1.trans ?_, (h' c).2⟩) (Cert.Reference4Ideal.Value.run m' ρ')
  obtain ⟨a0, a1, a2, a3, a4, a5⟩ := hagree c
  refine (Cert.Reference4Ideal.Exp.res_eq m' c).trans (Eq.trans ?_ (Cert.Kernel4Ideal.Exp.same m ρ c h).symm)
  rw [a0, a1, a2, a3, a4, a5]
  exact congrArg₂ (fun x y => Cert.Reference4Ideal.Exp.refOut x y _ _ _ _) (Cert.Kernel4Ideal.Exp.tbls_at m c 0) (Cert.Kernel4Ideal.Exp.tbls_at m c 1)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.preFacts, Cert.Pre_ranged.Gen.facts,
  frame_kernel, fun m ρ _ => Cert.KernelIdeal.Ret.frame m ρ, fun m ρ _ => Cert.KernelIdeal.Ret.frame m ρ, frame_reference,
  fun m ρ _ => frame_reference m ρ trivial, fun m ρ _ => Cert.Kernel2.Gen.frame m ρ, fun m ρ _ => Cert.Kernel2Ideal.Gen.frame m ρ,
  frame_reference2, fun m ρ _ => Cert.Kernel3.Gen.frame m ρ, fun m ρ _ => Cert.Kernel3Ideal.Gen.frame m ρ,
  frame_reference3, frame_kernel4, fun m ρ h => Cert.Kernel4Ideal.Exp.frame m ρ h, frame_reference4, fun m ρ _ => frame_reference4 m ρ trivial,
  trivial, value, trivial, value2, trivial, value3, trivial, value4⟩

end Cert.Proof

end
